-- ==== Defs.lean ====
def Pre_AttnP [hPre_attn_prompt_from_start : Cert.Pre_attn_prompt_from_start.Facts] (m : (ℓ : Loc Cert.AttnP.nD Cert.AttnP.τ Cert.AttnP.sig) → Buf (Elt Bits) ℓ) : Prop :=
  ∀ c : Dev Cert.AttnP.nD,
    (Cert.Pre_attn_prompt_from_start.fn (F := Bits) (m ((c.tc : Thread Cert.AttnP.nD Cert.AttnP.τ).loc Cert.AttnP.main_arg0)) (m ((c.tc : Thread Cert.AttnP.nD Cert.AttnP.τ).loc Cert.AttnP.main_arg1)) (m ((c.tc : Thread Cert.AttnP.nD Cert.AttnP.τ).loc Cert.AttnP.main_arg2)) (m ((c.tc : Thread Cert.AttnP.nD Cert.AttnP.τ).loc Cert.AttnP.main_arg3)) (m ((c.tc : Thread Cert.AttnP.nD Cert.AttnP.τ).loc Cert.AttnP.main_arg4)) (m ((c.tc : Thread Cert.AttnP.nD Cert.AttnP.τ).loc Cert.AttnP.main_arg5))) = (fun _ => 1#1)

def Pre_AttnPIdeal [hPre_attn_prompt_from_start : Cert.Pre_attn_prompt_from_start.Facts] (m : (ℓ : Loc Cert.AttnPIdeal.nD Cert.AttnPIdeal.τ Cert.AttnPIdeal.sig) → Buf (Elt Ideal) ℓ) : Prop :=
  ∀ c : Dev Cert.AttnPIdeal.nD,
    (Cert.Pre_attn_prompt_from_start.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2)) (m ((c.tc : Thread Cert.AttnPIdeal.nD Cert.AttnPIdeal.τ).loc Cert.AttnPIdeal.main_arg3)) (m ((c.tc : Thread Cert.AttnPIdeal.nD Cert.AttnPIdeal.τ).loc Cert.AttnPIdeal.main_arg4)) (m ((c.tc : Thread Cert.AttnPIdeal.nD Cert.AttnPIdeal.τ).loc Cert.AttnPIdeal.main_arg5))) = (fun _ => 1#1)

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSIdeal_attn_sample_finite [hPre_attn_sample_finite : Cert.Pre_attn_sample_finite.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_attn_sample_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5))).1 = (fun _ => 1#1)
    ∧ (Cert.Pre_attn_sample_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5))).2.1 = (fun _ => 1#1)
    ∧ (Cert.Pre_attn_sample_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5))).2.2.1 = (fun _ => 1#1)
    ∧ (Cert.Pre_attn_sample_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5))).2.2.2 = (fun _ => 1#1)

def Pre_AttnSRefIdeal (m : (ℓ : Loc Cert.AttnSRefIdeal.nD Cert.AttnSRefIdeal.τ Cert.AttnSRefIdeal.sig) → Buf (Elt Ideal) ℓ) : Prop :=
  True

def Pre_AttnSRefIdeal_attn_sample_finite [hPre_attn_sample_finite : Cert.Pre_attn_sample_finite.Facts] (m : (ℓ : Loc Cert.AttnSRefIdeal.nD Cert.AttnSRefIdeal.τ Cert.AttnSRefIdeal.sig) → Buf (Elt Ideal) ℓ) : Prop :=
  ∀ c : Dev Cert.AttnSRefIdeal.nD,
    (Cert.Pre_attn_sample_finite.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4)) (m ((c.tc : Thread Cert.AttnSRefIdeal.nD Cert.AttnSRefIdeal.τ).loc Cert.AttnSRefIdeal.main_arg5))).1 = (fun _ => 1#1)
    ∧ (Cert.Pre_attn_sample_finite.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4)) (m ((c.tc : Thread Cert.AttnSRefIdeal.nD Cert.AttnSRefIdeal.τ).loc Cert.AttnSRefIdeal.main_arg5))).2.1 = (fun _ => 1#1)
    ∧ (Cert.Pre_attn_sample_finite.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4)) (m ((c.tc : Thread Cert.AttnSRefIdeal.nD Cert.AttnSRefIdeal.τ).loc Cert.AttnSRefIdeal.main_arg5))).2.2.1 = (fun _ => 1#1)
    ∧ (Cert.Pre_attn_sample_finite.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4)) (m ((c.tc : Thread Cert.AttnSRefIdeal.nD Cert.AttnSRefIdeal.τ).loc Cert.AttnSRefIdeal.main_arg5))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_CastW (m : (ℓ : Loc Cert.CastW.nD Cert.CastW.τ Cert.CastW.sig) → Buf (Elt Bits) ℓ) : Prop :=
  True

def Pre_CastWIdeal (m : (ℓ : Loc Cert.CastWIdeal.nD Cert.CastWIdeal.τ Cert.CastWIdeal.sig) → Buf (Elt Ideal) ℓ) : Prop :=
  True

def Pre_CastWRefIdeal (m : (ℓ : Loc Cert.CastWRefIdeal.nD Cert.CastWRefIdeal.τ Cert.CastWRefIdeal.sig) → Buf (Elt Ideal) ℓ) : Prop :=
  True

def Pre_CumS (m : (ℓ : Loc Cert.CumS.nD Cert.CumS.τ Cert.CumS.sig) → Buf (Elt Bits) ℓ) : Prop :=
  True

def Pre_CumSIdeal (m : (ℓ : Loc Cert.CumSIdeal.nD Cert.CumSIdeal.τ Cert.CumSIdeal.sig) → Buf (Elt Ideal) ℓ) : Prop :=
  True

def Pre_CumSIdeal_gates_below_infinity [hPre_gates_below_infinity : Cert.Pre_gates_below_infinity.Facts] (m : (ℓ : Loc Cert.CumSIdeal.nD Cert.CumSIdeal.τ Cert.CumSIdeal.sig) → Buf (Elt Ideal) ℓ) : Prop :=
  ∀ c : Dev Cert.CumSIdeal.nD,
    (Cert.Pre_gates_below_infinity.fn (F := Ideal) (m ((c.tc : Thread Cert.CumSIdeal.nD Cert.CumSIdeal.τ).loc Cert.CumSIdeal.main_arg0))) = (fun _ => 1#1)

def Pre_CumSRefIdeal (m : (ℓ : Loc Cert.CumSRefIdeal.nD Cert.CumSRefIdeal.τ Cert.CumSRefIdeal.sig) → Buf (Elt Ideal) ℓ) : Prop :=
  True

def Pre_CumSRefIdeal_gates_below_infinity [hPre_gates_below_infinity : Cert.Pre_gates_below_infinity.Facts] (m : (ℓ : Loc Cert.CumSRefIdeal.nD Cert.CumSRefIdeal.τ Cert.CumSRefIdeal.sig) → Buf (Elt Ideal) ℓ) : Prop :=
  ∀ c : Dev Cert.CumSRefIdeal.nD,
    (Cert.Pre_gates_below_infinity.fn (F := Ideal) (m ((c.tc : Thread Cert.CumSRefIdeal.nD Cert.CumSRefIdeal.τ).loc Cert.CumSRefIdeal.main_arg0))) = (fun _ => 1#1)

def quiescent_AttnP [hAttnP : Cert.AttnP.Facts] [hPre_attn_prompt_from_start : Cert.Pre_attn_prompt_from_start.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2)
      ∧ r.2.mem ((c.tc : Thread Cert.AttnP.nD Cert.AttnP.τ).loc Cert.AttnP.main_arg3) = m ((c.tc : Thread Cert.AttnP.nD Cert.AttnP.τ).loc Cert.AttnP.main_arg3)
      ∧ r.2.mem ((c.tc : Thread Cert.AttnP.nD Cert.AttnP.τ).loc Cert.AttnP.main_arg4) = m ((c.tc : Thread Cert.AttnP.nD Cert.AttnP.τ).loc Cert.AttnP.main_arg4)
      ∧ r.2.mem ((c.tc : Thread Cert.AttnP.nD Cert.AttnP.τ).loc Cert.AttnP.main_arg5) = m ((c.tc : Thread Cert.AttnP.nD Cert.AttnP.τ).loc Cert.AttnP.main_arg5))
      ∧ r.2.sem = fun _ => 0)

def quiescent_AttnPIdeal [hAttnPIdeal : Cert.AttnPIdeal.Facts] [hPre_attn_prompt_from_start : Cert.Pre_attn_prompt_from_start.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
      ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3)
      ∧ r.2.mem ((c.tc : Thread Cert.AttnPIdeal.nD Cert.AttnPIdeal.τ).loc Cert.AttnPIdeal.main_arg4) = m ((c.tc : Thread Cert.AttnPIdeal.nD Cert.AttnPIdeal.τ).loc Cert.AttnPIdeal.main_arg4)
      ∧ r.2.mem ((c.tc : Thread Cert.AttnPIdeal.nD Cert.AttnPIdeal.τ).loc Cert.AttnPIdeal.main_arg5) = m ((c.tc : Thread Cert.AttnPIdeal.nD Cert.AttnPIdeal.τ).loc Cert.AttnPIdeal.main_arg5))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4)
      ∧ r.2.mem ((c.tc : Thread Cert.AttnS.nD Cert.AttnS.τ).loc Cert.AttnS.main_arg5) = m ((c.tc : Thread Cert.AttnS.nD Cert.AttnS.τ).loc Cert.AttnS.main_arg5))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5))
      ∧ r.2.sem = fun _ => 0)

def quiescent_AttnSIdeal_pre_attn_sample_finite [hAttnSIdeal : Cert.AttnSIdeal.Facts] [hPre_attn_sample_finite : Cert.Pre_attn_sample_finite.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal_attn_sample_finite m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5))
      ∧ r.2.sem = fun _ => 0)

def quiescent_AttnSRefIdeal_pre_attn_sample_finite [hAttnSRefIdeal : Cert.AttnSRefIdeal.Facts] [hPre_attn_sample_finite : Cert.Pre_attn_sample_finite.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal_attn_sample_finite m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3)
      ∧ r.2.mem ((c.tc : Thread Cert.InProjS.nD Cert.InProjS.τ).loc Cert.InProjS.main_arg4) = m ((c.tc : Thread Cert.InProjS.nD Cert.InProjS.τ).loc Cert.InProjS.main_arg4)
      ∧ r.2.mem ((c.tc : Thread Cert.InProjS.nD Cert.InProjS.τ).loc Cert.InProjS.main_arg5) = m ((c.tc : Thread Cert.InProjS.nD Cert.InProjS.τ).loc Cert.InProjS.main_arg5)
      ∧ r.2.mem ((c.tc : Thread Cert.InProjS.nD Cert.InProjS.τ).loc Cert.InProjS.main_arg6) = m ((c.tc : Thread Cert.InProjS.nD Cert.InProjS.τ).loc Cert.InProjS.main_arg6))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
      ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
      ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
      ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3)
      ∧ r.2.mem ((c.tc : Thread Cert.InProjSRefIdeal.nD Cert.InProjSRefIdeal.τ).loc Cert.InProjSRefIdeal.main_arg4) = m ((c.tc : Thread Cert.InProjSRefIdeal.nD Cert.InProjSRefIdeal.τ).loc Cert.InProjSRefIdeal.main_arg4)
      ∧ r.2.mem ((c.tc : Thread Cert.InProjSRefIdeal.nD Cert.InProjSRefIdeal.τ).loc Cert.InProjSRefIdeal.main_arg5) = m ((c.tc : Thread Cert.InProjSRefIdeal.nD Cert.InProjSRefIdeal.τ).loc Cert.InProjSRefIdeal.main_arg5)
      ∧ r.2.mem ((c.tc : Thread Cert.InProjSRefIdeal.nD Cert.InProjSRefIdeal.τ).loc Cert.InProjSRefIdeal.main_arg6) = m ((c.tc : Thread Cert.InProjSRefIdeal.nD Cert.InProjSRefIdeal.τ).loc Cert.InProjSRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_CastW [hCastW : Cert.CastW.Facts] : Prop :=
  ∀ (m : (ℓ : Loc Cert.CastW.nD Cert.CastW.τ Cert.CastW.sig) → Buf (Elt Bits) ℓ) (g : Dev Cert.CastW.nD → PrngReg), Pre_CastW m →
    θ_run (Cert.CastW.defs (F := Bits)) (onTc (τ := Cert.CastW.τ) (Cert.CastW.main (F := Bits))) ⟨m, fun _ => 0, g⟩ (fun r => (∀ c : Dev Cert.CastW.nD,
      r.2.mem ((c.tc : Thread Cert.CastW.nD Cert.CastW.τ).loc Cert.CastW.main_arg0) = m ((c.tc : Thread Cert.CastW.nD Cert.CastW.τ).loc Cert.CastW.main_arg0))
      ∧ r.2.sem = fun _ => 0)

def quiescent_CastWIdeal [hCastWIdeal : Cert.CastWIdeal.Facts] : Prop :=
  ∀ (m : (ℓ : Loc Cert.CastWIdeal.nD Cert.CastWIdeal.τ Cert.CastWIdeal.sig) → Buf (Elt Ideal) ℓ) (g : Dev Cert.CastWIdeal.nD → PrngReg), Pre_CastWIdeal m →
    θ_run (Cert.CastWIdeal.defs (F := Ideal)) (onTc (τ := Cert.CastWIdeal.τ) (Cert.CastWIdeal.main (F := Ideal))) ⟨m, fun _ => 0, g⟩ (fun r => (∀ c : Dev Cert.CastWIdeal.nD,
      r.2.mem ((c.tc : Thread Cert.CastWIdeal.nD Cert.CastWIdeal.τ).loc Cert.CastWIdeal.main_arg0) = m ((c.tc : Thread Cert.CastWIdeal.nD Cert.CastWIdeal.τ).loc Cert.CastWIdeal.main_arg0))
      ∧ r.2.sem = fun _ => 0)

def quiescent_CastWRefIdeal [hCastWRefIdeal : Cert.CastWRefIdeal.Facts] : Prop :=
  ∀ (m : (ℓ : Loc Cert.CastWRefIdeal.nD Cert.CastWRefIdeal.τ Cert.CastWRefIdeal.sig) → Buf (Elt Ideal) ℓ) (g : Dev Cert.CastWRefIdeal.nD → PrngReg), Pre_CastWRefIdeal m →
    θ_run (Cert.CastWRefIdeal.defs (F := Ideal)) (onTc (τ := Cert.CastWRefIdeal.τ) (Cert.CastWRefIdeal.main (F := Ideal))) ⟨m, fun _ => 0, g⟩ (fun r => (∀ c : Dev Cert.CastWRefIdeal.nD,
      r.2.mem ((c.tc : Thread Cert.CastWRefIdeal.nD Cert.CastWRefIdeal.τ).loc Cert.CastWRefIdeal.main_arg0) = m ((c.tc : Thread Cert.CastWRefIdeal.nD Cert.CastWRefIdeal.τ).loc Cert.CastWRefIdeal.main_arg0))
      ∧ r.2.sem = fun _ => 0)

def quiescent_CumS [hCumS : Cert.CumS.Facts] : Prop :=
  ∀ (m : (ℓ : Loc Cert.CumS.nD Cert.CumS.τ Cert.CumS.sig) → Buf (Elt Bits) ℓ) (g : Dev Cert.CumS.nD → PrngReg), Pre_CumS m →
    θ_run (Cert.CumS.defs (F := Bits)) (onTc (τ := Cert.CumS.τ) (Cert.CumS.main (F := Bits))) ⟨m, fun _ => 0, g⟩ (fun r => (∀ c : Dev Cert.CumS.nD,
      r.2.mem ((c.tc : Thread Cert.CumS.nD Cert.CumS.τ).loc Cert.CumS.main_arg0) = m ((c.tc : Thread Cert.CumS.nD Cert.CumS.τ).loc Cert.CumS.main_arg0))
      ∧ r.2.sem = fun _ => 0)

def quiescent_CumSIdeal [hCumSIdeal : Cert.CumSIdeal.Facts] : Prop :=
  ∀ (m : (ℓ : Loc Cert.CumSIdeal.nD Cert.CumSIdeal.τ Cert.CumSIdeal.sig) → Buf (Elt Ideal) ℓ) (g : Dev Cert.CumSIdeal.nD → PrngReg), Pre_CumSIdeal m →
    θ_run (Cert.CumSIdeal.defs (F := Ideal)) (onTc (τ := Cert.CumSIdeal.τ) (Cert.CumSIdeal.main (F := Ideal))) ⟨m, fun _ => 0, g⟩ (fun r => (∀ c : Dev Cert.CumSIdeal.nD,
      r.2.mem ((c.tc : Thread Cert.CumSIdeal.nD Cert.CumSIdeal.τ).loc Cert.CumSIdeal.main_arg0) = m ((c.tc : Thread Cert.CumSIdeal.nD Cert.CumSIdeal.τ).loc Cert.CumSIdeal.main_arg0))
      ∧ r.2.sem = fun _ => 0)

def quiescent_CumSIdeal_pre_gates_below_infinity [hCumSIdeal : Cert.CumSIdeal.Facts] [hPre_gates_below_infinity : Cert.Pre_gates_below_infinity.Facts] : Prop :=
  ∀ (m : (ℓ : Loc Cert.CumSIdeal.nD Cert.CumSIdeal.τ Cert.CumSIdeal.sig) → Buf (Elt Ideal) ℓ) (g : Dev Cert.CumSIdeal.nD → PrngReg), Pre_CumSIdeal_gates_below_infinity m →
    θ_run (Cert.CumSIdeal.defs (F := Ideal)) (onTc (τ := Cert.CumSIdeal.τ) (Cert.CumSIdeal.main (F := Ideal))) ⟨m, fun _ => 0, g⟩ (fun r => (∀ c : Dev Cert.CumSIdeal.nD,
      r.2.mem ((c.tc : Thread Cert.CumSIdeal.nD Cert.CumSIdeal.τ).loc Cert.CumSIdeal.main_arg0) = m ((c.tc : Thread Cert.CumSIdeal.nD Cert.CumSIdeal.τ).loc Cert.CumSIdeal.main_arg0))
      ∧ r.2.sem = fun _ => 0)

def quiescent_CumSRefIdeal [hCumSRefIdeal : Cert.CumSRefIdeal.Facts] : Prop :=
  ∀ (m : (ℓ : Loc Cert.CumSRefIdeal.nD Cert.CumSRefIdeal.τ Cert.CumSRefIdeal.sig) → Buf (Elt Ideal) ℓ) (g : Dev Cert.CumSRefIdeal.nD → PrngReg), Pre_CumSRefIdeal m →
    θ_run (Cert.CumSRefIdeal.defs (F := Ideal)) (onTc (τ := Cert.CumSRefIdeal.τ) (Cert.CumSRefIdeal.main (F := Ideal))) ⟨m, fun _ => 0, g⟩ (fun r => (∀ c : Dev Cert.CumSRefIdeal.nD,
      r.2.mem ((c.tc : Thread Cert.CumSRefIdeal.nD Cert.CumSRefIdeal.τ).loc Cert.CumSRefIdeal.main_arg0) = m ((c.tc : Thread Cert.CumSRefIdeal.nD Cert.CumSRefIdeal.τ).loc Cert.CumSRefIdeal.main_arg0))
      ∧ r.2.sem = fun _ => 0)

def quiescent_CumSRefIdeal_pre_gates_below_infinity [hCumSRefIdeal : Cert.CumSRefIdeal.Facts] [hPre_gates_below_infinity : Cert.Pre_gates_below_infinity.Facts] : Prop :=
  ∀ (m : (ℓ : Loc Cert.CumSRefIdeal.nD Cert.CumSRefIdeal.τ Cert.CumSRefIdeal.sig) → Buf (Elt Ideal) ℓ) (g : Dev Cert.CumSRefIdeal.nD → PrngReg), Pre_CumSRefIdeal_gates_below_infinity m →
    θ_run (Cert.CumSRefIdeal.defs (F := Ideal)) (onTc (τ := Cert.CumSRefIdeal.τ) (Cert.CumSRefIdeal.main (F := Ideal))) ⟨m, fun _ => 0, g⟩ (fun r => (∀ c : Dev Cert.CumSRefIdeal.nD,
      r.2.mem ((c.tc : Thread Cert.CumSRefIdeal.nD Cert.CumSRefIdeal.τ).loc Cert.CumSRefIdeal.main_arg0) = m ((c.tc : Thread Cert.CumSRefIdeal.nD Cert.CumSRefIdeal.τ).loc Cert.CumSRefIdeal.main_arg0))
      ∧ r.2.sem = fun _ => 0)

def preserves_AttnP_AttnPIdeal : Prop :=
  IdealRules.named_const.Statement Cert.AttnPIdeal.κ "mask" .f32 0xF149F2CA#32 ⊥

def preserves_AttnS_AttnSIdeal : Prop :=
  IdealRules.named_const.Statement Cert.AttnSIdeal.κ "mask" .f32 0xF149F2CA#32 ⊥

def algebraic_AttnSIdeal_AttnSRefIdeal_pre_attn_sample_finite [hAttnSIdeal : Cert.AttnSIdeal.Facts] [hAttnSRefIdeal : Cert.AttnSRefIdeal.Facts] [hPre_attn_sample_finite : Cert.Pre_attn_sample_finite.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal_attn_sample_finite m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)
      ∧ m' ((c.tc : Thread Cert.AttnSRefIdeal.nD Cert.AttnSRefIdeal.τ).loc Cert.AttnSRefIdeal.main_arg5) = m ((c.tc : Thread Cert.AttnSIdeal.nD Cert.AttnSIdeal.τ).loc Cert.AttnSIdeal.main_arg5)) →
    ∃ (v0 : (c : Dev Cert.AttnSIdeal.nD) → Buf (Elt Ideal) ((c.tc : Thread Cert.AttnSIdeal.nD Cert.AttnSIdeal.τ).loc Cert.AttnSIdeal.main_v2)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v2) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
          ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v44) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4)
          ∧ r.2.mem ((c.tc : Thread Cert.AttnSRefIdeal.nD Cert.AttnSRefIdeal.τ).loc Cert.AttnSRefIdeal.main_arg5) = m' ((c.tc : Thread Cert.AttnSRefIdeal.nD Cert.AttnSRefIdeal.τ).loc Cert.AttnSRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v5) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_InProj_InProjIdeal : Prop :=
  IdealRules.named_const.Statement Cert.InProjIdeal.κ "scale" .f32 0x3E0293EE#32 (((Real.sqrt 128)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v67) = v1 c
          ∧ r.2.mem ((c.tc : Thread Cert.InProjRefIdeal.nD Cert.InProjRefIdeal.τ).loc Cert.InProjRefIdeal.main_v66) = v2 c
          ∧ r.2.mem ((c.tc : Thread Cert.InProjRefIdeal.nD Cert.InProjRefIdeal.τ).loc Cert.InProjRefIdeal.main_v68) = v3 c
          ∧ r.2.mem ((c.tc : Thread Cert.InProjRefIdeal.nD Cert.InProjRefIdeal.τ).loc Cert.InProjRefIdeal.main_v53) = v4 c
          ∧ r.2.mem ((c.tc : Thread Cert.InProjRefIdeal.nD Cert.InProjRefIdeal.τ).loc Cert.InProjRefIdeal.main_v69) = v5 c
          ∧ r.2.mem ((c.tc : Thread Cert.InProjRefIdeal.nD Cert.InProjRefIdeal.τ).loc Cert.InProjRefIdeal.main_v70) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_InProjS_InProjSIdeal : Prop :=
  IdealRules.named_const.Statement Cert.InProjSIdeal.κ "scale" .f32 0x3E0293EE#32 (((Real.sqrt 128)⁻¹ * (Real.log 2)⁻¹ : ℝ) : EReal)

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)
      ∧ m' ((c.tc : Thread Cert.InProjSRefIdeal.nD Cert.InProjSRefIdeal.τ).loc Cert.InProjSRefIdeal.main_arg3) = m ((c.tc : Thread Cert.InProjSIdeal.nD Cert.InProjSIdeal.τ).loc Cert.InProjSIdeal.main_arg3)
      ∧ m' ((c.tc : Thread Cert.InProjSRefIdeal.nD Cert.InProjSRefIdeal.τ).loc Cert.InProjSRefIdeal.main_arg4) = m ((c.tc : Thread Cert.InProjSIdeal.nD Cert.InProjSIdeal.τ).loc Cert.InProjSIdeal.main_arg4)
      ∧ m' ((c.tc : Thread Cert.InProjSRefIdeal.nD Cert.InProjSRefIdeal.τ).loc Cert.InProjSRefIdeal.main_arg5) = m ((c.tc : Thread Cert.InProjSIdeal.nD Cert.InProjSIdeal.τ).loc Cert.InProjSIdeal.main_arg5)
      ∧ m' ((c.tc : Thread Cert.InProjSRefIdeal.nD Cert.InProjSRefIdeal.τ).loc Cert.InProjSRefIdeal.main_arg6) = m ((c.tc : Thread Cert.InProjSIdeal.nD Cert.InProjSIdeal.τ).loc Cert.InProjSIdeal.main_arg6)) →
    ∃ (v0 : (c : Dev Cert.InProjSIdeal.nD) → Buf (Elt Ideal) ((c.tc : Thread Cert.InProjSIdeal.nD Cert.InProjSIdeal.τ).loc Cert.InProjSIdeal.main_v0_0)) (v1 : (c : Dev Cert.InProjSIdeal.nD) → Buf (Elt Ideal) ((c.tc : Thread Cert.InProjSIdeal.nD Cert.InProjSIdeal.τ).loc Cert.InProjSIdeal.main_v0_1)) (v2 : (c : Dev Cert.InProjSIdeal.nD) → Buf (Elt Ideal) ((c.tc : Thread Cert.InProjSIdeal.nD Cert.InProjSIdeal.τ).loc Cert.InProjSIdeal.main_v0_2)) (v3 : (c : Dev Cert.InProjSIdeal.nD) → Buf (Elt Ideal) ((c.tc : Thread Cert.InProjSIdeal.nD Cert.InProjSIdeal.τ).loc Cert.InProjSIdeal.main_v0_3)) (v4 : (c : Dev Cert.InProjSIdeal.nD) → Buf (Elt Ideal) ((c.tc : Thread Cert.InProjSIdeal.nD Cert.InProjSIdeal.τ).loc Cert.InProjSIdeal.main_v0_4)) (v5 : (c : Dev Cert.InProjSIdeal.nD) → Buf (Elt Ideal) ((c.tc : Thread Cert.InProjSIdeal.nD Cert.InProjSIdeal.τ).loc Cert.InProjSIdeal.main_v0_5)) (v6 : (c : Dev Cert.InProjSIdeal.nD) → Buf (Elt Ideal) ((c.tc : Thread Cert.InProjSIdeal.nD Cert.InProjSIdeal.τ).loc Cert.InProjSIdeal.main_v0_6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v0_0) = v0 c
          ∧ r.2.mem ((c.tc : Thread Cert.InProjSIdeal.nD Cert.InProjSIdeal.τ).loc Cert.InProjSIdeal.main_v0_1) = v1 c
          ∧ r.2.mem ((c.tc : Thread Cert.InProjSIdeal.nD Cert.InProjSIdeal.τ).loc Cert.InProjSIdeal.main_v0_2) = v2 c
          ∧ r.2.mem ((c.tc : Thread Cert.InProjSIdeal.nD Cert.InProjSIdeal.τ).loc Cert.InProjSIdeal.main_v0_3) = v3 c
          ∧ r.2.mem ((c.tc : Thread Cert.InProjSIdeal.nD Cert.InProjSIdeal.τ).loc Cert.InProjSIdeal.main_v0_4) = v4 c
          ∧ r.2.mem ((c.tc : Thread Cert.InProjSIdeal.nD Cert.InProjSIdeal.τ).loc Cert.InProjSIdeal.main_v0_5) = v5 c
          ∧ r.2.mem ((c.tc : Thread Cert.InProjSIdeal.nD Cert.InProjSIdeal.τ).loc Cert.InProjSIdeal.main_v0_6) = v6 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
          ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
          ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
          ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v20) = v0 c
          ∧ r.2.mem ((c.tc : Thread Cert.InProjSRefIdeal.nD Cert.InProjSRefIdeal.τ).loc Cert.InProjSRefIdeal.main_v67) = v1 c
          ∧ r.2.mem ((c.tc : Thread Cert.InProjSRefIdeal.nD Cert.InProjSRefIdeal.τ).loc Cert.InProjSRefIdeal.main_v66) = v2 c
          ∧ r.2.mem ((c.tc : Thread Cert.InProjSRefIdeal.nD Cert.InProjSRefIdeal.τ).loc Cert.InProjSRefIdeal.main_v68) = v3 c
          ∧ r.2.mem ((c.tc : Thread Cert.InProjSRefIdeal.nD Cert.InProjSRefIdeal.τ).loc Cert.InProjSRefIdeal.main_v53) = v4 c
          ∧ r.2.mem ((c.tc : Thread Cert.InProjSRefIdeal.nD Cert.InProjSRefIdeal.τ).loc Cert.InProjSRefIdeal.main_v69) = v5 c
          ∧ r.2.mem ((c.tc : Thread Cert.InProjSRefIdeal.nD Cert.InProjSRefIdeal.τ).loc Cert.InProjSRefIdeal.main_v70) = v6 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2)
          ∧ r.2.mem ((c.tc : Thread Cert.InProjSRefIdeal.nD Cert.InProjSRefIdeal.τ).loc Cert.InProjSRefIdeal.main_arg3) = m' ((c.tc : Thread Cert.InProjSRefIdeal.nD Cert.InProjSRefIdeal.τ).loc Cert.InProjSRefIdeal.main_arg3)
          ∧ r.2.mem ((c.tc : Thread Cert.InProjSRefIdeal.nD Cert.InProjSRefIdeal.τ).loc Cert.InProjSRefIdeal.main_arg4) = m' ((c.tc : Thread Cert.InProjSRefIdeal.nD Cert.InProjSRefIdeal.τ).loc Cert.InProjSRefIdeal.main_arg4)
          ∧ r.2.mem ((c.tc : Thread Cert.InProjSRefIdeal.nD Cert.InProjSRefIdeal.τ).loc Cert.InProjSRefIdeal.main_arg5) = m' ((c.tc : Thread Cert.InProjSRefIdeal.nD Cert.InProjSRefIdeal.τ).loc Cert.InProjSRefIdeal.main_arg5)
          ∧ r.2.mem ((c.tc : Thread Cert.InProjSRefIdeal.nD Cert.InProjSRefIdeal.τ).loc Cert.InProjSRefIdeal.main_arg6) = m' ((c.tc : Thread Cert.InProjSRefIdeal.nD Cert.InProjSRefIdeal.τ).loc Cert.InProjSRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v54) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_CastW_CastWIdeal : Prop :=
  True

def algebraic_CastWIdeal_CastWRefIdeal [hCastWIdeal : Cert.CastWIdeal.Facts] [hCastWRefIdeal : Cert.CastWRefIdeal.Facts] : Prop :=
  ∀ (m : (ℓ : Loc Cert.CastWIdeal.nD Cert.CastWIdeal.τ Cert.CastWIdeal.sig) → Buf (Elt Ideal) ℓ) (g : Dev Cert.CastWIdeal.nD → PrngReg)
    (m' : (ℓ : Loc Cert.CastWRefIdeal.nD Cert.CastWRefIdeal.τ Cert.CastWRefIdeal.sig) → Buf (Elt Ideal) ℓ) (g' : Dev Cert.CastWRefIdeal.nD → PrngReg), Pre_CastWIdeal m →
    (∀ c : Dev Cert.CastWIdeal.nD,
      m' ((c.tc : Thread Cert.CastWRefIdeal.nD Cert.CastWRefIdeal.τ).loc Cert.CastWRefIdeal.main_arg0) = m ((c.tc : Thread Cert.CastWIdeal.nD Cert.CastWIdeal.τ).loc Cert.CastWIdeal.main_arg0)) →
    ∃ (v0 : (c : Dev Cert.CastWIdeal.nD) → Buf (Elt Ideal) ((c.tc : Thread Cert.CastWIdeal.nD Cert.CastWIdeal.τ).loc Cert.CastWIdeal.main_v1_0)) (v1 : (c : Dev Cert.CastWIdeal.nD) → Buf (Elt Ideal) ((c.tc : Thread Cert.CastWIdeal.nD Cert.CastWIdeal.τ).loc Cert.CastWIdeal.main_v1_1)),
      θ_run (Cert.CastWIdeal.defs (F := Ideal)) (onTc (τ := Cert.CastWIdeal.τ) (Cert.CastWIdeal.main (F := Ideal))) ⟨m, fun _ => 0, g⟩ (fun r => ∀ c : Dev Cert.CastWIdeal.nD,
          r.2.mem ((c.tc : Thread Cert.CastWIdeal.nD Cert.CastWIdeal.τ).loc Cert.CastWIdeal.main_v1_0) = v0 c
          ∧ r.2.mem ((c.tc : Thread Cert.CastWIdeal.nD Cert.CastWIdeal.τ).loc Cert.CastWIdeal.main_v1_1) = v1 c
          ∧ r.2.mem ((c.tc : Thread Cert.CastWIdeal.nD Cert.CastWIdeal.τ).loc Cert.CastWIdeal.main_arg0) = m ((c.tc : Thread Cert.CastWIdeal.nD Cert.CastWIdeal.τ).loc Cert.CastWIdeal.main_arg0))
      ∧ θ_run (Cert.CastWRefIdeal.defs (F := Ideal)) (onTc (τ := Cert.CastWRefIdeal.τ) (Cert.CastWRefIdeal.main (F := Ideal))) ⟨m', fun _ => 0, g'⟩ (fun r => ∀ c : Dev Cert.CastWRefIdeal.nD,
          r.2.mem ((c.tc : Thread Cert.CastWRefIdeal.nD Cert.CastWRefIdeal.τ).loc Cert.CastWRefIdeal.main_v4) = v0 c
          ∧ r.2.mem ((c.tc : Thread Cert.CastWRefIdeal.nD Cert.CastWRefIdeal.τ).loc Cert.CastWRefIdeal.main_v6) = v1 c
          ∧ r.2.mem ((c.tc : Thread Cert.CastWRefIdeal.nD Cert.CastWRefIdeal.τ).loc Cert.CastWRefIdeal.main_arg0) = m' ((c.tc : Thread Cert.CastWRefIdeal.nD Cert.CastWRefIdeal.τ).loc Cert.CastWRefIdeal.main_arg0))

def preserves_CumS_CumSIdeal : Prop :=
  IdealRules.named_const.Statement Cert.CumSIdeal.κ "unit" .f32 0x3FB8AA3B#32 (((Real.log 2)⁻¹ : ℝ) : EReal)

def algebraic_CumSIdeal_CumSRefIdeal_pre_gates_below_infinity [hCumSIdeal : Cert.CumSIdeal.Facts] [hCumSRefIdeal : Cert.CumSRefIdeal.Facts] [hPre_gates_below_infinity : Cert.Pre_gates_below_infinity.Facts] : Prop :=
  ∀ (m : (ℓ : Loc Cert.CumSIdeal.nD Cert.CumSIdeal.τ Cert.CumSIdeal.sig) → Buf (Elt Ideal) ℓ) (g : Dev Cert.CumSIdeal.nD → PrngReg)
    (m' : (ℓ : Loc Cert.CumSRefIdeal.nD Cert.CumSRefIdeal.τ Cert.CumSRefIdeal.sig) → Buf (Elt Ideal) ℓ) (g' : Dev Cert.CumSRefIdeal.nD → PrngReg), Pre_CumSIdeal_gates_below_infinity m →
    (∀ c : Dev Cert.CumSIdeal.nD,
      m' ((c.tc : Thread Cert.CumSRefIdeal.nD Cert.CumSRefIdeal.τ).loc Cert.CumSRefIdeal.main_arg0) = m ((c.tc : Thread Cert.CumSIdeal.nD Cert.CumSIdeal.τ).loc Cert.CumSIdeal.main_arg0)) →
    ∃ (v0 : (c : Dev Cert.CumSIdeal.nD) → Buf (Elt Ideal) ((c.tc : Thread Cert.CumSIdeal.nD Cert.CumSIdeal.τ).loc Cert.CumSIdeal.main_v0)),
      θ_run (Cert.CumSIdeal.defs (F := Ideal)) (onTc (τ := Cert.CumSIdeal.τ) (Cert.CumSIdeal.main (F := Ideal))) ⟨m, fun _ => 0, g⟩ (fun r => ∀ c : Dev Cert.CumSIdeal.nD,
          r.2.mem ((c.tc : Thread Cert.CumSIdeal.nD Cert.CumSIdeal.τ).loc Cert.CumSIdeal.main_v0) = v0 c
          ∧ r.2.mem ((c.tc : Thread Cert.CumSIdeal.nD Cert.CumSIdeal.τ).loc Cert.CumSIdeal.main_arg0) = m ((c.tc : Thread Cert.CumSIdeal.nD Cert.CumSIdeal.τ).loc Cert.CumSIdeal.main_arg0))
      ∧ θ_run (Cert.CumSRefIdeal.defs (F := Ideal)) (onTc (τ := Cert.CumSRefIdeal.τ) (Cert.CumSRefIdeal.main (F := Ideal))) ⟨m', fun _ => 0, g'⟩ (fun r => ∀ c : Dev Cert.CumSRefIdeal.nD,
          r.2.mem ((c.tc : Thread Cert.CumSRefIdeal.nD Cert.CumSRefIdeal.τ).loc Cert.CumSRefIdeal.main_v3) = v0 c
          ∧ r.2.mem ((c.tc : Thread Cert.CumSRefIdeal.nD Cert.CumSRefIdeal.τ).loc Cert.CumSRefIdeal.main_arg0) = m' ((c.tc : Thread Cert.CumSRefIdeal.nD Cert.CumSRefIdeal.τ).loc Cert.CumSRefIdeal.main_arg0))

def Claim : Prop :=
  ∃ (hAttnP : Cert.AttnP.Facts) (hAttnPIdeal : Cert.AttnPIdeal.Facts) (hAttnS : Cert.AttnS.Facts) (hAttnSIdeal : Cert.AttnSIdeal.Facts) (hAttnSRefIdeal : Cert.AttnSRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hMix : Cert.Mix.Facts) (hMixIdeal : Cert.MixIdeal.Facts) (hMixRefIdeal : Cert.MixRefIdeal.Facts) (hCastW : Cert.CastW.Facts) (hCastWIdeal : Cert.CastWIdeal.Facts) (hCastWRefIdeal : Cert.CastWRefIdeal.Facts) (hCumS : Cert.CumS.Facts) (hCumSIdeal : Cert.CumSIdeal.Facts) (hCumSRefIdeal : Cert.CumSRefIdeal.Facts) (hPre_attn_prompt_from_start : Cert.Pre_attn_prompt_from_start.Facts) (hPre_attn_sample_finite : Cert.Pre_attn_sample_finite.Facts) (hPre_gates_below_infinity : Cert.Pre_gates_below_infinity.Facts),
    quiescent_AttnP (hAttnP := hAttnP) (hPre_attn_prompt_from_start := hPre_attn_prompt_from_start)
    ∧ quiescent_AttnPIdeal (hAttnPIdeal := hAttnPIdeal) (hPre_attn_prompt_from_start := hPre_attn_prompt_from_start)
    ∧ quiescent_AttnS (hAttnS := hAttnS)
    ∧ quiescent_AttnSIdeal (hAttnSIdeal := hAttnSIdeal)
    ∧ quiescent_AttnSIdeal_pre_attn_sample_finite (hAttnSIdeal := hAttnSIdeal) (hPre_attn_sample_finite := hPre_attn_sample_finite)
    ∧ quiescent_AttnSRefIdeal (hAttnSRefIdeal := hAttnSRefIdeal)
    ∧ quiescent_AttnSRefIdeal_pre_attn_sample_finite (hAttnSRefIdeal := hAttnSRefIdeal) (hPre_attn_sample_finite := hPre_attn_sample_finite)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_Mix (hMix := hMix)
    ∧ quiescent_MixIdeal (hMixIdeal := hMixIdeal)
    ∧ quiescent_MixRefIdeal (hMixRefIdeal := hMixRefIdeal)
    ∧ quiescent_CastW (hCastW := hCastW)
    ∧ quiescent_CastWIdeal (hCastWIdeal := hCastWIdeal)
    ∧ quiescent_CastWRefIdeal (hCastWRefIdeal := hCastWRefIdeal)
    ∧ quiescent_CumS (hCumS := hCumS)
    ∧ quiescent_CumSIdeal (hCumSIdeal := hCumSIdeal)
    ∧ quiescent_CumSIdeal_pre_gates_below_infinity (hCumSIdeal := hCumSIdeal) (hPre_gates_below_infinity := hPre_gates_below_infinity)
    ∧ quiescent_CumSRefIdeal (hCumSRefIdeal := hCumSRefIdeal)
    ∧ quiescent_CumSRefIdeal_pre_gates_below_infinity (hCumSRefIdeal := hCumSRefIdeal) (hPre_gates_below_infinity := hPre_gates_below_infinity)
    ∧ preserves_AttnP_AttnPIdeal
    ∧ preserves_AttnS_AttnSIdeal
    ∧ algebraic_AttnSIdeal_AttnSRefIdeal_pre_attn_sample_finite (hAttnSIdeal := hAttnSIdeal) (hAttnSRefIdeal := hAttnSRefIdeal) (hPre_attn_sample_finite := hPre_attn_sample_finite)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_Mix_MixIdeal
    ∧ algebraic_MixIdeal_MixRefIdeal (hMixIdeal := hMixIdeal) (hMixRefIdeal := hMixRefIdeal)
    ∧ preserves_CastW_CastWIdeal
    ∧ algebraic_CastWIdeal_CastWRefIdeal (hCastWIdeal := hCastWIdeal) (hCastWRefIdeal := hCastWRefIdeal)
    ∧ preserves_CumS_CumSIdeal
    ∧ algebraic_CumSIdeal_CumSRefIdeal_pre_gates_below_infinity (hCumSIdeal := hCumSIdeal) (hCumSRefIdeal := hCumSRefIdeal) (hPre_gates_below_infinity := hPre_gates_below_infinity)
-- ==== Pre_attn_prompt_from_start.lean ====
abbrev S128 : Shape := ⟨1, ![128]⟩
abbrev S16384x1024 : Shape := ⟨2, ![16384, 1024]⟩
abbrev S16x1x8192 : Shape := ⟨3, ![16, 1, 8192]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : FVec F S16384x1024 .bf16) (main_arg2 : FVec F S16384x1024 .bf16) (main_arg3 : FVec F S16384x1024 .bf16) (main_arg4 : FVec F S16x1x8192 .f32) (main_arg5 : FVec F S16x1x8192 .f32) : IVec S128 1 :=
  let main_c : IVec S_ 32 := constantI S_ 32 0#32
  let main_v0 : IVec S128 32 := broadcastInDim S128 ![] bcast_S_S128 main_c
  let main_v1 : IVec S128 1 := cmpi .eq main_arg0 main_v0
  main_v1
-- ==== Pre_attn_sample_finite.lean ====
abbrev S1024x1024 : Shape := ⟨2, ![1024, 1024]⟩
abbrev S32x2048x8x128 : Shape := ⟨4, ![32, 2048, 8, 128]⟩
abbrev S256x2176 : Shape := ⟨2, ![256, 2176]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  bcast_S_S32x2048x8x128 : S_.BroadcastsInDim S32x2048x8x128 (![] : Fin 0 → Fin S32x2048x8x128.rank)
  bcast_S_S256x2176 : S_.BroadcastsInDim S256x2176 (![] : Fin 0 → Fin S256x2176.rank)

variable [Facts]

def fn {F : FTy → Type} [FloatOps F] (main_arg0 : FVec F S1024x1024 .bf16) (main_arg1 : FVec F S1024x1024 .bf16) (main_arg2 : FVec F S1024x1024 .bf16) (main_arg3 : FVec F S32x2048x8x128 .f32) (main_arg4 : FVec F S32x2048x8x128 .f32) (main_arg5 : FVec F S256x2176 .f32) : IVec S1024x1024 1 × IVec S1024x1024 1 × IVec S32x2048x8x128 1 × IVec S256x2176 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S32x2048x8x128 .f32 := Host.absf main_arg3
  let main_cst_1 : FVec F S_ .f32 := constant S_ .f32 0x7F800000#32
  let main_v9 : FVec F S32x2048x8x128 .f32 := broadcastInDim S32x2048x8x128 ![] bcast_S_S32x2048x8x128 main_cst_1
  let main_v10 : IVec S32x2048x8x128 1 := cmpf .olt main_v8 main_v9
  let main_v11 : FVec F S256x2176 .f32 := Host.absf main_arg5
  let main_cst_2 : FVec F S_ .f32 := constant S_ .f32 0x7F800000#32
  let main_v12 : FVec F S256x2176 .f32 := broadcastInDim S256x2176 ![] bcast_S_S256x2176 main_cst_2
  let main_v13 : IVec S256x2176 1 := cmpf .olt main_v11 main_v12
  (main_v3, main_v7, main_v10, main_v13)
-- ==== Pre_gates_below_infinity.lean ====
abbrev S256x2176 : Shape := ⟨2, ![256, 2176]⟩
abbrev S_ : Shape := ⟨0, ![]⟩

class Facts : Prop where
  bcast_S_S256x2176 : S_.BroadcastsInDim S256x2176 (![] : Fin 0 → Fin S256x2176.rank)

variable [Facts]

def fn {F : FTy → Type} [FloatOps F] (main_arg0 : FVec F S256x2176 .f32) : IVec S256x2176 1 :=
  let main_cst : FVec F S_ .f32 := constant S_ .f32 0x7F800000#32
  let main_v0 : FVec F S256x2176 .f32 := broadcastInDim S256x2176 ![] bcast_S_S256x2176 main_cst
  let main_v1 : IVec S256x2176 1 := cmpf .olt main_arg0 main_v0
  main_v1
-- ==== AttnP.lean ====
abbrev S128 : Shape := ⟨1, ![128]⟩
abbrev S16384x1024 : Shape := ⟨2, ![16384, 1024]⟩
abbrev S16x1x8192 : Shape := ⟨3, ![16, 1, 8192]⟩
abbrev S8192x128 : Shape := ⟨2, ![8192, 128]⟩
abbrev S1x1x8192 : Shape := ⟨3, ![1, 1, 8192]⟩
abbrev S1024x128 : Shape := ⟨2, ![1024, 128]⟩
abbrev S2x1024x512 : Shape := ⟨3, ![2, 1024, 512]⟩
abbrev S1x1x1024 : Shape := ⟨3, ![1, 1, 1024]⟩
abbrev S1x1024 : Shape := ⟨2, ![1, 1024]⟩
abbrev S128x1024 : Shape := ⟨2, ![128, 1024]⟩
abbrev S1 : Shape := ⟨1, ![1]⟩
abbrev S512x128 : Shape := ⟨2, ![512, 128]⟩
abbrev S1024x512 : Shape := ⟨2, ![1024, 512]⟩
abbrev S1x1024x512 : Shape := ⟨3, ![1, 1024, 512]⟩
abbrev S1x1024x128 : Shape := ⟨3, ![1, 1024, 128]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S512x512 : Shape := ⟨2, ![512, 512]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 6
  | .vmem => 17
  | .smem => 1
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16x1x8192, .f32⟩
  | .hbm, ⟨4, _⟩ => ⟨S16x1x8192, .f32⟩
  | .hbm, ⟨5, _⟩ => ⟨S16384x1024, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x8192, .f32⟩
  | .local _ .vmem, ⟨7, _⟩ => ⟨S1x1x8192, .f32⟩
  | .local _ .vmem, ⟨8, _⟩ => ⟨S1x1x8192, .f32⟩
  | .local _ .vmem, ⟨9, _⟩ => ⟨S1x1x8192, .f32⟩
  | .local _ .vmem, ⟨10, _⟩ => ⟨S8192x128, .f32⟩
  | .local _ .vmem, ⟨11, _⟩ => ⟨S8192x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S2x1024x512, .f32⟩
  | .local _ .smem, ⟨0, _⟩ => ⟨S128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  v1
def k0_off1 (k0_t1 : Fin k0_t1_loop.trips) : Fin 3 → Nat :=
  let c0 : Index := 0#32
  let c0_1 : Index := 0#32
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let v3 : Index := Scalar.indexCast v2
  ![0, 0, v3.toNat]
def k0_off2 (i : grid0.Coords) (k0_t1 : Fin k0_t1_loop.trips) : Fin 1 → Nat :=
  let arg0 : BitVec 32 := BitVec.ofNat 32 (i 0).val
  let c8_i32_12 : BitVec 32 := 8#32
  let v24 : BitVec 32 := Scalar.muli arg0 c8_i32_12
  let c0_i32 : BitVec 32 := 0#32
  let c1_i32 : BitVec 32 := 1#32
  let arg13 : BitVec 32 := Scf.iv c0_i32 c1_i32 k0_t1
  let v25 : BitVec 32 := Scalar.addi v24 arg13
  let v26 : Index := Scalar.indexCast v25
  ![v26.toNat]
def k0_mult2 (v27 : BitVec 32) : BitVec 32 :=
  let c2_i32 : BitVec 32 := 2#32
  let v28 : BitVec 32 := Scalar.muli c2_i32 v27
  let c512_i32 : BitVec 32 := 512#32
  let v29 : BitVec 32 := Scalar.muli v28 c512_i32
  v29

def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_13 : BitVec 32 := 0#32
  let v31 : BitVec 32 := Scalar.addi v2 c0_i32_13
  v31
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_13 : BitVec 32 := 0#32
  let v31 : BitVec 32 := Scalar.addi v2 c0_i32_13
  let v32 : BitVec 32 := v31
  let v33 : Index := Scalar.indexCast v32
  let c0_14 : Index := 0#32
  ![v33.toNat, 0]
def k0_off4 (v27 : BitVec 32) : Fin 2 → Nat :=
  let c2_i32 : BitVec 32 := 2#32
  let v28 : BitVec 32 := Scalar.muli c2_i32 v27
  let c512_i32 : BitVec 32 := 512#32
  let v29 : BitVec 32 := Scalar.muli v28 c512_i32
  let v30 : BitVec 32 := v29
  let v35 : Index := Scalar.indexCast v30
  let c0_15 : Index := 0#32
  ![v35.toNat, 0]
@[reducible] def k0_t2_loop (k0_t1 : Fin k0_t1_loop.trips) (v27 : BitVec 32) : Scf.Loop 32 :=
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_22 : BitVec 32 := 1#32
  ⟨v27, v45, c1_i32_22⟩
def k0_mult4 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_204 : BitVec 32 := 1#32
  let v428 : BitVec 32 := Scalar.addi v427 c1_i32_204
  let c512_i32_205 : BitVec 32 := 512#32
  let v429 : BitVec 32 := Scalar.muli v428 c512_i32_205
  v429
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_206 : BitVec 32 := 0#32
  let v431 : BitVec 32 := Scalar.addi v2 c0_i32_206
  v431
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_206 : BitVec 32 := 0#32
  let v431 : BitVec 32 := Scalar.addi v2 c0_i32_206
  let v432 : BitVec 32 := v431
  let v433 : Index := Scalar.indexCast v432
  let c0_207 : Index := 0#32
  ![v433.toNat, 0]
def k0_off6 (k0_t1 : Fin k0_t1_loop.trips) (v27 : BitVec 32) (k0_t2 : Fin (k0_t2_loop k0_t1 v27).trips) (c1_i32_204 : BitVec 32) : Fin 2 → Nat :=
  let c2_i32_203 : BitVec 32 := 2#32
  let c1_i32_22 : BitVec 32 := 1#32
  let arg14 : BitVec 32 := Scf.iv v27 c1_i32_22 k0_t2
  let v427 : BitVec 32 := Scalar.muli c2_i32_203 arg14
  let v428 : BitVec 32 := Scalar.addi v427 c1_i32_204
  let c512_i32_205 : BitVec 32 := 512#32
  let v429 : BitVec 32 := Scalar.muli v428 c512_i32_205
  let v430 : BitVec 32 := v429
  let v435 : Index := Scalar.indexCast v430
  let c0_208 : Index := 0#32
  ![v435.toNat, 0]
def k0_mult6 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  v441
def k0_off7 (k0_t1 : Fin k0_t1_loop.trips) (v27 : BitVec 32) (k0_t2 : Fin (k0_t2_loop k0_t1 v27).trips) : Fin 2 → Nat :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let v443 : Index := Scalar.indexCast v442
  let c0_214 : Index := 0#32
  ![v443.toNat, 0]
def k0_mult7 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c0_i32_215 : BitVec 32 := 0#32
  let v445 : BitVec 32 := Scalar.addi v442 c0_i32_215
  v445
def k0_off8 (k0_t1 : Fin k0_t1_loop.trips) (v27 : BitVec 32) (k0_t2 : Fin (k0_t2_loop k0_t1 v27).trips) (c0_i32_215 : BitVec 32) : Fin 3 → Nat :=
  let c0_219 : Index := 0#32
  let c0_220 : Index := 0#32
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let v445 : BitVec 32 := Scalar.addi v442 c0_i32_215
  let v446 : BitVec 32 := v445
  let v449 : Index := Scalar.indexCast v446
  ![0, 0, v449.toNat]
def k0_mult8 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c128_i32_221 : BitVec 32 := 128#32
  let v454 : BitVec 32 := Scalar.addi v442 c128_i32_221
  v454
def k0_mult9 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c256_i32_227 : BitVec 32 := 256#32
  let v463 : BitVec 32 := Scalar.addi v442 c256_i32_227
  v463
def k0_mult10 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c384_i32_233 : BitVec 32 := 384#32
  let v472 : BitVec 32 := Scalar.addi v442 c384_i32_233
  v472
def k0_mult11 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c0_i32_248 : BitVec 32 := 0#32
  let v498 : BitVec 32 := Scalar.addi v442 c0_i32_248
  v498
def k0_mult12 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c128_i32_254 : BitVec 32 := 128#32
  let v509 : BitVec 32 := Scalar.addi v442 c128_i32_254
  v509
def k0_mult13 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c256_i32_260 : BitVec 32 := 256#32
  let v520 : BitVec 32 := Scalar.addi v442 c256_i32_260
  v520
def k0_mult14 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c512_i32_213 : BitVec 32 := 512#32
  let v441 : BitVec 32 := Scalar.muli v427 c512_i32_213
  let v442 : BitVec 32 := v441
  let c384_i32_266 : BitVec 32 := 384#32
  let v531 : BitVec 32 := Scalar.addi v442 c384_i32_266
  v531
def k0_mult15 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c2_i32_281 : BitVec 32 := 2#32
  let v563 : BitVec 32 := Scalar.addi v427 c2_i32_281
  let c512_i32_282 : BitVec 32 := 512#32
  let v564 : BitVec 32 := Scalar.muli v563 c512_i32_282
  v564
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_283 : BitVec 32 := 0#32
  let v566 : BitVec 32 := Scalar.addi v2 c0_i32_283
  v566
def k0_mult17 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  v577
def k0_mult18 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c0_i32_293 : BitVec 32 := 0#32
  let v581 : BitVec 32 := Scalar.addi v578 c0_i32_293
  v581
def k0_off9 (k0_t1 : Fin k0_t1_loop.trips) (v27 : BitVec 32) (k0_t2 : Fin (k0_t2_loop k0_t1 v27).trips) (c0_i32_293 : BitVec 32) : Fin 3 → Nat :=
  let c0_297 : Index := 0#32
  let c0_298 : Index := 0#32
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let v581 : BitVec 32 := Scalar.addi v578 c0_i32_293
  let v582 : BitVec 32 := v581
  let v585 : Index := Scalar.indexCast v582
  ![0, 0, v585.toNat]
def k0_mult19 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c128_i32_299 : BitVec 32 := 128#32
  let v590 : BitVec 32 := Scalar.addi v578 c128_i32_299
  v590
def k0_mult20 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c256_i32_305 : BitVec 32 := 256#32
  let v599 : BitVec 32 := Scalar.addi v578 c256_i32_305
  v599
def k0_mult21 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c384_i32_311 : BitVec 32 := 384#32
  let v608 : BitVec 32 := Scalar.addi v578 c384_i32_311
  v608
def k0_mult22 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c0_i32_326 : BitVec 32 := 0#32
  let v634 : BitVec 32 := Scalar.addi v578 c0_i32_326
  v634
def k0_mult23 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c128_i32_332 : BitVec 32 := 128#32
  let v645 : BitVec 32 := Scalar.addi v578 c128_i32_332
  v645
def k0_mult24 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c256_i32_338 : BitVec 32 := 256#32
  let v656 : BitVec 32 := Scalar.addi v578 c256_i32_338
  v656
def k0_mult25 (k0_t1 : Fin k0_t1_loop.trips) (v27 : BitVec 32) (k0_t2 : Fin (k0_t2_loop k0_t1 v27).trips) : BitVec 32 :=
  let c2_i32_203 : BitVec 32 := 2#32
  let c1_i32_22 : BitVec 32 := 1#32
  let arg14 : BitVec 32 := Scf.iv v27 c1_i32_22 k0_t2
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c384_i32_344 : BitVec 32 := 384#32
  let v667 : BitVec 32 := Scalar.addi v578 c384_i32_344
  v667
@[reducible] def k0_t3_loop (k0_t1 : Fin k0_t1_loop.trips) (v27 : BitVec 32) : Scf.Loop 32 :=
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let v42 : BitVec 32 := Scalar.addi v27 v41
  let c1_i32_23 : BitVec 32 := 1#32
  ⟨v45, v42, c1_i32_23⟩
def k0_mult26 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_204 : BitVec 32 := 1#32
  let v428 : BitVec 32 := Scalar.addi v427 c1_i32_204
  let c512_i32_205 : BitVec 32 := 512#32
  let v429 : BitVec 32 := Scalar.muli v428 c512_i32_205
  v429
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_206 : BitVec 32 := 0#32
  let v431 : BitVec 32 := Scalar.addi v2 c0_i32_206
  v431
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_206 : BitVec 32 := 0#32
  let v431 : BitVec 32 := Scalar.addi v2 c0_i32_206
  let v432 : BitVec 32 := v431
  let v433 : Index := Scalar.indexCast v432
  let c0_207 : Index := 0#32
  ![v433.toNat, 0]
def k0_off11 (k0_t1 : Fin k0_t1_loop.trips) (v27 : BitVec 32) (k0_t3 : Fin (k0_t3_loop k0_t1 v27).trips) (c1_i32_204 : BitVec 32) : Fin 2 → Nat :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let v428 : BitVec 32 := Scalar.addi v427 c1_i32_204
  let c512_i32_205 : BitVec 32 := 512#32
  let v429 : BitVec 32 := Scalar.muli v428 c512_i32_205
  let v430 : BitVec 32 := v429
  let v435 : Index := Scalar.indexCast v430
  let c0_208 : Index := 0#32
  ![v435.toNat, 0]
def k0_mult28 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  v441
def k0_off12 (k0_t1 : Fin k0_t1_loop.trips) (v27 : BitVec 32) (k0_t3 : Fin (k0_t3_loop k0_t1 v27).trips) : Fin 2 → Nat :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let v443 : Index := Scalar.indexCast v442
  let c0_214 : Index := 0#32
  ![v443.toNat, 0]
def k0_mult29 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c0_i32_215 : BitVec 32 := 0#32
  let v445 : BitVec 32 := Scalar.addi v442 c0_i32_215
  v445
def k0_off13 (k0_t1 : Fin k0_t1_loop.trips) (v27 : BitVec 32) (k0_t3 : Fin (k0_t3_loop k0_t1 v27).trips) (c0_i32_215 : BitVec 32) : Fin 3 → Nat :=
  let c0_219 : Index := 0#32
  let c0_220 : Index := 0#32
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let v445 : BitVec 32 := Scalar.addi v442 c0_i32_215
  let v446 : BitVec 32 := v445
  let v449 : Index := Scalar.indexCast v446
  ![0, 0, v449.toNat]
def k0_mult30 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c128_i32_221 : BitVec 32 := 128#32
  let v454 : BitVec 32 := Scalar.addi v442 c128_i32_221
  v454
def k0_mult31 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c256_i32_227 : BitVec 32 := 256#32
  let v463 : BitVec 32 := Scalar.addi v442 c256_i32_227
  v463
def k0_mult32 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c384_i32_233 : BitVec 32 := 384#32
  let v472 : BitVec 32 := Scalar.addi v442 c384_i32_233
  v472
def k0_mult33 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c0_i32_248 : BitVec 32 := 0#32
  let v498 : BitVec 32 := Scalar.addi v442 c0_i32_248
  v498
def k0_mult34 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c128_i32_254 : BitVec 32 := 128#32
  let v509 : BitVec 32 := Scalar.addi v442 c128_i32_254
  v509
def k0_mult35 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c256_i32_260 : BitVec 32 := 256#32
  let v520 : BitVec 32 := Scalar.addi v442 c256_i32_260
  v520
def k0_mult36 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c512_i32_213 : BitVec 32 := 512#32
  let v441 : BitVec 32 := Scalar.muli v427 c512_i32_213
  let v442 : BitVec 32 := v441
  let c384_i32_266 : BitVec 32 := 384#32
  let v531 : BitVec 32 := Scalar.addi v442 c384_i32_266
  v531
def k0_mult37 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c2_i32_281 : BitVec 32 := 2#32
  let v563 : BitVec 32 := Scalar.addi v427 c2_i32_281
  let c512_i32_282 : BitVec 32 := 512#32
  let v564 : BitVec 32 := Scalar.muli v563 c512_i32_282
  v564
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c0_i32_283 : BitVec 32 := 0#32
  let v566 : BitVec 32 := Scalar.addi v2 c0_i32_283
  v566
def k0_mult39 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  v577
def k0_mult40 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c0_i32_293 : BitVec 32 := 0#32
  let v581 : BitVec 32 := Scalar.addi v578 c0_i32_293
  v581
def k0_off14 (k0_t1 : Fin k0_t1_loop.trips) (v27 : BitVec 32) (k0_t3 : Fin (k0_t3_loop k0_t1 v27).trips) (c0_i32_293 : BitVec 32) : Fin 3 → Nat :=
  let c0_297 : Index := 0#32
  let c0_298 : Index := 0#32
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let v581 : BitVec 32 := Scalar.addi v578 c0_i32_293
  let v582 : BitVec 32 := v581
  let v585 : Index := Scalar.indexCast v582
  ![0, 0, v585.toNat]
def k0_mult41 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c128_i32_299 : BitVec 32 := 128#32
  let v590 : BitVec 32 := Scalar.addi v578 c128_i32_299
  v590
def k0_mult42 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c256_i32_305 : BitVec 32 := 256#32
  let v599 : BitVec 32 := Scalar.addi v578 c256_i32_305
  v599
def k0_mult43 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c384_i32_311 : BitVec 32 := 384#32
  let v608 : BitVec 32 := Scalar.addi v578 c384_i32_311
  v608
def k0_mult44 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c0_i32_326 : BitVec 32 := 0#32
  let v634 : BitVec 32 := Scalar.addi v578 c0_i32_326
  v634
def k0_mult45 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c128_i32_332 : BitVec 32 := 128#32
  let v645 : BitVec 32 := Scalar.addi v578 c128_i32_332
  v645
def k0_mult46 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c256_i32_338 : BitVec 32 := 256#32
  let v656 : BitVec 32 := Scalar.addi v578 c256_i32_338
  v656
def k0_mult47 (k0_t1 : Fin k0_t1_loop.trips) (v27 : BitVec 32) (k0_t3 : Fin (k0_t3_loop k0_t1 v27).trips) : BitVec 32 :=
  let c2_i32_203 : BitVec 32 := 2#32
  let c0_i32 : BitVec 32 := 0#32
  let c1_i32 : BitVec 32 := 1#32
  let arg13 : BitVec 32 := Scf.iv c0_i32 c1_i32 k0_t1
  let v41 : BitVec 32 := Scalar.subi arg13 v27
  let c1_i32_21 : BitVec 32 := 1#32
  let v43 : BitVec 32 := Scalar.divsi v41 c1_i32_21
  let v44 : BitVec 32 := Scalar.muli v43 c1_i32_21
  let v45 : BitVec 32 := Scalar.addi v27 v44
  let c1_i32_23 : BitVec 32 := 1#32
  let arg14 : BitVec 32 := Scf.iv v45 c1_i32_23 k0_t3
  let v427 : BitVec 32 := Scalar.muli c2_i32_203 arg14
  let c1_i32_290 : BitVec 32 := 1#32
  let v576 : BitVec 32 := Scalar.addi v427 c1_i32_290
  let c512_i32_291 : BitVec 32 := 512#32
  let v577 : BitVec 32 := Scalar.muli v576 c512_i32_291
  let v578 : BitVec 32 := v577
  let c384_i32_344 : BitVec 32 := 384#32
  let v667 : BitVec 32 := Scalar.addi v578 c384_i32_344
  v667

def k0_chk1_0 (k0_t1 : Fin k0_t1_loop.trips) (v27 : BitVec 32) : Prop :=
  (512 ∣ (k0_mult2 v27).toNat) ∧
  (∀ a, (k0_off4 v27) a + S512x128.size a ≤ S8192x128.size a) ∧
  ((k0_t2_loop k0_t1 v27).OK) ∧
  (∀ k0_t2 : Fin (k0_t2_loop k0_t1 v27).trips, 512 ∣ (k0_mult4 k0_t1 v27 k0_t2).toNat) ∧
  (∀ k0_t2 : Fin (k0_t2_loop k0_t1 v27).trips, ∀ (r : Fin 2), ∀ a, (k0_off6 k0_t1 v27 k0_t2 (BitVec.ofNat 32 (1 + r.val))) a + S512x128.size a ≤ S8192x128.size a) ∧
  (∀ k0_t2 : Fin (k0_t2_loop k0_t1 v27).trips, 512 ∣ (k0_mult6 k0_t1 v27 k0_t2).toNat) ∧
  (∀ k0_t2 : Fin (k0_t2_loop k0_t1 v27).trips, ∀ a, (k0_off7 k0_t1 v27 k0_t2) a + S512x128.size a ≤ S8192x128.size a) ∧
  (∀ k0_t2 : Fin (k0_t2_loop k0_t1 v27).trips, 128 ∣ (k0_mult7 k0_t1 v27 k0_t2).toNat) ∧
  (∀ k0_t2 : Fin (k0_t2_loop k0_t1 v27).trips, ∀ (r : Fin 4), ∀ a, (k0_off8 k0_t1 v27 k0_t2 (BitVec.ofNat 32 (128 * r.val))) a + S1x1x128.size a ≤ S1x1x8192.size a) ∧
  (∀ k0_t2 : Fin (k0_t2_loop k0_t1 v27).trips, 128 ∣ (k0_mult8 k0_t1 v27 k0_t2).toNat) ∧
  (∀ k0_t2 : Fin (k0_t2_loop k0_t1 v27).trips, 128 ∣ (k0_mult9 k0_t1 v27 k0_t2).toNat) ∧
  (∀ k0_t2 : Fin (k0_t2_loop k0_t1 v27).trips, 128 ∣ (k0_mult10 k0_t1 v27 k0_t2).toNat) ∧
  (∀ k0_t2 : Fin (k0_t2_loop k0_t1 v27).trips, 128 ∣ (k0_mult11 k0_t1 v27 k0_t2).toNat) ∧
  (∀ k0_t2 : Fin (k0_t2_loop k0_t1 v27).trips, 128 ∣ (k0_mult12 k0_t1 v27 k0_t2).toNat) ∧
  (∀ k0_t2 : Fin (k0_t2_loop k0_t1 v27).trips, 128 ∣ (k0_mult13 k0_t1 v27 k0_t2).toNat) ∧
  (∀ k0_t2 : Fin (k0_t2_loop k0_t1 v27).trips, 128 ∣ (k0_mult14 k0_t1 v27 k0_t2).toNat) ∧
  (∀ k0_t2 : Fin (k0_t2_loop k0_t1 v27).trips, 512 ∣ (k0_mult15 k0_t1 v27 k0_t2).toNat) ∧
  (∀ k0_t2 : Fin (k0_t2_loop k0_t1 v27).trips, 512 ∣ (k0_mult17 k0_t1 v27 k0_t2).toNat) ∧
  (∀ k0_t2 : Fin (k0_t2_loop k0_t1 v27).trips, 128 ∣ (k0_mult18 k0_t1 v27 k0_t2).toNat) ∧
  (∀ k0_t2 : Fin (k0_t2_loop k0_t1 v27).trips, ∀ (r : Fin 4), ∀ a, (k0_off9 k0_t1 v27 k0_t2 (BitVec.ofNat 32 (128 * r.val))) a + S1x1x128.size a ≤ S1x1x8192.size a) ∧
  (∀ k0_t2 : Fin (k0_t2_loop k0_t1 v27).trips, 128 ∣ (k0_mult19 k0_t1 v27 k0_t2).toNat) ∧
  (∀ k0_t2 : Fin (k0_t2_loop k0_t1 v27).trips, 128 ∣ (k0_mult20 k0_t1 v27 k0_t2).toNat) ∧
  (∀ k0_t2 : Fin (k0_t2_loop k0_t1 v27).trips, 128 ∣ (k0_mult21 k0_t1 v27 k0_t2).toNat) ∧
  (∀ k0_t2 : Fin (k0_t2_loop k0_t1 v27).trips, 128 ∣ (k0_mult22 k0_t1 v27 k0_t2).toNat) ∧
  (∀ k0_t2 : Fin (k0_t2_loop k0_t1 v27).trips, 128 ∣ (k0_mult23 k0_t1 v27 k0_t2).toNat) ∧
  (∀ k0_t2 : Fin (k0_t2_loop k0_t1 v27).trips, 128 ∣ (k0_mult24 k0_t1 v27 k0_t2).toNat) ∧
  (∀ k0_t2 : Fin (k0_t2_loop k0_t1 v27).trips, 128 ∣ (k0_mult25 k0_t1 v27 k0_t2).toNat) ∧
  ((k0_t3_loop k0_t1 v27).OK) ∧
  (∀ k0_t3 : Fin (k0_t3_loop k0_t1 v27).trips, 512 ∣ (k0_mult26 k0_t1 v27 k0_t3).toNat) ∧
  (∀ k0_t3 : Fin (k0_t3_loop k0_t1 v27).trips, ∀ (r : Fin 2), ∀ a, (k0_off11 k0_t1 v27 k0_t3 (BitVec.ofNat 32 (1 + r.val))) a + S512x128.size a ≤ S8192x128.size a) ∧
  (∀ k0_t3 : Fin (k0_t3_loop k0_t1 v27).trips, 512 ∣ (k0_mult28 k0_t1 v27 k0_t3).toNat) ∧
  (∀ k0_t3 : Fin (k0_t3_loop k0_t1 v27).trips, ∀ a, (k0_off12 k0_t1 v27 k0_t3) a + S512x128.size a ≤ S8192x128.size a)
def k0_chk1_1 (k0_t1 : Fin k0_t1_loop.trips) (v27 : BitVec 32) : Prop :=
  (∀ k0_t3 : Fin (k0_t3_loop k0_t1 v27).trips, 128 ∣ (k0_mult29 k0_t1 v27 k0_t3).toNat) ∧
  (∀ k0_t3 : Fin (k0_t3_loop k0_t1 v27).trips, ∀ (r : Fin 4), ∀ a, (k0_off13 k0_t1 v27 k0_t3 (BitVec.ofNat 32 (128 * r.val))) a + S1x1x128.size a ≤ S1x1x8192.size a) ∧
  (∀ k0_t3 : Fin (k0_t3_loop k0_t1 v27).trips, 128 ∣ (k0_mult30 k0_t1 v27 k0_t3).toNat) ∧
  (∀ k0_t3 : Fin (k0_t3_loop k0_t1 v27).trips, 128 ∣ (k0_mult31 k0_t1 v27 k0_t3).toNat) ∧
  (∀ k0_t3 : Fin (k0_t3_loop k0_t1 v27).trips, 128 ∣ (k0_mult32 k0_t1 v27 k0_t3).toNat) ∧
  (∀ k0_t3 : Fin (k0_t3_loop k0_t1 v27).trips, 128 ∣ (k0_mult33 k0_t1 v27 k0_t3).toNat) ∧
  (∀ k0_t3 : Fin (k0_t3_loop k0_t1 v27).trips, 128 ∣ (k0_mult34 k0_t1 v27 k0_t3).toNat) ∧
  (∀ k0_t3 : Fin (k0_t3_loop k0_t1 v27).trips, 128 ∣ (k0_mult35 k0_t1 v27 k0_t3).toNat) ∧
  (∀ k0_t3 : Fin (k0_t3_loop k0_t1 v27).trips, 128 ∣ (k0_mult36 k0_t1 v27 k0_t3).toNat) ∧
  (∀ k0_t3 : Fin (k0_t3_loop k0_t1 v27).trips, 512 ∣ (k0_mult37 k0_t1 v27 k0_t3).toNat) ∧
  (∀ k0_t3 : Fin (k0_t3_loop k0_t1 v27).trips, 512 ∣ (k0_mult39 k0_t1 v27 k0_t3).toNat) ∧
  (∀ k0_t3 : Fin (k0_t3_loop k0_t1 v27).trips, 128 ∣ (k0_mult40 k0_t1 v27 k0_t3).toNat) ∧
  (∀ k0_t3 : Fin (k0_t3_loop k0_t1 v27).trips, ∀ (r : Fin 4), ∀ a, (k0_off14 k0_t1 v27 k0_t3 (BitVec.ofNat 32 (128 * r.val))) a + S1x1x128.size a ≤ S1x1x8192.size a) ∧
  (∀ k0_t3 : Fin (k0_t3_loop k0_t1 v27).trips, 128 ∣ (k0_mult41 k0_t1 v27 k0_t3).toNat) ∧
  (∀ k0_t3 : Fin (k0_t3_loop k0_t1 v27).trips, 128 ∣ (k0_mult42 k0_t1 v27 k0_t3).toNat) ∧
  (∀ k0_t3 : Fin (k0_t3_loop k0_t1 v27).trips, 128 ∣ (k0_mult43 k0_t1 v27 k0_t3).toNat) ∧
  (∀ k0_t3 : Fin (k0_t3_loop k0_t1 v27).trips, 128 ∣ (k0_mult44 k0_t1 v27 k0_t3).toNat) ∧
  (∀ k0_t3 : Fin (k0_t3_loop k0_t1 v27).trips, 128 ∣ (k0_mult45 k0_t1 v27 k0_t3).toNat) ∧
  (∀ k0_t3 : Fin (k0_t3_loop k0_t1 v27).trips, 128 ∣ (k0_mult46 k0_t1 v27 k0_t3).toNat) ∧
  (∀ k0_t3 : Fin (k0_t3_loop k0_t1 v27).trips, 128 ∣ (k0_mult47 k0_t1 v27 k0_t3).toNat)
def k0_chk1 (k0_t1 : Fin k0_t1_loop.trips) (v27 : BitVec 32) : Prop :=
  k0_chk1_0 k0_t1 v27 ∧
  k0_chk1_1 k0_t1 v27
theorem k0_mult2_dvd : ∀ (k0_t1 : Fin k0_t1_loop.trips) (v27 : BitVec 32) (k0_hw1 : k0_chk1 k0_t1 v27), 512 ∣ (k0_mult2 v27).toNat := fun k0_t1 v27 k0_hw1 => k0_hw1.1.1
theorem k0_off4_inb : ∀ (k0_t1 : Fin k0_t1_loop.trips) (v27 : BitVec 32) (k0_hw1 : k0_chk1 k0_t1 v27), ∀ a, (k0_off4 v27) a + S512x128.size a ≤ S8192x128.size a := fun k0_t1 v27 k0_hw1 => k0_hw1.1.2.1
theorem k0_t2_ok : ∀ (k0_t1 : Fin k0_t1_loop.trips) (v27 : BitVec 32) (k0_hw1 : k0_chk1 k0_t1 v27), (k0_t2_loop k0_t1 v27).OK := fun k0_t1 v27 k0_hw1 => k0_hw1.1.2.2.1
theorem k0_mult4_dvd : ∀ (k0_t1 : Fin k0_t1_loop.trips) (v27 : BitVec 32) (k0_hw1 : k0_chk1 k0_t1 v27) (k0_t2 : Fin (k0_t2_loop k0_t1 v27).trips), 512 ∣ (k0_mult4 k0_t1 v27 k0_t2).toNat := fun k0_t1 v27 k0_hw1 k0_t2 => k0_hw1.1.2.2.2.1 k0_t2
theorem k0_off6_inb : ∀ (k0_t1 : Fin k0_t1_loop.trips) (v27 : BitVec 32) (k0_hw1 : k0_chk1 k0_t1 v27) (k0_t2 : Fin (k0_t2_loop k0_t1 v27).trips), ∀ (r : Fin 2), ∀ a, (k0_off6 k0_t1 v27 k0_t2 (BitVec.ofNat 32 (1 + r.val))) a + S512x128.size a ≤ S8192x128.size a := fun k0_t1 v27 k0_hw1 k0_t2 r => k0_hw1.1.2.2.2.2.1 k0_t2 r
theorem k0_mult6_dvd : ∀ (k0_t1 : Fin k0_t1_loop.trips) (v27 : BitVec 32) (k0_hw1 : k0_chk1 k0_t1 v27) (k0_t2 : Fin (k0_t2_loop k0_t1 v27).trips), 512 ∣ (k0_mult6 k0_t1 v27 k0_t2).toNat := fun k0_t1 v27 k0_hw1 k0_t2 => k0_hw1.1.2.2.2.2.2.1 k0_t2
theorem k0_off7_inb : ∀ (k0_t1 : Fin k0_t1_loop.trips) (v27 : BitVec 32) (k0_hw1 : k0_chk1 k0_t1 v27) (k0_t2 : Fin (k0_t2_loop k0_t1 v27).trips), ∀ a, (k0_off7 k0_t1 v27 k0_t2) a + S512x128.size a ≤ S8192x128.size a := fun k0_t1 v27 k0_hw1 k0_t2 => k0_hw1.1.2.2.2.2.2.2.1 k0_t2
theorem k0_mult7_dvd : ∀ (k0_t1 : Fin k0_t1_loop.trips) (v27 : BitVec 32) (k0_hw1 : k0_chk1 k0_t1 v27) (k0_t2 : Fin (k0_t2_loop k0_t1 v27).trips), 128 ∣ (k0_mult7 k0_t1 v27 k0_t2).toNat := fun k0_t1 v27 k0_hw1 k0_t2 => k0_hw1.1.2.2.2.2.2.2.2.1 k0_t2
theorem k0_off8_inb : ∀ (k0_t1 : Fin k0_t1_loop.trips) (v27 : BitVec 32) (k0_hw1 : k0_chk1 k0_t1 v27) (k0_t2 : Fin (k0_t2_loop k0_t1 v27).trips), ∀ (r : Fin 4), ∀ a, (k0_off8 k0_t1 v27 k0_t2 (BitVec.ofNat 32 (128 * r.val))) a + S1x1x128.size a ≤ S1x1x8192.size a := fun k0_t1 v27 k0_hw1 k0_t2 r => k0_hw1.1.2.2.2.2.2.2.2.2.1 k0_t2 r
theorem k0_mult8_dvd : ∀ (k0_t1 : Fin k0_t1_loop.trips) (v27 : BitVec 32) (k0_hw1 : k0_chk1 k0_t1 v27) (k0_t2 : Fin (k0_t2_loop k0_t1 v27).trips), 128 ∣ (k0_mult8 k0_t1 v27 k0_t2).toNat := fun k0_t1 v27 k0_hw1 k0_t2 => k0_hw1.1.2.2.2.2.2.2.2.2.2.1 k0_t2
theorem k0_mult9_dvd : ∀ (k0_t1 : Fin k0_t1_loop.trips) (v27 : BitVec 32) (k0_hw1 : k0_chk1 k0_t1 v27) (k0_t2 : Fin (k0_t2_loop k0_t1 v27).trips), 128 ∣ (k0_mult9 k0_t1 v27 k0_t2).toNat := fun k0_t1 v27 k0_hw1 k0_t2 => k0_hw1.1.2.2.2.2.2.2.2.2.2.2.1 k0_t2
theorem k0_mult10_dvd : ∀ (k0_t1 : Fin k0_t1_loop.trips) (v27 : BitVec 32) (k0_hw1 : k0_chk1 k0_t1 v27) (k0_t2 : Fin (k0_t2_loop k0_t1 v27).trips), 128 ∣ (k0_mult10 k0_t1 v27 k0_t2).toNat := fun k0_t1 v27 k0_hw1 k0_t2 => k0_hw1.1.2.2.2.2.2.2.2.2.2.2.2.1 k0_t2
theorem k0_mult11_dvd : ∀ (k0_t1 : Fin k0_t1_loop.trips) (v27 : BitVec 32) (k0_hw1 : k0_chk1 k0_t1 v27) (k0_t2 : Fin (k0_t2_loop k0_t1 v27).trips), 128 ∣ (k0_mult11 k0_t1 v27 k0_t2).toNat := fun k0_t1 v27 k0_hw1 k0_t2 => k0_hw1.1.2.2.2.2.2.2.2.2.2.2.2.2.1 k0_t2
theorem k0_mult12_dvd : ∀ (k0_t1 : Fin k0_t1_loop.trips) (v27 : BitVec 32) (k0_hw1 : k0_chk1 k0_t1 v27) (k0_t2 : Fin (k0_t2_loop k0_t1 v27).trips), 128 ∣ (k0_mult12 k0_t1 v27 k0_t2).toNat := fun k0_t1 v27 k0_hw1 k0_t2 => k0_hw1.1.2.2.2.2.2.2.2.2.2.2.2.2.2.1 k0_t2
theorem k0_mult13_dvd : ∀ (k0_t1 : Fin k0_t1_loop.trips) (v27 : BitVec 32) (k0_hw1 : k0_chk1 k0_t1 v27) (k0_t2 : Fin (k0_t2_loop k0_t1 v27).trips), 128 ∣ (k0_mult13 k0_t1 v27 k0_t2).toNat := fun k0_t1 v27 k0_hw1 k0_t2 => k0_hw1.1.2.2.2.2.2.2.2.2.2.2.2.2.2.2.1 k0_t2
theorem k0_mult14_dvd : ∀ (k0_t1 : Fin k0_t1_loop.trips) (v27 : BitVec 32) (k0_hw1 : k0_chk1 k0_t1 v27) (k0_t2 : Fin (k0_t2_loop k0_t1 v27).trips), 128 ∣ (k0_mult14 k0_t1 v27 k0_t2).toNat := fun k0_t1 v27 k0_hw1 k0_t2 => k0_hw1.1.2.2.2.2.2.2.2.2.2.2.2.2.2.2.2.1 k0_t2
theorem k0_mult15_dvd : ∀ (k0_t1 : Fin k0_t1_loop.trips) (v27 : BitVec 32) (k0_hw1 : k0_chk1 k0_t1 v27) (k0_t2 : Fin (k0_t2_loop k0_t1 v27).trips), 512 ∣ (k0_mult15 k0_t1 v27 k0_t2).toNat := fun k0_t1 v27 k0_hw1 k0_t2 => k0_hw1.1.2.2.2.2.2.2.2.2.2.2.2.2.2.2.2.2.1 k0_t2
theorem k0_mult17_dvd : ∀ (k0_t1 : Fin k0_t1_loop.trips) (v27 : BitVec 32) (k0_hw1 : k0_chk1 k0_t1 v27) (k0_t2 : Fin (k0_t2_loop k0_t1 v27).trips), 512 ∣ (k0_mult17 k0_t1 v27 k0_t2).toNat := fun k0_t1 v27 k0_hw1 k0_t2 => k0_hw1.1.2.2.2.2.2.2.2.2.2.2.2.2.2.2.2.2.2.1 k0_t2
theorem k0_mult18_dvd : ∀ (k0_t1 : Fin k0_t1_loop.trips) (v27 : BitVec 32) (k0_hw1 : k0_chk1 k0_t1 v27) (k0_t2 : Fin (k0_t2_loop k0_t1 v27).trips), 128 ∣ (k0_mult18 k0_t1 v27 k0_t2).toNat := fun k0_t1 v27 k0_hw1 k0_t2 => k0_hw1.1.2.2.2.2.2.2.2.2.2.2.2.2.2.2.2.2.2.2.1 k0_t2
theorem k0_off9_inb : ∀ (k0_t1 : Fin k0_t1_loop.trips) (v27 : BitVec 32) (k0_hw1 : k0_chk1 k0_t1 v27) (k0_t2 : Fin (k0_t2_loop k0_t1 v27).trips), ∀ (r : Fin 4), ∀ a, (k0_off9 k0_t1 v27 k0_t2 (BitVec.ofNat 32 (128 * r.val))) a + S1x1x128.size a ≤ S1x1x8192.size a := fun k0_t1 v27 k0_hw1 k0_t2 r => k0_hw1.1.2.2.2.2.2.2.2.2.2.2.2.2.2.2.2.2.2.2.2.1 k0_t2 r
theorem k0_mult19_dvd : ∀ (k0_t1 : Fin k0_t1_loop.trips) (v27 : BitVec 32) (k0_hw1 : k0_chk1 k0_t1 v27) (k0_t2 : Fin (k0_t2_loop k0_t1 v27).trips), 128 ∣ (k0_mult19 k0_t1 v27 k0_t2).toNat := fun k0_t1 v27 k0_hw1 k0_t2 => k0_hw1.1.2.2.2.2.2.2.2.2.2.2.2.2.2.2.2.2.2.2.2.2.1 k0_t2
theorem k0_mult20_dvd : ∀ (k0_t1 : Fin k0_t1_loop.trips) (v27 : BitVec 32) (k0_hw1 : k0_chk1 k0_t1 v27) (k0_t2 : Fin (k0_t2_loop k0_t1 v27).trips), 128 ∣ (k0_mult20 k0_t1 v27 k0_t2).toNat := fun k0_t1 v27 k0_hw1 k0_t2 => k0_hw1.1.2.2.2.2.2.2.2.2.2.2.2.2.2.2.2.2.2.2.2.2.2.1 k0_t2
theorem k0_mult21_dvd : ∀ (k0_t1 : Fin k0_t1_loop.trips) (v27 : BitVec 32) (k0_hw1 : k0_chk1 k0_t1 v27) (k0_t2 : Fin (k0_t2_loop k0_t1 v27).trips), 128 ∣ (k0_mult21 k0_t1 v27 k0_t2).toNat := fun k0_t1 v27 k0_hw1 k0_t2 => k0_hw1.1.2.2.2.2.2.2.2.2.2.2.2.2.2.2.2.2.2.2.2.2.2.2.1 k0_t2
theorem k0_mult22_dvd : ∀ (k0_t1 : Fin k0_t1_loop.trips) (v27 : BitVec 32) (k0_hw1 : k0_chk1 k0_t1 v27) (k0_t2 : Fin (k0_t2_loop k0_t1 v27).trips), 128 ∣ (k0_mult22 k0_t1 v27 k0_t2).toNat := fun k0_t1 v27 k0_hw1 k0_t2 => k0_hw1.1.2.2.2.2.2.2.2.2.2.2.2.2.2.2.2.2.2.2.2.2.2.2.2.1 k0_t2
theorem k0_mult23_dvd : ∀ (k0_t1 : Fin k0_t1_loop.trips) (v27 : BitVec 32) (k0_hw1 : k0_chk1 k0_t1 v27) (k0_t2 : Fin (k0_t2_loop k0_t1 v27).trips), 128 ∣ (k0_mult23 k0_t1 v27 k0_t2).toNat := fun k0_t1 v27 k0_hw1 k0_t2 => k0_hw1.1.2.2.2.2.2.2.2.2.2.2.2.2.2.2.2.2.2.2.2.2.2.2.2.2.1 k0_t2
theorem k0_mult24_dvd : ∀ (k0_t1 : Fin k0_t1_loop.trips) (v27 : BitVec 32) (k0_hw1 : k0_chk1 k0_t1 v27) (k0_t2 : Fin (k0_t2_loop k0_t1 v27).trips), 128 ∣ (k0_mult24 k0_t1 v27 k0_t2).toNat := fun k0_t1 v27 k0_hw1 k0_t2 => k0_hw1.1.2.2.2.2.2.2.2.2.2.2.2.2.2.2.2.2.2.2.2.2.2.2.2.2.2.1 k0_t2
theorem k0_mult25_dvd : ∀ (k0_t1 : Fin k0_t1_loop.trips) (v27 : BitVec 32) (k0_hw1 : k0_chk1 k0_t1 v27) (k0_t2 : Fin (k0_t2_loop k0_t1 v27).trips), 128 ∣ (k0_mult25 k0_t1 v27 k0_t2).toNat := fun k0_t1 v27 k0_hw1 k0_t2 => k0_hw1.1.2.2.2.2.2.2.2.2.2.2.2.2.2.2.2.2.2.2.2.2.2.2.2.2.2.2.1 k0_t2
theorem k0_t3_ok : ∀ (k0_t1 : Fin k0_t1_loop.trips) (v27 : BitVec 32) (k0_hw1 : k0_chk1 k0_t1 v27), (k0_t3_loop k0_t1 v27).OK := fun k0_t1 v27 k0_hw1 => k0_hw1.1.2.2.2.2.2.2.2.2.2.2.2.2.2.2.2.2.2.2.2.2.2.2.2.2.2.2.2.1
theorem k0_mult26_dvd : ∀ (k0_t1 : Fin k0_t1_loop.trips) (v27 : BitVec 32) (k0_hw1 : k0_chk1 k0_t1 v27) (k0_t3 : Fin (k0_t3_loop k0_t1 v27).trips), 512 ∣ (k0_mult26 k0_t1 v27 k0_t3).toNat := fun k0_t1 v27 k0_hw1 k0_t3 => k0_hw1.1.2.2.2.2.2.2.2.2.2.2.2.2.2.2.2.2.2.2.2.2.2.2.2.2.2.2.2.2.1 k0_t3
theorem k0_off11_inb : ∀ (k0_t1 : Fin k0_t1_loop.trips) (v27 : BitVec 32) (k0_hw1 : k0_chk1 k0_t1 v27) (k0_t3 : Fin (k0_t3_loop k0_t1 v27).trips), ∀ (r : Fin 2), ∀ a, (k0_off11 k0_t1 v27 k0_t3 (BitVec.ofNat 32 (1 + r.val))) a + S512x128.size a ≤ S8192x128.size a := fun k0_t1 v27 k0_hw1 k0_t3 r => k0_hw1.1.2.2.2.2.2.2.2.2.2.2.2.2.2.2.2.2.2.2.2.2.2.2.2.2.2.2.2.2.2.1 k0_t3 r
theorem k0_mult28_dvd : ∀ (k0_t1 : Fin k0_t1_loop.trips) (v27 : BitVec 32) (k0_hw1 : k0_chk1 k0_t1 v27) (k0_t3 : Fin (k0_t3_loop k0_t1 v27).trips), 512 ∣ (k0_mult28 k0_t1 v27 k0_t3).toNat := fun k0_t1 v27 k0_hw1 k0_t3 => k0_hw1.1.2.2.2.2.2.2.2.2.2.2.2.2.2.2.2.2.2.2.2.2.2.2.2.2.2.2.2.2.2.2.1 k0_t3
theorem k0_off12_inb : ∀ (k0_t1 : Fin k0_t1_loop.trips) (v27 : BitVec 32) (k0_hw1 : k0_chk1 k0_t1 v27) (k0_t3 : Fin (k0_t3_loop k0_t1 v27).trips), ∀ a, (k0_off12 k0_t1 v27 k0_t3) a + S512x128.size a ≤ S8192x128.size a := fun k0_t1 v27 k0_hw1 k0_t3 => k0_hw1.1.2.2.2.2.2.2.2.2.2.2.2.2.2.2.2.2.2.2.2.2.2.2.2.2.2.2.2.2.2.2.2 k0_t3
theorem k0_mult29_dvd : ∀ (k0_t1 : Fin k0_t1_loop.trips) (v27 : BitVec 32) (k0_hw1 : k0_chk1 k0_t1 v27) (k0_t3 : Fin (k0_t3_loop k0_t1 v27).trips), 128 ∣ (k0_mult29 k0_t1 v27 k0_t3).toNat := fun k0_t1 v27 k0_hw1 k0_t3 => k0_hw1.2.1 k0_t3
theorem k0_off13_inb : ∀ (k0_t1 : Fin k0_t1_loop.trips) (v27 : BitVec 32) (k0_hw1 : k0_chk1 k0_t1 v27) (k0_t3 : Fin (k0_t3_loop k0_t1 v27).trips), ∀ (r : Fin 4), ∀ a, (k0_off13 k0_t1 v27 k0_t3 (BitVec.ofNat 32 (128 * r.val))) a + S1x1x128.size a ≤ S1x1x8192.size a := fun k0_t1 v27 k0_hw1 k0_t3 r => k0_hw1.2.2.1 k0_t3 r
theorem k0_mult30_dvd : ∀ (k0_t1 : Fin k0_t1_loop.trips) (v27 : BitVec 32) (k0_hw1 : k0_chk1 k0_t1 v27) (k0_t3 : Fin (k0_t3_loop k0_t1 v27).trips), 128 ∣ (k0_mult30 k0_t1 v27 k0_t3).toNat := fun k0_t1 v27 k0_hw1 k0_t3 => k0_hw1.2.2.2.1 k0_t3
theorem k0_mult31_dvd : ∀ (k0_t1 : Fin k0_t1_loop.trips) (v27 : BitVec 32) (k0_hw1 : k0_chk1 k0_t1 v27) (k0_t3 : Fin (k0_t3_loop k0_t1 v27).trips), 128 ∣ (k0_mult31 k0_t1 v27 k0_t3).toNat := fun k0_t1 v27 k0_hw1 k0_t3 => k0_hw1.2.2.2.2.1 k0_t3
theorem k0_mult32_dvd : ∀ (k0_t1 : Fin k0_t1_loop.trips) (v27 : BitVec 32) (k0_hw1 : k0_chk1 k0_t1 v27) (k0_t3 : Fin (k0_t3_loop k0_t1 v27).trips), 128 ∣ (k0_mult32 k0_t1 v27 k0_t3).toNat := fun k0_t1 v27 k0_hw1 k0_t3 => k0_hw1.2.2.2.2.2.1 k0_t3
theorem k0_mult33_dvd : ∀ (k0_t1 : Fin k0_t1_loop.trips) (v27 : BitVec 32) (k0_hw1 : k0_chk1 k0_t1 v27) (k0_t3 : Fin (k0_t3_loop k0_t1 v27).trips), 128 ∣ (k0_mult33 k0_t1 v27 k0_t3).toNat := fun k0_t1 v27 k0_hw1 k0_t3 => k0_hw1.2.2.2.2.2.2.1 k0_t3
theorem k0_mult34_dvd : ∀ (k0_t1 : Fin k0_t1_loop.trips) (v27 : BitVec 32) (k0_hw1 : k0_chk1 k0_t1 v27) (k0_t3 : Fin (k0_t3_loop k0_t1 v27).trips), 128 ∣ (k0_mult34 k0_t1 v27 k0_t3).toNat := fun k0_t1 v27 k0_hw1 k0_t3 => k0_hw1.2.2.2.2.2.2.2.1 k0_t3
theorem k0_mult35_dvd : ∀ (k0_t1 : Fin k0_t1_loop.trips) (v27 : BitVec 32) (k0_hw1 : k0_chk1 k0_t1 v27) (k0_t3 : Fin (k0_t3_loop k0_t1 v27).trips), 128 ∣ (k0_mult35 k0_t1 v27 k0_t3).toNat := fun k0_t1 v27 k0_hw1 k0_t3 => k0_hw1.2.2.2.2.2.2.2.2.1 k0_t3
theorem k0_mult36_dvd : ∀ (k0_t1 : Fin k0_t1_loop.trips) (v27 : BitVec 32) (k0_hw1 : k0_chk1 k0_t1 v27) (k0_t3 : Fin (k0_t3_loop k0_t1 v27).trips), 128 ∣ (k0_mult36 k0_t1 v27 k0_t3).toNat := fun k0_t1 v27 k0_hw1 k0_t3 => k0_hw1.2.2.2.2.2.2.2.2.2.1 k0_t3
theorem k0_mult37_dvd : ∀ (k0_t1 : Fin k0_t1_loop.trips) (v27 : BitVec 32) (k0_hw1 : k0_chk1 k0_t1 v27) (k0_t3 : Fin (k0_t3_loop k0_t1 v27).trips), 512 ∣ (k0_mult37 k0_t1 v27 k0_t3).toNat := fun k0_t1 v27 k0_hw1 k0_t3 => k0_hw1.2.2.2.2.2.2.2.2.2.2.1 k0_t3
theorem k0_mult39_dvd : ∀ (k0_t1 : Fin k0_t1_loop.trips) (v27 : BitVec 32) (k0_hw1 : k0_chk1 k0_t1 v27) (k0_t3 : Fin (k0_t3_loop k0_t1 v27).trips), 512 ∣ (k0_mult39 k0_t1 v27 k0_t3).toNat := fun k0_t1 v27 k0_hw1 k0_t3 => k0_hw1.2.2.2.2.2.2.2.2.2.2.2.1 k0_t3
theorem k0_mult40_dvd : ∀ (k0_t1 : Fin k0_t1_loop.trips) (v27 : BitVec 32) (k0_hw1 : k0_chk1 k0_t1 v27) (k0_t3 : Fin (k0_t3_loop k0_t1 v27).trips), 128 ∣ (k0_mult40 k0_t1 v27 k0_t3).toNat := fun k0_t1 v27 k0_hw1 k0_t3 => k0_hw1.2.2.2.2.2.2.2.2.2.2.2.2.1 k0_t3
theorem k0_off14_inb : ∀ (k0_t1 : Fin k0_t1_loop.trips) (v27 : BitVec 32) (k0_hw1 : k0_chk1 k0_t1 v27) (k0_t3 : Fin (k0_t3_loop k0_t1 v27).trips), ∀ (r : Fin 4), ∀ a, (k0_off14 k0_t1 v27 k0_t3 (BitVec.ofNat 32 (128 * r.val))) a + S1x1x128.size a ≤ S1x1x8192.size a := fun k0_t1 v27 k0_hw1 k0_t3 r => k0_hw1.2.2.2.2.2.2.2.2.2.2.2.2.2.1 k0_t3 r
theorem k0_mult41_dvd : ∀ (k0_t1 : Fin k0_t1_loop.trips) (v27 : BitVec 32) (k0_hw1 : k0_chk1 k0_t1 v27) (k0_t3 : Fin (k0_t3_loop k0_t1 v27).trips), 128 ∣ (k0_mult41 k0_t1 v27 k0_t3).toNat := fun k0_t1 v27 k0_hw1 k0_t3 => k0_hw1.2.2.2.2.2.2.2.2.2.2.2.2.2.2.1 k0_t3
theorem k0_mult42_dvd : ∀ (k0_t1 : Fin k0_t1_loop.trips) (v27 : BitVec 32) (k0_hw1 : k0_chk1 k0_t1 v27) (k0_t3 : Fin (k0_t3_loop k0_t1 v27).trips), 128 ∣ (k0_mult42 k0_t1 v27 k0_t3).toNat := fun k0_t1 v27 k0_hw1 k0_t3 => k0_hw1.2.2.2.2.2.2.2.2.2.2.2.2.2.2.2.1 k0_t3
theorem k0_mult43_dvd : ∀ (k0_t1 : Fin k0_t1_loop.trips) (v27 : BitVec 32) (k0_hw1 : k0_chk1 k0_t1 v27) (k0_t3 : Fin (k0_t3_loop k0_t1 v27).trips), 128 ∣ (k0_mult43 k0_t1 v27 k0_t3).toNat := fun k0_t1 v27 k0_hw1 k0_t3 => k0_hw1.2.2.2.2.2.2.2.2.2.2.2.2.2.2.2.2.1 k0_t3
theorem k0_mult44_dvd : ∀ (k0_t1 : Fin k0_t1_loop.trips) (v27 : BitVec 32) (k0_hw1 : k0_chk1 k0_t1 v27) (k0_t3 : Fin (k0_t3_loop k0_t1 v27).trips), 128 ∣ (k0_mult44 k0_t1 v27 k0_t3).toNat := fun k0_t1 v27 k0_hw1 k0_t3 => k0_hw1.2.2.2.2.2.2.2.2.2.2.2.2.2.2.2.2.2.1 k0_t3
theorem k0_mult45_dvd : ∀ (k0_t1 : Fin k0_t1_loop.trips) (v27 : BitVec 32) (k0_hw1 : k0_chk1 k0_t1 v27) (k0_t3 : Fin (k0_t3_loop k0_t1 v27).trips), 128 ∣ (k0_mult45 k0_t1 v27 k0_t3).toNat := fun k0_t1 v27 k0_hw1 k0_t3 => k0_hw1.2.2.2.2.2.2.2.2.2.2.2.2.2.2.2.2.2.2.1 k0_t3
theorem k0_mult46_dvd : ∀ (k0_t1 : Fin k0_t1_loop.trips) (v27 : BitVec 32) (k0_hw1 : k0_chk1 k0_t1 v27) (k0_t3 : Fin (k0_t3_loop k0_t1 v27).trips), 128 ∣ (k0_mult46 k0_t1 v27 k0_t3).toNat := fun k0_t1 v27 k0_hw1 k0_t3 => k0_hw1.2.2.2.2.2.2.2.2.2.2.2.2.2.2.2.2.2.2.2.1 k0_t3
theorem k0_mult47_dvd : ∀ (k0_t1 : Fin k0_t1_loop.trips) (v27 : BitVec 32) (k0_hw1 : k0_chk1 k0_t1 v27) (k0_t3 : Fin (k0_t3_loop k0_t1 v27).trips), 128 ∣ (k0_mult47 k0_t1 v27 k0_t3).toNat := fun k0_t1 v27 k0_hw1 k0_t3 => k0_hw1.2.2.2.2.2.2.2.2.2.2.2.2.2.2.2.2.2.2.2.2 k0_t3

def k0_mult48 (k0_t1 : Fin k0_t1_loop.trips) : BitVec 32 :=
  let c2_i32_24 : BitVec 32 := 2#32
  let c0_i32 : BitVec 32 := 0#32
  let c1_i32 : BitVec 32 := 1#32
  let arg13 : BitVec 32 := Scf.iv c0_i32 c1_i32 k0_t1
  let v46 : BitVec 32 := Scalar.muli c2_i32_24 arg13
  let c1_i32_25 : BitVec 32 := 1#32
  let v47 : BitVec 32 := Scalar.addi v46 c1_i32_25
  let c512_i32_26 : BitVec 32 := 512#32
  let v48 : BitVec 32 := Scalar.muli v47 c512_i32_26
  v48
def k0_mult49 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c512_i32_27 : BitVec 32 := 512#32
  let v50 : BitVec 32 := Scalar.addi v2 c512_i32_27
  v50
def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let c512_i32_27 : BitVec 32 := 512#32
  let v50 : BitVec 32 := Scalar.addi v2 c512_i32_27
  let v51 : BitVec 32 := v50
  let v52 : Index := Scalar.indexCast v51
  let c0_28 : Index := 0#32
  ![v52.toNat, 0]
def k0_off16 (k0_t1 : Fin k0_t1_loop.trips) : Fin 2 → Nat :=
  let c2_i32_24 : BitVec 32 := 2#32
  let c0_i32 : BitVec 32 := 0#32
  let c1_i32 : BitVec 32 := 1#32
  let arg13 : BitVec 32 := Scf.iv c0_i32 c1_i32 k0_t1
  let v46 : BitVec 32 := Scalar.muli c2_i32_24 arg13
  let c1_i32_25 : BitVec 32 := 1#32
  let v47 : BitVec 32 := Scalar.addi v46 c1_i32_25
  let c512_i32_26 : BitVec 32 := 512#32
  let v48 : BitVec 32 := Scalar.muli v47 c512_i32_26
  let v49 : BitVec 32 := v48
  let v54 : Index := Scalar.indexCast v49
  let c0_29 : Index := 0#32
  ![v54.toNat, 0]
def k0_mult50 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  v61
def k0_off17 (k0_t1 : Fin k0_t1_loop.trips) : Fin 2 → Nat :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let v63 : Index := Scalar.indexCast v62
  let c0_34 : Index := 0#32
  ![v63.toNat, 0]
def k0_mult51 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c0_i32_35 : BitVec 32 := 0#32
  let v65 : BitVec 32 := Scalar.addi v62 c0_i32_35
  v65
def k0_off18 (k0_t1 : Fin k0_t1_loop.trips) (c0_i32_35 : BitVec 32) : Fin 3 → Nat :=
  let c0_39 : Index := 0#32
  let c0_40 : Index := 0#32
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let v65 : BitVec 32 := Scalar.addi v62 c0_i32_35
  let v66 : BitVec 32 := v65
  let v69 : Index := Scalar.indexCast v66
  ![0, 0, v69.toNat]
def k0_mult52 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c128_i32 : BitVec 32 := 128#32
  let v81 : BitVec 32 := Scalar.addi v62 c128_i32
  v81
def k0_mult53 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c256_i32 : BitVec 32 := 256#32
  let v97 : BitVec 32 := Scalar.addi v62 c256_i32
  v97
def k0_mult54 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c384_i32 : BitVec 32 := 384#32
  let v113 : BitVec 32 := Scalar.addi v62 c384_i32
  v113
def k0_mult55 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c0_i32_70 : BitVec 32 := 0#32
  let v146 : BitVec 32 := Scalar.addi v62 c0_i32_70
  v146
def k0_mult56 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c128_i32_78 : BitVec 32 := 128#32
  let v164 : BitVec 32 := Scalar.addi v62 c128_i32_78
  v164
def k0_mult57 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c256_i32_86 : BitVec 32 := 256#32
  let v182 : BitVec 32 := Scalar.addi v62 c256_i32_86
  v182
def k0_mult58 (k0_t1 : Fin k0_t1_loop.trips) : BitVec 32 :=
  let c2_i32_32 : BitVec 32 := 2#32
  let c0_i32 : BitVec 32 := 0#32
  let c1_i32 : BitVec 32 := 1#32
  let arg13 : BitVec 32 := Scf.iv c0_i32 c1_i32 k0_t1
  let v60 : BitVec 32 := Scalar.muli c2_i32_32 arg13
  let c512_i32_33 : BitVec 32 := 512#32
  let v61 : BitVec 32 := Scalar.muli v60 c512_i32_33
  let v62 : BitVec 32 := v61
  let c384_i32_94 : BitVec 32 := 384#32
  let v200 : BitVec 32 := Scalar.addi v62 c384_i32_94
  v200
def k0_mult59 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  v241
def k0_mult60 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c0_i32_115 : BitVec 32 := 0#32
  let v245 : BitVec 32 := Scalar.addi v242 c0_i32_115
  v245
def k0_off19 (k0_t1 : Fin k0_t1_loop.trips) (c0_i32_115 : BitVec 32) : Fin 3 → Nat :=
  let c0_119 : Index := 0#32
  let c0_120 : Index := 0#32
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let v245 : BitVec 32 := Scalar.addi v242 c0_i32_115
  let v246 : BitVec 32 := v245
  let v249 : Index := Scalar.indexCast v246
  ![0, 0, v249.toNat]
def k0_mult61 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c128_i32_123 : BitVec 32 := 128#32
  let v261 : BitVec 32 := Scalar.addi v242 c128_i32_123
  v261
def k0_mult62 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c256_i32_131 : BitVec 32 := 256#32
  let v277 : BitVec 32 := Scalar.addi v242 c256_i32_131
  v277
def k0_mult63 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c384_i32_139 : BitVec 32 := 384#32
  let v293 : BitVec 32 := Scalar.addi v242 c384_i32_139
  v293
def k0_mult64 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c0_i32_156 : BitVec 32 := 0#32
  let v326 : BitVec 32 := Scalar.addi v242 c0_i32_156
  v326
def k0_mult65 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c128_i32_164 : BitVec 32 := 128#32
  let v344 : BitVec 32 := Scalar.addi v242 c128_i32_164
  v344
def k0_mult66 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c256_i32_172 : BitVec 32 := 256#32
  let v362 : BitVec 32 := Scalar.addi v242 c256_i32_172
  v362
def k0_mult67 (k0_t1 : Fin k0_t1_loop.trips) : BitVec 32 :=
  let c2_i32_111 : BitVec 32 := 2#32
  let c0_i32 : BitVec 32 := 0#32
  let c1_i32 : BitVec 32 := 1#32
  let arg13 : BitVec 32 := Scf.iv c0_i32 c1_i32 k0_t1
  let v239 : BitVec 32 := Scalar.muli c2_i32_111 arg13
  let c1_i32_112 : BitVec 32 := 1#32
  let v240 : BitVec 32 := Scalar.addi v239 c1_i32_112
  let c512_i32_113 : BitVec 32 := 512#32
  let v241 : BitVec 32 := Scalar.muli v240 c512_i32_113
  let v242 : BitVec 32 := v241
  let c384_i32_180 : BitVec 32 := 384#32
  let v380 : BitVec 32 := Scalar.addi v242 c384_i32_180
  v380
def k0_off20 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v1 : BitVec 32 := Scalar.muli arg13 c1024_i32
  let v2 : BitVec 32 := v1
  let v425 : Index := Scalar.indexCast v2
  let c0_202 : Index := 0#32
  ![v425.toNat, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnPIdeal.lean ====
variable {F : FTy → Type} [FloatOps F] [Named F]
def κ : String → Option EReal := fun
  | "mask" => some ⊥
  | _ => none
-- ==== AttnS.lean ====
abbrev S1024x1024 : Shape := ⟨2, ![1024, 1024]⟩
abbrev S32x2048x8x128 : Shape := ⟨4, ![32, 2048, 8, 128]⟩
abbrev S256x2176 : Shape := ⟨2, ![256, 2176]⟩
abbrev S32x16384x128 : Shape := ⟨3, ![32, 16384, 128]⟩
abbrev S32x1024 : Shape := ⟨2, ![32, 1024]⟩
abbrev S1x16384x128 : Shape := ⟨3, ![1, 16384, 128]⟩
abbrev S8x2176 : Shape := ⟨2, ![8, 2176]⟩
abbrev S32x32 : Shape := ⟨2, ![32, 32]⟩
abbrev S32x128 : Shape := ⟨2, ![32, 128]⟩
abbrev S1x2048 : Shape := ⟨2, ![1, 2048]⟩
abbrev S1x32 : Shape := ⟨2, ![1, 32]⟩
abbrev S32 : Shape := ⟨1, ![32]⟩
abbrev S32x1 : Shape := ⟨2, ![32, 1]⟩
abbrev S1x2048x128 : Shape := ⟨3, ![1, 2048, 128]⟩
abbrev S2048x128 : Shape := ⟨2, ![2048, 128]⟩
abbrev S32x2048 : Shape := ⟨2, ![32, 2048]⟩

abbrev nBuf : Space → Nat
  | .hbm => 9
  | .vmem => 14
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S32x2048x8x128, .f32⟩
  | .hbm, ⟨4, _⟩ => ⟨S32x2048x8x128, .f32⟩
  | .hbm, ⟨5, _⟩ => ⟨S256x2176, .f32⟩
  | .hbm, ⟨6, _⟩ => ⟨S32x16384x128, .f32⟩
  | .hbm, ⟨7, _⟩ => ⟨S32x16384x128, .f32⟩
  | .hbm, ⟨8, _⟩ => ⟨S1024x1024, .f32⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S1x16384x128, .f32⟩
  | .local _ .vmem, ⟨7, _⟩ => ⟨S1x16384x128, .f32⟩
  | .local _ .vmem, ⟨8, _⟩ => ⟨S1x16384x128, .f32⟩
  | .local _ .vmem, ⟨9, _⟩ => ⟨S1x16384x128, .f32⟩
  | .local _ .vmem, ⟨10, _⟩ => ⟨S8x2176, .f32⟩
  | .local _ .vmem, ⟨11, _⟩ => ⟨S8x2176, .f32⟩
  | .local _ .vmem, ⟨12, _⟩ => ⟨S32x1024, .f32⟩
  | .local _ .vmem, ⟨13, _⟩ => ⟨S32x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnSIdeal.lean ====
variable {F : FTy → Type} [FloatOps F] [Named F]
def κ : String → Option EReal := fun
  | "mask" => some ⊥
  | _ => none
-- ==== AttnSRefIdeal.lean ====
abbrev S1024x1024 : Shape := ⟨2, ![1024, 1024]⟩
abbrev S32x2048x8x128 : Shape := ⟨4, ![32, 2048, 8, 128]⟩
abbrev S256x2176 : Shape := ⟨2, ![256, 2176]⟩
abbrev S32x32x8x128 : Shape := ⟨4, ![32, 32, 8, 128]⟩
abbrev S32x2080x8x128 : Shape := ⟨4, ![32, 2080, 8, 128]⟩
abbrev S32x8x2176 : Shape := ⟨3, ![32, 8, 2176]⟩
abbrev S32x8x2080 : Shape := ⟨3, ![32, 8, 2080]⟩
abbrev S32x8x32x2080 : Shape := ⟨4, ![32, 8, 32, 2080]⟩
abbrev S32x8x32 : Shape := ⟨3, ![32, 8, 32]⟩
abbrev S32x8x32x1 : Shape := ⟨4, ![32, 8, 32, 1]⟩
abbrev S32x8x1x2080 : Shape := ⟨4, ![32, 8, 1, 2080]⟩
abbrev S_ : Shape := ⟨0, ![]⟩
abbrev S2080 : Shape := ⟨1, ![2080]⟩
abbrev S32 : Shape := ⟨1, ![32]⟩
abbrev S1x2080 : Shape := ⟨2, ![1, 2080]⟩
abbrev S32x1 : Shape := ⟨2, ![32, 1]⟩
abbrev S32x2080 : Shape := ⟨2, ![32, 2080]⟩
abbrev S32x8x128x32 : Shape := ⟨4, ![32, 8, 128, 32]⟩

abbrev nBuf : Space → Nat
  | .hbm => 60
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S32x2048x8x128, .f32⟩
  | .hbm, ⟨4, _⟩ => ⟨S32x2048x8x128, .f32⟩
  | .hbm, ⟨5, _⟩ => ⟨S256x2176, .f32⟩
  | .hbm, ⟨6, _⟩ => ⟨S1024x1024, .f32⟩
  | .hbm, ⟨7, _⟩ => ⟨S32x32x8x128, .f32⟩
  | .hbm, ⟨8, _⟩ => ⟨S1024x1024, .f32⟩
  | .hbm, ⟨9, _⟩ => ⟨S32x32x8x128, .f32⟩
  | .hbm, ⟨10, _⟩ => ⟨S1024x1024, .f32⟩
  | .hbm, ⟨11, _⟩ => ⟨S32x32x8x128, .f32⟩
  | .hbm, ⟨12, _⟩ => ⟨S32x2080x8x128, .f32⟩
  | .hbm, ⟨13, _⟩ => ⟨S32x2080x8x128, .f32⟩
  | .hbm, ⟨14, _⟩ => ⟨S32x8x2176, .f32⟩
  | .hbm, ⟨15, _⟩ => ⟨S32x8x2080, .f32⟩
  | .hbm, ⟨16, _⟩ => ⟨S32x8x32x2080, .f32⟩
  | .hbm, ⟨17, _⟩ => ⟨S32x8x32, .f32⟩
  | .hbm, ⟨18, _⟩ => ⟨S32x8x32x1, .f32⟩
  | .hbm, ⟨19, _⟩ => ⟨S32x8x32x2080, .f32⟩
  | .hbm, ⟨20, _⟩ => ⟨S32x8x32x2080, .f32⟩
  | .hbm, ⟨21, _⟩ => ⟨S32x8x1x2080, .f32⟩
  | .hbm, ⟨22, _⟩ => ⟨S32x8x32x2080, .f32⟩
  | .hbm, ⟨23, _⟩ => ⟨S32x8x32x2080, .f32⟩
  | .hbm, ⟨24, _⟩ => ⟨S_, .f32⟩
  | .hbm, ⟨25, _⟩ => ⟨S_, .f32⟩
  | .hbm, ⟨26, _⟩ => ⟨S32x8x32x2080, .f32⟩
  | .hbm, ⟨27, _⟩ => ⟨S32x8x32x2080, .f32⟩
  | .hbm, ⟨28, _⟩ => ⟨S2080, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S1x2080, .i32⟩
  | .hbm, ⟨34, _⟩ => ⟨S32x1, .i32⟩
  | .hbm, ⟨35, _⟩ => ⟨S32x2080, .i32⟩
  | .hbm, ⟨36, _⟩ => ⟨S32x2080, .i32⟩
  | .hbm, ⟨37, _⟩ => ⟨S32x2080, .i1⟩
  | .hbm, ⟨38, _⟩ => ⟨S_, .f32⟩
  | .hbm, ⟨39, _⟩ => ⟨S_, .f32⟩
  | .hbm, ⟨40, _⟩ => ⟨S32x8x32x2080, .i1⟩
  | .hbm, ⟨41, _⟩ => ⟨S32x8x32x2080, .f32⟩
  | .hbm, ⟨42, _⟩ => ⟨S32x8x32x2080, .f32⟩
  | .hbm, ⟨43, _⟩ => ⟨S_, .f32⟩
  | .hbm, ⟨44, _⟩ => ⟨S32x8x32, .f32⟩
  | .hbm, ⟨45, _⟩ => ⟨S_, .f32⟩
  | .hbm, ⟨46, _⟩ => ⟨S32x8x32, .f32⟩
  | .hbm, ⟨47, _⟩ => ⟨S32x8x32, .f32⟩
  | .hbm, ⟨48, _⟩ => ⟨S32x8x32x1, .f32⟩
  | .hbm, ⟨49, _⟩ => ⟨S32x8x32x2080, .f32⟩
  | .hbm, ⟨50, _⟩ => ⟨S32x8x32x2080, .f32⟩
  | .hbm, ⟨51, _⟩ => ⟨S32x8x32x2080, .f32⟩
  | .hbm, ⟨52, _⟩ => ⟨S_, .f32⟩
  | .hbm, ⟨53, _⟩ => ⟨S32x8x32, .f32⟩
  | .hbm, ⟨54, _⟩ => ⟨S32x8x32x1, .f32⟩
  | .hbm, ⟨55, _⟩ => ⟨S32x8x32x2080, .f32⟩
  | .hbm, ⟨56, _⟩ => ⟨S32x8x32x2080, .f32⟩
  | .hbm, ⟨57, _⟩ => ⟨S32x8x128x32, .f32⟩
  | .hbm, ⟨58, _⟩ => ⟨S32x32x8x128, .f32⟩
  | .hbm, ⟨59, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S16384x8192 : Shape := ⟨2, ![16384, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .f32⟩
  | .hbm, ⟨3, _⟩ => ⟨S8192x2048, .f32⟩
  | .hbm, ⟨4, _⟩ => ⟨S16384x2048, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S16384x2048, .f32⟩
  | .hbm, ⟨11, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S4096x2048 : Shape := ⟨2, ![4096, 2048]⟩
abbrev S128x2048 : Shape := ⟨2, ![128, 2048]⟩
abbrev S1x128 : Shape := ⟨2, ![1, 128]⟩
abbrev S16384x1024 : Shape := ⟨2, ![16384, 1024]⟩
abbrev S8x16384 : Shape := ⟨2, ![8, 16384]⟩
abbrev S512x2048 : Shape := ⟨2, ![512, 2048]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S1024x2048 : Shape := ⟨2, ![1024, 2048]⟩
abbrev S512x128 : Shape := ⟨2, ![512, 128]⟩
abbrev S128x512 : Shape := ⟨2, ![128, 512]⟩

abbrev nBuf : Space → Nat
  | .hbm => 14
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4096x2048, .bf16⟩
  | .hbm, ⟨3, _⟩ => ⟨S128x2048, .bf16⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S8x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4096x2048, .bf16⟩
  | .local _ .vmem, ⟨4, _⟩ => ⟨S128x2048, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x512, .f32⟩
  | .local _ .vmem, ⟨21, _⟩ => ⟨S8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjIdeal.lean ====
abbrev S16384x2048 : Shape := ⟨2, ![16384, 2048]⟩
abbrev S1x2048 : Shape := ⟨2, ![1, 2048]⟩
abbrev S4096x2048 : Shape := ⟨2, ![4096, 2048]⟩
abbrev S128x2048 : Shape := ⟨2, ![128, 2048]⟩
abbrev S1x128 : Shape := ⟨2, ![1, 128]⟩
abbrev S16384x1024 : Shape := ⟨2, ![16384, 1024]⟩
abbrev S8x16384 : Shape := ⟨2, ![8, 16384]⟩
abbrev S512x2048 : Shape := ⟨2, ![512, 2048]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S1024x2048 : Shape := ⟨2, ![1024, 2048]⟩
abbrev S512x128 : Shape := ⟨2, ![512, 128]⟩
abbrev S128x512 : Shape := ⟨2, ![128, 512]⟩

abbrev nBuf : Space → Nat
  | .hbm => 14
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4096x2048, .bf16⟩
  | .hbm, ⟨3, _⟩ => ⟨S128x2048, .bf16⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S8x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4096x2048, .bf16⟩
  | .local _ .vmem, ⟨4, _⟩ => ⟨S128x2048, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x512, .f32⟩
  | .local _ .vmem, ⟨21, _⟩ => ⟨S8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F] [Named F]

def κ : String → Option EReal := fun
  | "scale" => some (((Real.sqrt 128)⁻¹ * (Real.log 2)⁻¹ : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjRefIdeal.lean ====
abbrev S16384x2048 : Shape := ⟨2, ![16384, 2048]⟩
abbrev S1x2048 : Shape := ⟨2, ![1, 2048]⟩
abbrev S4096x2048 : Shape := ⟨2, ![4096, 2048]⟩
abbrev S128x2048 : Shape := ⟨2, ![128, 2048]⟩
abbrev S1x128 : Shape := ⟨2, ![1, 128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S8x2048 : Shape := ⟨2, ![8, 2048]⟩
abbrev S4104x2048 : Shape := ⟨2, ![4104, 2048]⟩
abbrev S2048x4104 : Shape := ⟨2, ![2048, 4104]⟩
abbrev S16384x4104 : Shape := ⟨2, ![16384, 4104]⟩
abbrev S16384x1024 : Shape := ⟨2, ![16384, 1024]⟩
abbrev S16384x8x128 : Shape := ⟨3, ![16384, 8, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S1x8 : Shape := ⟨2, ![1, 8]⟩
abbrev S8x16384 : Shape := ⟨2, ![8, 16384]⟩

abbrev nBuf : Space → Nat
  | .hbm => 104
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4096x2048, .bf16⟩
  | .hbm, ⟨3, _⟩ => ⟨S128x2048, .bf16⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S4096x2048, .f32⟩
  | .hbm, ⟨25, _⟩ => ⟨S8x2048, .bf16⟩
  | .hbm, ⟨26, _⟩ => ⟨S8x2048, .f32⟩
  | .hbm, ⟨27, _⟩ => ⟨S4104x2048, .f32⟩
  | .hbm, ⟨28, _⟩ => ⟨S2048x4104, .f32⟩
  | .hbm, ⟨29, _⟩ => ⟨S16384x4104, .f32⟩
  | .hbm, ⟨30, _⟩ => ⟨S16384x1024, .f32⟩
  | .hbm, ⟨31, _⟩ => ⟨S16384x1024, .f32⟩
  | .hbm, ⟨32, _⟩ => ⟨S16384x8x128, .f32⟩
  | .hbm, ⟨33, _⟩ => ⟨S128, .f32⟩
  | .hbm, ⟨34, _⟩ => ⟨S16384x8x128, .f32⟩
  | .hbm, ⟨35, _⟩ => ⟨S_, .f32⟩
  | .hbm, ⟨36, _⟩ => ⟨S16384x8, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S_, .f32⟩
  | .hbm, ⟨42, _⟩ => ⟨S16384x8x1, .f32⟩
  | .hbm, ⟨43, _⟩ => ⟨S16384x8x1, .f32⟩
  | .hbm, ⟨44, _⟩ => ⟨S16384x8x1, .f32⟩
  | .hbm, ⟨45, _⟩ => ⟨S16384x8x128, .f32⟩
  | .hbm, ⟨46, _⟩ => ⟨S16384x8x128, .f32⟩
  | .hbm, ⟨47, _⟩ => ⟨S1x1x128, .f32⟩
  | .hbm, ⟨48, _⟩ => ⟨S16384x8x128, .f32⟩
  | .hbm, ⟨49, _⟩ => ⟨S16384x8x128, .f32⟩
  | .hbm, ⟨50, _⟩ => ⟨S16384x1024, .f32⟩
  | .hbm, ⟨51, _⟩ => ⟨S16384x8x128, .f32⟩
  | .hbm, ⟨52, _⟩ => ⟨S128, .f32⟩
  | .hbm, ⟨53, _⟩ => ⟨S16384x8x128, .f32⟩
  | .hbm, ⟨54, _⟩ => ⟨S_, .f32⟩
  | .hbm, ⟨55, _⟩ => ⟨S16384x8, .f32⟩
  | .hbm, ⟨56, _⟩ => ⟨S16384x8x1, .f32⟩
  | .hbm, ⟨57, _⟩ => ⟨S_, .f32⟩
  | .hbm, ⟨58, _⟩ => ⟨S16384x8x1, .f32⟩
  | .hbm, ⟨59, _⟩ => ⟨S16384x8x1, .f32⟩
  | .hbm, ⟨60, _⟩ => ⟨S_, .f32⟩
  | .hbm, ⟨61, _⟩ => ⟨S16384x8x1, .f32⟩
  | .hbm, ⟨62, _⟩ => ⟨S16384x8x1, .f32⟩
  | .hbm, ⟨63, _⟩ => ⟨S16384x8x1, .f32⟩
  | .hbm, ⟨64, _⟩ => ⟨S16384x8x128, .f32⟩
  | .hbm, ⟨65, _⟩ => ⟨S16384x8x128, .f32⟩
  | .hbm, ⟨66, _⟩ => ⟨S1x1x128, .f32⟩
  | .hbm, ⟨67, _⟩ => ⟨S16384x8x128, .f32⟩
  | .hbm, ⟨68, _⟩ => ⟨S16384x8x128, .f32⟩
  | .hbm, ⟨69, _⟩ => ⟨S16384x1024, .f32⟩
  | .hbm, ⟨70, _⟩ => ⟨S16384x8, .f32⟩
  | .hbm, ⟨71, _⟩ => ⟨S1x8, .f32⟩
  | .hbm, ⟨72, _⟩ => ⟨S16384x8, .f32⟩
  | .hbm, ⟨73, _⟩ => ⟨S16384x8, .f32⟩
  | .hbm, ⟨74, _⟩ => ⟨S16384x8, .f32⟩
  | .hbm, ⟨75, _⟩ => ⟨S_, .f32⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S16384x8, .f32⟩
  | .hbm, ⟨80, _⟩ => ⟨S16384x8, .i1⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S16384x8, .f32⟩
  | .hbm, ⟨85, _⟩ => ⟨S16384x8, .f32⟩
  | .hbm, ⟨86, _⟩ => ⟨S16384x8, .f32⟩
  | .hbm, ⟨87, _⟩ => ⟨S16384x8, .f32⟩
  | .hbm, ⟨88, _⟩ => ⟨S16384x8, .f32⟩
  | .hbm, ⟨89, _⟩ => ⟨S16384x8, .f32⟩
  | .hbm, ⟨90, _⟩ => ⟨S_, .f32⟩
  | .hbm, ⟨91, _⟩ => ⟨S_, .f32⟩
  | .hbm, ⟨92, _⟩ => ⟨S16384x8x128, .f32⟩
  | .hbm, ⟨93, _⟩ => ⟨S16384x8x128, .f32⟩
  | .hbm, ⟨94, _⟩ => ⟨S_, .f32⟩
  | .hbm, ⟨95, _⟩ => ⟨S_, .f32⟩
  | .hbm, ⟨96, _⟩ => ⟨S16384x8x128, .f32⟩
  | .hbm, ⟨97, _⟩ => ⟨S16384x8x128, .f32⟩
  | .hbm, ⟨98, _⟩ => ⟨S16384x1024, .f32⟩
  | .hbm, ⟨99, _⟩ => ⟨S16384x1024, .f32⟩
  | .hbm, ⟨100, _⟩ => ⟨S16384x1024, .bf16⟩
  | .hbm, ⟨101, _⟩ => ⟨S16384x1024, .bf16⟩
  | .hbm, ⟨102, _⟩ => ⟨S16384x1024, .bf16⟩
  | .hbm, ⟨103, _⟩ => ⟨S8x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== InProjS.lean ====
abbrev S1024x2048 : Shape := ⟨2, ![1024, 2048]⟩
abbrev S1x2048 : Shape := ⟨2, ![1, 2048]⟩
abbrev S4096x2048 : Shape := ⟨2, ![4096, 2048]⟩
abbrev S128x2048 : Shape := ⟨2, ![128, 2048]⟩
abbrev S1x128 : Shape := ⟨2, ![1, 128]⟩
abbrev S1024x1024 : Shape := ⟨2, ![1024, 1024]⟩
abbrev S8x1024 : Shape := ⟨2, ![8, 1024]⟩
abbrev S512x2048 : Shape := ⟨2, ![512, 2048]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 14
  | .vmem => 22
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S4096x2048, .bf16⟩
  | .hbm, ⟨3, _⟩ => ⟨S128x2048, .bf16⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S8x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4096x2048, .bf16⟩
  | .local _ .vmem, ⟨4, _⟩ => ⟨S128x2048, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x512, .f32⟩
  | .local _ .vmem, ⟨21, _⟩ => ⟨S8x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjSIdeal.lean ====
variable {F : FTy → Type} [FloatOps F] [Named F]
def κ : String → Option EReal := fun
  | "scale" => some (((Real.sqrt 128)⁻¹ * (Real.log 2)⁻¹ : ℝ) : EReal)
  | _ => none
-- ==== InProjSRefIdeal.lean ====
abbrev S1024x2048 : Shape := ⟨2, ![1024, 2048]⟩
abbrev S1x2048 : Shape := ⟨2, ![1, 2048]⟩
abbrev S4096x2048 : Shape := ⟨2, ![4096, 2048]⟩
abbrev S128x2048 : Shape := ⟨2, ![128, 2048]⟩
abbrev S1x128 : Shape := ⟨2, ![1, 128]⟩
abbrev S2048 : Shape := ⟨1, ![2048]⟩
abbrev S_ : Shape := ⟨0, ![]⟩
abbrev S1024 : Shape := ⟨1, ![1024]⟩
abbrev S1024x1 : Shape := ⟨2, ![1024, 1]⟩
abbrev S8x2048 : Shape := ⟨2, ![8, 2048]⟩
abbrev S4104x2048 : Shape := ⟨2, ![4104, 2048]⟩
abbrev S2048x4104 : Shape := ⟨2, ![2048, 4104]⟩
abbrev S1024x4104 : Shape := ⟨2, ![1024, 4104]⟩
abbrev S1024x1024 : Shape := ⟨2, ![1024, 1024]⟩
abbrev S1024x8x128 : Shape := ⟨3, ![1024, 8, 128]⟩
abbrev S128 : Shape := ⟨1, ![128]⟩
abbrev S1024x8 : Shape := ⟨2, ![1024, 8]⟩
abbrev S1024x8x1 : Shape := ⟨3, ![1024, 8, 1]⟩
abbrev S1x1x128 : Shape := ⟨3, ![1, 1, 128]⟩
abbrev S1x8 : Shape := ⟨2, ![1, 8]⟩
abbrev S8x1024 : Shape := ⟨2, ![8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S4096x2048, .bf16⟩
  | .hbm, ⟨3, _⟩ => ⟨S128x2048, .bf16⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S2048, .f32⟩
  | .hbm, ⟨8, _⟩ => ⟨S1024x2048, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x2048, .f32⟩
  | .hbm, ⟨20, _⟩ => ⟨S1024x2048, .f32⟩
  | .hbm, ⟨21, _⟩ => ⟨S1x2048, .f32⟩
  | .hbm, ⟨22, _⟩ => ⟨S1024x2048, .f32⟩
  | .hbm, ⟨23, _⟩ => ⟨S1024x2048, .f32⟩
  | .hbm, ⟨24, _⟩ => ⟨S4096x2048, .f32⟩
  | .hbm, ⟨25, _⟩ => ⟨S8x2048, .bf16⟩
  | .hbm, ⟨26, _⟩ => ⟨S8x2048, .f32⟩
  | .hbm, ⟨27, _⟩ => ⟨S4104x2048, .f32⟩
  | .hbm, ⟨28, _⟩ => ⟨S2048x4104, .f32⟩
  | .hbm, ⟨29, _⟩ => ⟨S1024x4104, .f32⟩
  | .hbm, ⟨30, _⟩ => ⟨S1024x1024, .f32⟩
  | .hbm, ⟨31, _⟩ => ⟨S1024x1024, .f32⟩
  | .hbm, ⟨32, _⟩ => ⟨S1024x8x128, .f32⟩
  | .hbm, ⟨33, _⟩ => ⟨S128, .f32⟩
  | .hbm, ⟨34, _⟩ => ⟨S1024x8x128, .f32⟩
  | .hbm, ⟨35, _⟩ => ⟨S_, .f32⟩
  | .hbm, ⟨36, _⟩ => ⟨S1024x8, .f32⟩
  | .hbm, ⟨37, _⟩ => ⟨S1024x8x1, .f32⟩
  | .hbm, ⟨38, _⟩ => ⟨S_, .f32⟩
  | .hbm, ⟨39, _⟩ => ⟨S1024x8x1, .f32⟩
  | .hbm, ⟨40, _⟩ => ⟨S1024x8x1, .f32⟩
  | .hbm, ⟨41, _⟩ => ⟨S_, .f32⟩
  | .hbm, ⟨42, _⟩ => ⟨S1024x8x1, .f32⟩
  | .hbm, ⟨43, _⟩ => ⟨S1024x8x1, .f32⟩
  | .hbm, ⟨44, _⟩ => ⟨S1024x8x1, .f32⟩
  | .hbm, ⟨45, _⟩ => ⟨S1024x8x128, .f32⟩
  | .hbm, ⟨46, _⟩ => ⟨S1024x8x128, .f32⟩
  | .hbm, ⟨47, _⟩ => ⟨S1x1x128, .f32⟩
  | .hbm, ⟨48, _⟩ => ⟨S1024x8x128, .f32⟩
  | .hbm, ⟨49, _⟩ => ⟨S1024x8x128, .f32⟩
  | .hbm, ⟨50, _⟩ => ⟨S1024x1024, .f32⟩
  | .hbm, ⟨51, _⟩ => ⟨S1024x8x128, .f32⟩
  | .hbm, ⟨52, _⟩ => ⟨S128, .f32⟩
  | .hbm, ⟨53, _⟩ => ⟨S1024x8x128, .f32⟩
  | .hbm, ⟨54, _⟩ => ⟨S_, .f32⟩
  | .hbm, ⟨55, _⟩ => ⟨S1024x8, .f32⟩
  | .hbm, ⟨56, _⟩ => ⟨S1024x8x1, .f32⟩
  | .hbm, ⟨57, _⟩ => ⟨S_, .f32⟩
  | .hbm, ⟨58, _⟩ => ⟨S1024x8x1, .f32⟩
  | .hbm, ⟨59, _⟩ => ⟨S1024x8x1, .f32⟩
  | .hbm, ⟨60, _⟩ => ⟨S_, .f32⟩
  | .hbm, ⟨61, _⟩ => ⟨S1024x8x1, .f32⟩
  | .hbm, ⟨62, _⟩ => ⟨S1024x8x1, .f32⟩
  | .hbm, ⟨63, _⟩ => ⟨S1024x8x1, .f32⟩
  | .hbm, ⟨64, _⟩ => ⟨S1024x8x128, .f32⟩
  | .hbm, ⟨65, _⟩ => ⟨S1024x8x128, .f32⟩
  | .hbm, ⟨66, _⟩ => ⟨S1x1x128, .f32⟩
  | .hbm, ⟨67, _⟩ => ⟨S1024x8x128, .f32⟩
  | .hbm, ⟨68, _⟩ => ⟨S1024x8x128, .f32⟩
  | .hbm, ⟨69, _⟩ => ⟨S1024x1024, .f32⟩
  | .hbm, ⟨70, _⟩ => ⟨S1024x8, .f32⟩
  | .hbm, ⟨71, _⟩ => ⟨S1x8, .f32⟩
  | .hbm, ⟨72, _⟩ => ⟨S1024x8, .f32⟩
  | .hbm, ⟨73, _⟩ => ⟨S1024x8, .f32⟩
  | .hbm, ⟨74, _⟩ => ⟨S1024x8, .f32⟩
  | .hbm, ⟨75, _⟩ => ⟨S_, .f32⟩
  | .hbm, ⟨76, _⟩ => ⟨S1024x8, .f32⟩
  | .hbm, ⟨77, _⟩ => ⟨S1024x8, .f32⟩
  | .hbm, ⟨78, _⟩ => ⟨S1024x8, .f32⟩
  | .hbm, ⟨79, _⟩ => ⟨S1024x8, .f32⟩
  | .hbm, ⟨80, _⟩ => ⟨S1024x8, .i1⟩
  | .hbm, ⟨81, _⟩ => ⟨S1024x8, .f32⟩
  | .hbm, ⟨82, _⟩ => ⟨S1024x8, .f32⟩
  | .hbm, ⟨83, _⟩ => ⟨S1024x8, .f32⟩
  | .hbm, ⟨84, _⟩ => ⟨S1024x8, .f32⟩
  | .hbm, ⟨85, _⟩ => ⟨S1024x8, .f32⟩
  | .hbm, ⟨86, _⟩ => ⟨S1024x8, .f32⟩
  | .hbm, ⟨87, _⟩ => ⟨S1024x8, .f32⟩
  | .hbm, ⟨88, _⟩ => ⟨S1024x8, .f32⟩
  | .hbm, ⟨89, _⟩ => ⟨S1024x8, .f32⟩
  | .hbm, ⟨90, _⟩ => ⟨S_, .f32⟩
  | .hbm, ⟨91, _⟩ => ⟨S_, .f32⟩
  | .hbm, ⟨92, _⟩ => ⟨S1024x8x128, .f32⟩
  | .hbm, ⟨93, _⟩ => ⟨S1024x8x128, .f32⟩
  | .hbm, ⟨94, _⟩ => ⟨S_, .f32⟩
  | .hbm, ⟨95, _⟩ => ⟨S_, .f32⟩
  | .hbm, ⟨96, _⟩ => ⟨S1024x8x128, .f32⟩
  | .hbm, ⟨97, _⟩ => ⟨S1024x8x128, .f32⟩
  | .hbm, ⟨98, _⟩ => ⟨S1024x1024, .f32⟩
  | .hbm, ⟨99, _⟩ => ⟨S1024x1024, .f32⟩
  | .hbm, ⟨100, _⟩ => ⟨S1024x1024, .bf16⟩
  | .hbm, ⟨101, _⟩ => ⟨S1024x1024, .bf16⟩
  | .hbm, ⟨102, _⟩ => ⟨S1024x1024, .bf16⟩
  | .hbm, ⟨103, _⟩ => ⟨S8x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== Mix.lean ====
abbrev S16384x2048 : Shape := ⟨2, ![16384, 2048]⟩
abbrev S16384x1024 : Shape := ⟨2, ![16384, 1024]⟩
abbrev S1024x1024 : Shape := ⟨2, ![1024, 1024]⟩
abbrev S1x1024 : Shape := ⟨2, ![1, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S8x768x128 : Shape := ⟨3, ![8, 768, 128]⟩
abbrev S512 : Shape := ⟨1, ![512]⟩
abbrev S512x1 : Shape := ⟨2, ![512, 1]⟩
abbrev S16x128 : Shape := ⟨2, ![16, 128]⟩
abbrev S1x16x128 : Shape := ⟨3, ![1, 16, 128]⟩
abbrev S1x32x128 : Shape := ⟨3, ![1, 32, 128]⟩
abbrev S32x128 : Shape := ⟨2, ![32, 128]⟩
abbrev S32x1024 : Shape := ⟨2, ![32, 1024]⟩
abbrev S1024x2048 : Shape := ⟨2, ![1024, 2048]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x2048, .f32⟩
  | .hbm, ⟨7, _⟩ => ⟨S1x2048, .f32⟩
  | .hbm, ⟨8, _⟩ => ⟨S1024x1024, .bf16⟩
  | .hbm, ⟨9, _⟩ => ⟨S2048x2048, .bf16⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S8x768x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16384x2048 : Shape := ⟨2, ![16384, 2048]⟩
abbrev S16384x1024 : Shape := ⟨2, ![16384, 1024]⟩
abbrev S1024x1024 : Shape := ⟨2, ![1024, 1024]⟩
abbrev S1x1024 : Shape := ⟨2, ![1, 1024]⟩
abbrev S2048x2048 : Shape := ⟨2, ![2048, 2048]⟩
abbrev S1x2048 : Shape := ⟨2, ![1, 2048]⟩
abbrev S32x32x16x1024 : Shape := ⟨4, ![32, 32, 16, 1024]⟩
abbrev S32x16x32x1024 : Shape := ⟨4, ![32, 16, 32, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S2048 : Shape := ⟨1, ![2048]⟩

abbrev nBuf : Space → Nat
  | .hbm => 93
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x2048, .f32⟩
  | .hbm, ⟨7, _⟩ => ⟨S1x2048, .f32⟩
  | .hbm, ⟨8, _⟩ => ⟨S32x32x16x1024, .f32⟩
  | .hbm, ⟨9, _⟩ => ⟨S32x16x32x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S2048, .f32⟩
  | .hbm, ⟨76, _⟩ => ⟨S16384x2048, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x2048, .f32⟩
  | .hbm, ⟨88, _⟩ => ⟨S16384x2048, .f32⟩
  | .hbm, ⟨89, _⟩ => ⟨S1x2048, .f32⟩
  | .hbm, ⟨90, _⟩ => ⟨S16384x2048, .f32⟩
  | .hbm, ⟨91, _⟩ => ⟨S16384x2048, .f32⟩
  | .hbm, ⟨92, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== CastW.lean ====
abbrev S2048x4104 : Shape := ⟨2, ![2048, 4104]⟩
abbrev S4104x2048 : Shape := ⟨2, ![4104, 2048]⟩
abbrev S4096x2048 : Shape := ⟨2, ![4096, 2048]⟩
abbrev S128x2048 : Shape := ⟨2, ![128, 2048]⟩
abbrev S512x2048 : Shape := ⟨2, ![512, 2048]⟩
abbrev S8x2048 : Shape := ⟨2, ![8, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x4104, .f32⟩
  | .hbm, ⟨1, _⟩ => ⟨S4104x2048, .f32⟩
  | .hbm, ⟨2, _⟩ => ⟨S4096x2048, .bf16⟩
  | .hbm, ⟨3, _⟩ => ⟨S128x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S512x2048, .bf16⟩
  | .local _ .vmem, ⟨4, _⟩ => ⟨S512x2048, .bf16⟩
  | .local _ .vmem, ⟨5, _⟩ => ⟨S128x2048, .bf16⟩
  | _, _ => ⟨S2048x4104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c512_i32 : BitVec 32 := 512#32
  let c0_i32 : BitVec 32 := 0#32
  let c0_i32_0 : BitVec 32 := 0#32
  ![c512_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== CastWRefIdeal.lean ====
abbrev S2048x4104 : Shape := ⟨2, ![2048, 4104]⟩
abbrev S2048x4096 : Shape := ⟨2, ![2048, 4096]⟩
abbrev S4096x2048 : Shape := ⟨2, ![4096, 2048]⟩
abbrev S2048x8 : Shape := ⟨2, ![2048, 8]⟩
abbrev S8x2048 : Shape := ⟨2, ![8, 2048]⟩
abbrev S_ : Shape := ⟨0, ![]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4104, .f32⟩
  | .hbm, ⟨1, _⟩ => ⟨S2048x4096, .f32⟩
  | .hbm, ⟨2, _⟩ => ⟨S4096x2048, .f32⟩
  | .hbm, ⟨3, _⟩ => ⟨S2048x8, .f32⟩
  | .hbm, ⟨4, _⟩ => ⟨S8x2048, .f32⟩
  | .hbm, ⟨5, _⟩ => ⟨S4096x2048, .bf16⟩
  | .hbm, ⟨6, _⟩ => ⟨S_, .i32⟩
  | .hbm, ⟨7, _⟩ => ⟨S_, .f32⟩
  | .hbm, ⟨8, _⟩ => ⟨S128x2048, .f32⟩
  | .hbm, ⟨9, _⟩ => ⟨S128x2048, .bf16⟩
  | _, _ => ⟨S2048x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CumS.lean ====
abbrev S256x2176 : Shape := ⟨2, ![256, 2176]⟩
abbrev S128x128 : Shape := ⟨2, ![128, 128]⟩
abbrev S256x1 : Shape := ⟨2, ![256, 1]⟩
abbrev S256x128 : Shape := ⟨2, ![256, 128]⟩

abbrev nBuf : Space → Nat
  | .hbm => 2
  | .vmem => 2
  | .smem => 0
  | _ => 0

abbrev bufTy : (tb : Table) → Fin (tcTables nBuf tb) → BufTy
  | .hbm, ⟨0, _⟩ => ⟨S256x2176, .f32⟩
  | .hbm, ⟨1, _⟩ => ⟨S256x2176, .f32⟩
  | .local _ .vmem, ⟨0, _⟩ => ⟨S256x2176, .f32⟩
  | .local _ .vmem, ⟨1, _⟩ => ⟨S256x2176, .f32⟩
  | _, _ => ⟨S256x2176, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CumSIdeal.lean ====
variable {F : FTy → Type} [FloatOps F] [Named F]
def κ : String → Option EReal := fun
  | "unit" => some (((Real.log 2)⁻¹ : ℝ) : EReal)
  | _ => none
-- ==== CumSRefIdeal.lean ====
abbrev S256x2176 : Shape := ⟨2, ![256, 2176]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2176, .f32⟩
  | .hbm, ⟨1, _⟩ => ⟨S_, .f32⟩
  | .hbm, ⟨2, _⟩ => ⟨S_, .f32⟩
  | .hbm, ⟨3, _⟩ => ⟨S256x2176, .f32⟩
  | .hbm, ⟨4, _⟩ => ⟨S_, .f32⟩
  | .hbm, ⟨5, _⟩ => ⟨S_, .f32⟩
  | .hbm, ⟨6, _⟩ => ⟨S256x2176, .f32⟩
  | .hbm, ⟨7, _⟩ => ⟨S256x2176, .f32⟩
  | _, _ => ⟨S256x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Softmax.lean ====
/- Softmax-weighted sums over the extended reals: taking powers of two and dividing once at the end gives the same as
   taking exponentials of the scaled scores and dividing each weight. -/
module

public import Idealize.ShloMosaic.PureOps.Ideal
public import Idealize.ShloMosaic.PureOps.Ideal.Laws

@[expose] public section

noncomputable section

namespace Cert.Softmax

open Idealize.ShloMosaic

/-- The natural logarithm of two, as an extended real. -/
def ln2 : EReal := ((Real.log 2 : ℝ) : EReal)

theorem log_two_pos : 0 < Real.log 2 := Real.log_pos (by norm_num)

theorem bot_mul_ln2 : (⊥ : EReal) * ln2 = ⊥ := EReal.bot_mul_coe_of_pos log_two_pos

/-- A power of two of a difference is the exponential of the difference of the scaled values. -/
theorem exp2_sub (x : EReal) (hx : x ≠ ⊤) (M : ℝ) :
    Ideal.exp2 (x - (M : EReal)) = Ideal.exp (x * ln2 - (M : EReal) * ln2) := by
  induction x with
  | bot => rw [bot_mul_ln2, EReal.bot_sub, EReal.bot_sub]; rfl
  | top => exact absurd rfl hx
  | coe x =>
    unfold ln2
    rw [← EReal.coe_sub, ← EReal.coe_mul, ← EReal.coe_mul, ← EReal.coe_sub, Ideal.exp2_coe, Ideal.exp_coe]
    congr 1
    show (2 : ℝ) ^ (x - M) = _
    rw [Real.rpow_def_of_pos (by norm_num)]
    congr 1
    ring

/-- The largest of finitely many values, as the fold the programs compute. -/
def top {n : ℕ} (s : Fin n → EReal) : EReal := Finset.univ.fold max ⊥ s

theorem top_eq_sup {n : ℕ} (s : Fin n → EReal) : top s = Finset.univ.sup s := rfl

theorem le_top' {n : ℕ} (s : Fin n → EReal) (k : Fin n) : s k ≤ top s :=
  Finset.le_sup (f := s) (Finset.mem_univ k)

theorem top_le {n : ℕ} (s : Fin n → EReal) (b : EReal) (h : ∀ k, s k ≤ b) : top s ≤ b :=
  Finset.sup_le fun k _ => h k

theorem top_ne_top {n : ℕ} (s : Fin n → EReal) (h : ∀ k, s k ≠ ⊤) : top s ≠ ⊤ := by
  rw [top_eq_sup]
  refine ((Finset.sup_lt_iff ?_).mpr fun k _ => lt_top_iff_ne_top.mpr (h k)).ne
  exact bot_lt_top

/-- Scores none of which is `⊤` and one of which is not `⊥` have a real maximum. -/
theorem top_real {n : ℕ} (s : Fin n → EReal) (h : ∀ k, s k ≠ ⊤) (k : Fin n) (hk : s k ≠ ⊥) :
    ∃ M : ℝ, top s = (M : EReal) :=
  ⟨(top s).toReal, (EReal.coe_toReal (top_ne_top s h)
    fun e => hk (le_bot_iff.mp (e ▸ le_top' s k))).symm⟩

theorem mul_ln2_mono : Monotone fun x : EReal => x * ln2 := fun _ _ h =>
  mul_le_mul_of_nonneg_right h (EReal.coe_nonneg.mpr log_two_pos.le)

/-- Scaling every score scales the maximum. -/
theorem top_mul_ln2 {n : ℕ} (s : Fin n → EReal) : top (fun k => s k * ln2) = top s * ln2 := by
  rw [top_eq_sup, top_eq_sup]
  exact (Finset.comp_sup_eq_sup_comp_of_is_total (fun x : EReal => x * ln2) mul_ln2_mono bot_mul_ln2).symm

/-- A weight is a real number, not negative. -/
theorem exp2_real (x : EReal) (hx : x ≠ ⊤) : ∃ w : ℝ, 0 ≤ w ∧ Ideal.exp2 x = (w : EReal) := by
  induction x with
  | bot => exact ⟨0, le_rfl, rfl⟩
  | top => exact absurd rfl hx
  | coe x => exact ⟨Real.rpow 2 x, Real.rpow_nonneg (by norm_num) x, rfl⟩

theorem exp2_pos (x : ℝ) : 0 < Ideal.exp2 (x : EReal) := by
  rw [Ideal.exp2_coe]
  exact EReal.coe_pos.mpr (Real.rpow_pos_of_pos (by norm_num) x)

theorem sub_real_ne_top (x : EReal) (hx : x ≠ ⊤) (M : ℝ) : x - (M : EReal) ≠ ⊤ := by
  induction x with
  | bot => simp
  | top => exact absurd rfl hx
  | coe x => rw [← EReal.coe_sub]; exact EReal.coe_ne_top _

theorem coe_sum {ι : Type} (s : Finset ι) (w : ι → ℝ) : ((∑ k ∈ s, w k : ℝ) : EReal) = ∑ k ∈ s, (w k : EReal) := by
  classical
  induction s using Finset.induction_on with
  | empty => simp
  | insert a s ha ih => rw [Finset.sum_insert ha, Finset.sum_insert ha, EReal.coe_add, ih]

/-- The weights' sum is a positive real. -/
theorem sum_weights {n : ℕ} (s : Fin n → EReal) (h : ∀ k, s k ≠ ⊤) (k : Fin n) (hk : s k ≠ ⊥) (M : ℝ) :
    ∃ L : ℝ, 0 < L ∧ ∑ k, Ideal.exp2 (s k - (M : EReal)) = (L : EReal) := by
  choose w hw0 hw using fun k => exp2_real (s k - (M : EReal)) (sub_real_ne_top _ (h k) M)
  refine ⟨∑ k, w k, ?_, ?_⟩
  · refine Finset.sum_pos' (fun k _ => hw0 k) ⟨k, Finset.mem_univ k, ?_⟩
    have e : s k = ((s k).toReal : EReal) := (EReal.coe_toReal (h k) hk).symm
    have hp := exp2_pos ((s k).toReal - M)
    rw [EReal.coe_sub, ← e, hw k] at hp
    exact EReal.coe_pos.mp hp
  · rw [coe_sum]
    exact Finset.sum_congr rfl fun k _ => hw k

/-- Dividing a sum by a positive real divides each term. -/
theorem div_sum {n : ℕ} (a : Fin n → EReal) (L : ℝ) (hL : 0 < L) :
    Ideal.div (∑ k, a k) (L : EReal) = ∑ k, Ideal.div (a k) (L : EReal) := by
  have h0 : (L : EReal) ≠ 0 := by exact_mod_cast hL.ne'
  simp only [Ideal.div, if_neg h0, ← EReal.coe_inv]
  have hp : (0 : EReal) ≤ ((L⁻¹ : ℝ) : EReal) := EReal.coe_nonneg.mpr (inv_nonneg.mpr hL.le)
  induction (Finset.univ : Finset (Fin n)) using Finset.induction_on with
  | empty => simp
  | insert a s ha ih =>
    rw [Finset.sum_insert ha, Finset.sum_insert ha, EReal.right_distrib_of_nonneg_of_ne_top hp (EReal.coe_ne_top _), ih]

theorem div_mul (a b : EReal) (L : ℝ) (hL : 0 < L) : Ideal.div (a * b) (L : EReal) = Ideal.div a (L : EReal) * b := by
  have h0 : (L : EReal) ≠ 0 := by exact_mod_cast hL.ne'
  simp only [Ideal.div, if_neg h0]
  rw [mul_assoc, mul_assoc, mul_comm b]

/-- A weighted sum with powers of two of the scores, divided by the weights' sum at the end, is the softmax-weighted sum
    of the scores scaled by the logarithm of two. The values `v` may be infinite. -/
theorem attention_eq {n : ℕ} (s v : Fin n → EReal) (h : ∀ k, s k ≠ ⊤) (k₀ : Fin n) (hk : s k₀ ≠ ⊥) :
    Ideal.div (∑ k, Ideal.exp2 (s k - top s) * v k) (∑ k, Ideal.exp2 (s k - top s))
      = ∑ k, Ideal.div (Ideal.exp (s k * ln2 - top fun j => s j * ln2))
          (∑ j, Ideal.exp (s j * ln2 - top fun j => s j * ln2)) * v k := by
  rw [top_mul_ln2]
  obtain ⟨M, hM⟩ := top_real s h k₀ hk
  rw [hM]
  simp only [← exp2_sub _ (h _) M]
  obtain ⟨L, hL, e⟩ := sum_weights s h k₀ hk M
  rw [e, div_sum _ L hL]
  exact Finset.sum_congr rfl fun k _ => div_mul _ _ L hL

/-- The maximum over two runs of scores put end to end is the larger of the two maxima. -/
theorem top_append {a b : ℕ} (s : Fin a → EReal) (t : Fin b → EReal) :
    top (Fin.append s t) = max (top s) (top t) := by
  refine le_antisymm (top_le _ _ fun k => ?_) (max_le (top_le _ _ fun k => ?_) (top_le _ _ fun k => ?_))
  · refine Fin.addCases (fun k => ?_) (fun k => ?_) k
    · rw [Fin.append_left]; exact le_max_of_le_left (le_top' s k)
    · rw [Fin.append_right]; exact le_max_of_le_right (le_top' t k)
  · have := le_top' (Fin.append s t) (Fin.castAdd b k)
    rwa [Fin.append_left] at this
  · have := le_top' (Fin.append s t) (Fin.natAdd a k)
    rwa [Fin.append_right] at this

end Cert.Softmax

end
-- ==== Proof.AttnSHead.lean ====
/- One head of the sample streams' attention, as the kernel's body computes it. -/
module

public import proofs.«01_k».proof.Proof.Gen.AttnSIdeal.Value
public import proofs.«01_k».proof.Proof.Softmax
public import Idealize.ShloMosaic.Lib.Pointwise
public import Idealize.ShloMosaic.Lib.WordCmp
public import Idealize.ShloMosaic.PureOps.IdealRules
public import Idealize.ShloMosaic.Lib.Pipeline.ValueKit

@[expose] public section

set_option maxRecDepth 16384

noncomputable section

namespace Cert.AttnSIdeal.Hand

open Cert.AttnSIdeal Cert.AttnSIdeal.Gen Idealize.ShloMosaic Idealize.ShloMosaic.TcCoe Idealize.SL.Sem

/-- One head's block of results, from its queries, the running sums of the past and of the new keys, and the past and
    new keys and values. -/
def head (q : Vec Ideal S32x128 .bf16) (cp : Vec Ideal S1x2048 .f32) (cn : Vec Ideal S1x32 .f32)
    (kp : Vec Ideal S1x2048x128 .f32) (kn : Vec Ideal S32x128 .bf16) (vp : Vec Ideal S1x2048x128 .f32)
    (vn : Vec Ideal S32x128 .bf16) : FVec Ideal S32x128 .f32 :=
  let sp := k0_pay5 (F := Ideal) q cp cn kp
  let sn := k0_pay6 (F := Ideal) q cn kn
  let mx := k0_pay34 sp
  k0_pay84 (k0_pay38 sp sn mx) (k0_pay40 sn mx) (k0_pay83 (k0_pay39 sp sn mx) vp) vn

/-- The score of query row `r` against past key `k`, in bits: the product, plus the query's running sum, less the key's. -/
def pastScore (q : Vec Ideal S32x128 .bf16) (cp : Vec Ideal S1x2048 .f32) (cn : Vec Ideal S1x32 .f32)
    (kp : Vec Ideal S1x2048x128 .f32) (r : Fin 32) (k : Fin 2048) : EReal :=
  ∑ l : Fin 128, q (ix2 r l) * kp (ix3 0 k l) + cn (ix2 0 r) - cp (ix2 0 k)

/-- The score of query row `r` against new key `k`: `⊥` for a key after the query. -/
def newScore (q : Vec Ideal S32x128 .bf16) (cn : Vec Ideal S1x32 .f32) (kn : Vec Ideal S32x128 .bf16)
    (r k : Fin 32) : EReal :=
  if k.val ≤ r.val then ∑ l : Fin 128, q (ix2 r l) * kn (ix2 k l) + cn (ix2 0 r) - cn (ix2 0 k) else ⊥

/-- The row of running sums turned into a column picks the row's entry `r`. -/
theorem diagonal (f : Fin 32 → EReal) (r : Fin 32) :
    ∑ x : Fin 32, Scalar.select (IntOp.cmpi .eq (BitVec.ofNat 32 r.val) (BitVec.ofNat 32 x.val)) (f x) 0 = f r := by
  have e : ∀ x : Fin 32, Scalar.select (IntOp.cmpi .eq (BitVec.ofNat 32 r.val) (BitVec.ofNat 32 x.val)) (f x) (0 : EReal)
      = if r = x then f x else 0 := by
    intro x
    by_cases h : r = x
    · subst h
      simp [Scalar.select, IntOp.cmpi]
    · have hn : BitVec.ofNat 32 r.val ≠ BitVec.ofNat 32 x.val := fun e => h (Fin.ext (by
        have := congrArg BitVec.toNat e
        simp only [BitVec.toNat_ofNat] at this
        omega))
      rw [if_neg h]
      simp [Scalar.select, IntOp.cmpi, beq_eq_false_iff_ne.mpr hn]
  rw [Finset.sum_congr rfl fun x _ => e x, Finset.sum_ite_eq]
  simp

theorem past_apply (q : Vec Ideal S32x128 .bf16) (cp : Vec Ideal S1x2048 .f32) (cn : Vec Ideal S1x32 .f32)
    (kp : Vec Ideal S1x2048x128 .f32) (r : Fin 32) (k : Fin 2048) :
    k0_pay5 (F := Ideal) q cp cn kp (ix2 r k) = pastScore q cp cn kp r k := by
  pointwise [k0_pay5, k0_pay4]
  rw [diagonal (fun x => cn (ix2 0 x)) r]
  rfl

theorem new_apply (q : Vec Ideal S32x128 .bf16) (cn : Vec Ideal S1x32 .f32) (kn : Vec Ideal S32x128 .bf16)
    (r k : Fin 32) : k0_pay6 (F := Ideal) q cn kn (ix2 r k) = newScore q cn kn r k := by
  pointwise [k0_pay6, k0_pay3, k0_pay4]
  rw [diagonal (fun x => cn (ix2 0 x)) r, IdealRules.named_const.ideal_named_scalar _ _ _ _ rfl,
    WordCmp.cmpi_sle_ofNat (by omega) (by omega)]
  unfold newScore
  by_cases h : k.val ≤ r.val <;> simp [Scalar.select, h]

/-- One head's result at an element: the weighted sum of the values with powers of two of the scores less their maximum,
    divided by the weights' sum. -/
theorem head_apply (q : Vec Ideal S32x128 .bf16) (cp : Vec Ideal S1x2048 .f32) (cn : Vec Ideal S1x32 .f32)
    (kp : Vec Ideal S1x2048x128 .f32) (kn : Vec Ideal S32x128 .bf16) (vp : Vec Ideal S1x2048x128 .f32)
    (vn : Vec Ideal S32x128 .bf16) (r : Fin 32) (d : Fin 128) (s v : Fin (2048 + 32) → EReal)
    (hs : s = Fin.append (pastScore q cp cn kp r) (newScore q cn kn r))
    (hv : v = Fin.append (fun k => vp (ix3 0 k d)) (fun k => vn (ix2 k d))) :
    head q cp cn kp kn vp vn (ix2 r d)
      = Ideal.div (∑ k, Ideal.exp2 (s k - Softmax.top s) * v k) (∑ k, Ideal.exp2 (s k - Softmax.top s)) := by
  unfold head
  have ep : ∀ k, k0_pay5 (F := Ideal) q cp cn kp (ix2 r k) = pastScore q cp cn kp r k := past_apply q cp cn kp r
  have en : ∀ k, k0_pay6 (F := Ideal) q cn kn (ix2 r k) = newScore q cn kn r k := new_apply q cn kn r
  generalize k0_pay5 (F := Ideal) q cp cn kp = sp at ep ⊢
  generalize k0_pay6 (F := Ideal) q cn kn = sn at en ⊢
  pointwise [k0_pay34, k0_pay38, k0_pay40, k0_pay83, k0_pay39, k0_pay84, k0_pay35, k0_pay36, k0_pay37]
  simp only [ep, en]
  have eb : Ideal.ofBits .f32 4286578688#32 = ⊥ := by simp [Ideal.ofBits, Ideal.ieee]
  rw [eb]
  have et : max (Finset.fold max ⊥ (fun x => pastScore q cp cn kp r x) Finset.univ)
      (Finset.fold max ⊥ (fun x => newScore q cn kn r x) Finset.univ) = Softmax.top s := by
    rw [hs, Softmax.top_append]
    rfl
  rw [et]
  subst hv
  have e1 : ∀ k, s (Fin.castAdd 32 k) = pastScore q cp cn kp r k := fun k => by rw [hs, Fin.append_left]
  have e2 : ∀ k, s (Fin.natAdd 2048 k) = newScore q cn kn r k := fun k => by rw [hs, Fin.append_right]
  refine congrArg₂ Ideal.div (Eq.trans ?_ (Fin.sum_univ_add (a := 2048) (b := 32) _).symm)
    (Eq.trans ?_ (Fin.sum_univ_add (a := 2048) (b := 32) _).symm)
  · simp only [e1, e2, Fin.append_left, Fin.append_right]
    rfl
  · simp only [e1, e2]
    rfl

end Cert.AttnSIdeal.Hand

end
-- ==== Proof.AttnSBlock.lean ====
/- One grid point of the sample streams' attention: the eight heads' column blocks put together. -/
module

public import proofs.«01_k».proof.Proof.AttnSHead
public import Idealize.ShloMosaic.Lib.WholeRead

@[expose] public section

set_option maxRecDepth 16384

noncomputable section

namespace Cert.AttnSIdeal.Hand

open Cert.AttnSIdeal Cert.AttnSIdeal.Gen Idealize.ShloMosaic Idealize.ShloMosaic.TcCoe Idealize.SL.Sem

/-- Columns `h * 128 …` of a block of 1024: head `h`'s share of the queries, new keys or new values. -/
def headCols (x : Vec Ideal S32x1024 .bf16) (h : Fin 8) : Vec Ideal S32x128 .bf16 := fun i =>
  x (ix2 (i 0) (⟨h.val * 128 + (i 1).val, by have : (i 1).val < 128 := (i 1).isLt; omega⟩ : Fin 1024))

/-- Head `h`'s running sums over the past keys. -/
def pastSums (x : Vec Ideal S8x2176 .f32) (h : Fin 8) : Vec Ideal S1x2048 .f32 := fun i =>
  x (ix2 h (⟨(i 1).val, by have : (i 1).val < 2048 := (i 1).isLt; omega⟩ : Fin 2176))

/-- Head `h`'s running sums over the new keys. -/
def newSums (x : Vec Ideal S8x2176 .f32) (h : Fin 8) : Vec Ideal S1x32 .f32 := fun i =>
  x (ix2 h (⟨2048 + (i 1).val, by have : (i 1).val < 32 := (i 1).isLt; omega⟩ : Fin 2176))

/-- Every eighth row from row `h`: head `h`'s share of a stream's cache. -/
def headRows (x : Vec Ideal S1x16384x128 .f32) (h : Fin 8) : Vec Ideal S1x2048x128 .f32 := fun i =>
  x (ix3 (i 0) (⟨h.val + (i 1).val * 8, by have : (i 1).val < 2048 := (i 1).isLt; omega⟩ : Fin 16384) (i 2))

/-- What a point leaves in its block: column `h * 128 + d` is head `h`'s result `d`. -/
def block (x0 x1 x2 : Vec Ideal S32x1024 .bf16) (x3 x4 : Vec Ideal S1x16384x128 .f32) (x5 : Vec Ideal S8x2176 .f32)
    (r : Fin 32) (h : Fin 8) (d : Fin 128) : EReal :=
  head (headCols x0 h) (pastSums x5 h) (newSums x5 h) (headRows x3 h) (headCols x1 h) (headRows x4 h) (headCols x2 h)
    (ix2 r d)

/-- A load of 128 columns from column `h * 128` is head `h`'s share. -/
theorem ld_cols (x : Vec Ideal S32x1024 .bf16) (h : Fin 8) (o : ℕ) (inb) (ho : o = h.val * 128) :
    View.ld x (Rect.unit ![0, o] ![32, 128] inb) = headCols x h := by
  subst ho
  funext i
  refine View.ld_unit_apply_of x _ _ inb i _ fun a => ?_
  match a with
  | ⟨0, _⟩ => exact (Nat.zero_add _).symm
  | ⟨1, _⟩ => rfl

/-- A load of row `h`'s first 2048 entries. -/
theorem ld_past (x : Vec Ideal S8x2176 .f32) (h : Fin 8) (o : ℕ) (inb) (ho : o = h.val) :
    View.ld x (Rect.unit ![o, 0] ![1, 2048] inb) = pastSums x h := by
  subst ho
  funext i
  refine View.ld_unit_apply_of x _ _ inb i _ fun a => ?_
  have h0 : (i 0).val < 1 := (i 0).isLt
  match a with
  | ⟨0, _⟩ => show h.val = h.val + (i 0).val; omega
  | ⟨1, _⟩ => exact (Nat.zero_add _).symm

/-- A load of row `h`'s 32 entries after those. -/
theorem ld_new (x : Vec Ideal S8x2176 .f32) (h : Fin 8) (o : ℕ) (inb) (ho : o = h.val) :
    View.ld x (Rect.unit ![o, 2048] ![1, 32] inb) = newSums x h := by
  subst ho
  funext i
  refine View.ld_unit_apply_of x _ _ inb i _ fun a => ?_
  have h0 : (i 0).val < 1 := (i 0).isLt
  match a with
  | ⟨0, _⟩ => show h.val = h.val + (i 0).val; omega
  | ⟨1, _⟩ => rfl

/-- A load of every eighth row from row `h`. -/
theorem ld_rows (arg : Memref sig .tc .vmem S1x16384x128 .f32) (harg : arg.IsWhole) (x : Vec Ideal S1x16384x128 .f32)
    (h : Fin 8) (o : ℕ) (inb) (ho : o = h.val) :
    View.readAt (Elt Ideal) arg.view { off := ![0, o, 0], size := ![1, 2048, 128], stride := ![1, 8, 1], inb := inb }
      (harg.unread x) = headRows x h := by
  subst ho
  funext i
  refine (Memref.IsWhole.readAt_unread harg x _ i).trans (congrArg x (funext fun a => Fin.ext ?_))
  match a with
  | ⟨0, _⟩ => show 0 + 1 * (i 0).val = (i 0).val; omega
  | ⟨1, _⟩ => show h.val + 8 * (i 1).val = h.val + (i 1).val * 8; omega
  | ⟨2, _⟩ => show 0 + 1 * (i 2).val = (i 2).val; omega

/-- The whole body: at every column the result of the head the column belongs to. -/
theorem out_apply (c : Dev nD) (i : grid0.Coords) (arg1 : Memref sig .tc .vmem S32x1024 .bf16) (harg1 : arg1.IsWhole)
    (arg2 : Memref sig .tc .vmem S32x1024 .bf16) (harg2 : arg2.IsWhole) (arg3 : Memref sig .tc .vmem S32x1024 .bf16)
    (harg3 : arg3.IsWhole) (arg4 : Memref sig .tc .vmem S1x16384x128 .f32) (harg4 : arg4.IsWhole)
    (arg5 : Memref sig .tc .vmem S1x16384x128 .f32) (harg5 : arg5.IsWhole) (arg6 : Memref sig .tc .vmem S8x2176 .f32)
    (harg6 : arg6.IsWhole) (arg7 : Memref sig .tc .vmem S32x1024 .f32) (harg7 : arg7.IsWhole)
    (x0 x1 x2 : Vec Ideal S32x1024 .bf16) (x3 x4 : Vec Ideal S1x16384x128 .f32) (x5 : Vec Ideal S8x2176 .f32)
    (y : S32x1024.Idx) :
    out0_A_6 (F := Ideal) c i arg1 harg1 arg2 harg2 arg3 harg3 arg4 harg4 arg5 harg5 arg6 harg6 arg7 harg7 x0 x1 x2 x3 x4 x5 y
      = block x0 x1 x2 x3 x4 x5 (y 0) ⟨(y 1).val / 128, by have : (y 1).val < 1024 := (y 1).isLt; omega⟩
          ⟨(y 1).val % 128, Nat.mod_lt _ (by decide)⟩ := by
  have key : ∀ (h : Fin 8) (q : Vec Ideal S32x128 .bf16) (cp : Vec Ideal S1x2048 .f32) (cn : Vec Ideal S1x32 .f32)
      (kp : Vec Ideal S1x2048x128 .f32) (kn : Vec Ideal S32x128 .bf16) (vp : Vec Ideal S1x2048x128 .f32)
      (vn : Vec Ideal S32x128 .bf16), q = headCols x0 h → cp = pastSums x5 h → cn = newSums x5 h → kp = headRows x3 h →
      kn = headCols x1 h → vp = headRows x4 h → vn = headCols x2 h →
      ∀ x : S32x128.Idx, (y 0).val = (x 0).val → (y 1).val = h.val * 128 + (x 1).val →
      head q cp cn kp kn vp vn x
        = block x0 x1 x2 x3 x4 x5 (y 0) ⟨(y 1).val / 128, by have : (y 1).val < 1024 := (y 1).isLt; omega⟩
            ⟨(y 1).val % 128, Nat.mod_lt _ (by decide)⟩ := by
    rintro h q cp cn kp kn vp vn rfl rfl rfl rfl rfl rfl rfl x h0 h1
    have hx : (x 1).val < 128 := (x 1).isLt
    have e : (⟨(y 1).val / 128, by have : (y 1).val < 1024 := (y 1).isLt; omega⟩ : Fin 8) = h :=
      Fin.ext (by show (y 1).val / 128 = h.val; omega)
    rw [e]
    unfold block
    refine congrArg _ (funext fun a => ?_)
    match a with
    | ⟨0, _⟩ => exact Fin.ext h0.symm
    | ⟨1, _⟩ => exact Fin.ext (show (x 1).val = (y 1).val % 128 by omega)
  frame_out
  canon_tiles x h
  · exact key 7 (View.ld x0 (Rect.unit ![0, 896] ![32, 128] inb_S32x1024_S32x128_0_896))
      (View.ld x5 (Rect.unit ![7, 0] ![1, 2048] inb_S8x2176_S1x2048_7_0))
      (View.ld x5 (Rect.unit ![7, 2048] ![1, 32] inb_S8x2176_S1x32_7_2048))
      (View.readAt (Elt Ideal) arg4.view ⟨![0, 7, 0], ![1, 2048, 128], ![1, 8, 1], inb_S1x16384x128_S1x2048x128_0_7_0_s_1_8_1⟩ (harg4.unread x3))
      (View.ld x1 (Rect.unit ![0, 896] ![32, 128] inb_S32x1024_S32x128_0_896))
      (View.readAt (Elt Ideal) arg5.view ⟨![0, 7, 0], ![1, 2048, 128], ![1, 8, 1], inb_S1x16384x128_S1x2048x128_0_7_0_s_1_8_1⟩ (harg5.unread x4))
      (View.ld x2 (Rect.unit ![0, 896] ![32, 128] inb_S32x1024_S32x128_0_896))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((7 : Fin 8) : ℕ)) = 7 := rfl; omega)
  · exact key 6 (View.ld x0 (Rect.unit ![0, 768] ![32, 128] inb_S32x1024_S32x128_0_768))
      (View.ld x5 (Rect.unit ![6, 0] ![1, 2048] inb_S8x2176_S1x2048_6_0))
      (View.ld x5 (Rect.unit ![6, 2048] ![1, 32] inb_S8x2176_S1x32_6_2048))
      (View.readAt (Elt Ideal) arg4.view ⟨![0, 6, 0], ![1, 2048, 128], ![1, 8, 1], inb_S1x16384x128_S1x2048x128_0_6_0_s_1_8_1⟩ (harg4.unread x3))
      (View.ld x1 (Rect.unit ![0, 768] ![32, 128] inb_S32x1024_S32x128_0_768))
      (View.readAt (Elt Ideal) arg5.view ⟨![0, 6, 0], ![1, 2048, 128], ![1, 8, 1], inb_S1x16384x128_S1x2048x128_0_6_0_s_1_8_1⟩ (harg5.unread x4))
      (View.ld x2 (Rect.unit ![0, 768] ![32, 128] inb_S32x1024_S32x128_0_768))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((6 : Fin 8) : ℕ)) = 6 := rfl; omega)
  · exact key 5 (View.ld x0 (Rect.unit ![0, 640] ![32, 128] inb_S32x1024_S32x128_0_640))
      (View.ld x5 (Rect.unit ![5, 0] ![1, 2048] inb_S8x2176_S1x2048_5_0))
      (View.ld x5 (Rect.unit ![5, 2048] ![1, 32] inb_S8x2176_S1x32_5_2048))
      (View.readAt (Elt Ideal) arg4.view ⟨![0, 5, 0], ![1, 2048, 128], ![1, 8, 1], inb_S1x16384x128_S1x2048x128_0_5_0_s_1_8_1⟩ (harg4.unread x3))
      (View.ld x1 (Rect.unit ![0, 640] ![32, 128] inb_S32x1024_S32x128_0_640))
      (View.readAt (Elt Ideal) arg5.view ⟨![0, 5, 0], ![1, 2048, 128], ![1, 8, 1], inb_S1x16384x128_S1x2048x128_0_5_0_s_1_8_1⟩ (harg5.unread x4))
      (View.ld x2 (Rect.unit ![0, 640] ![32, 128] inb_S32x1024_S32x128_0_640))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((5 : Fin 8) : ℕ)) = 5 := rfl; omega)
  · exact key 4 (View.ld x0 (Rect.unit ![0, 512] ![32, 128] inb_S32x1024_S32x128_0_512))
      (View.ld x5 (Rect.unit ![4, 0] ![1, 2048] inb_S8x2176_S1x2048_4_0))
      (View.ld x5 (Rect.unit ![4, 2048] ![1, 32] inb_S8x2176_S1x32_4_2048))
      (View.readAt (Elt Ideal) arg4.view ⟨![0, 4, 0], ![1, 2048, 128], ![1, 8, 1], inb_S1x16384x128_S1x2048x128_0_4_0_s_1_8_1⟩ (harg4.unread x3))
      (View.ld x1 (Rect.unit ![0, 512] ![32, 128] inb_S32x1024_S32x128_0_512))
      (View.readAt (Elt Ideal) arg5.view ⟨![0, 4, 0], ![1, 2048, 128], ![1, 8, 1], inb_S1x16384x128_S1x2048x128_0_4_0_s_1_8_1⟩ (harg5.unread x4))
      (View.ld x2 (Rect.unit ![0, 512] ![32, 128] inb_S32x1024_S32x128_0_512))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((4 : Fin 8) : ℕ)) = 4 := rfl; omega)
  · exact key 3 (View.ld x0 (Rect.unit ![0, 384] ![32, 128] inb_S32x1024_S32x128_0_384))
      (View.ld x5 (Rect.unit ![3, 0] ![1, 2048] inb_S8x2176_S1x2048_3_0))
      (View.ld x5 (Rect.unit ![3, 2048] ![1, 32] inb_S8x2176_S1x32_3_2048))
      (View.readAt (Elt Ideal) arg4.view ⟨![0, 3, 0], ![1, 2048, 128], ![1, 8, 1], inb_S1x16384x128_S1x2048x128_0_3_0_s_1_8_1⟩ (harg4.unread x3))
      (View.ld x1 (Rect.unit ![0, 384] ![32, 128] inb_S32x1024_S32x128_0_384))
      (View.readAt (Elt Ideal) arg5.view ⟨![0, 3, 0], ![1, 2048, 128], ![1, 8, 1], inb_S1x16384x128_S1x2048x128_0_3_0_s_1_8_1⟩ (harg5.unread x4))
      (View.ld x2 (Rect.unit ![0, 384] ![32, 128] inb_S32x1024_S32x128_0_384))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((3 : Fin 8) : ℕ)) = 3 := rfl; omega)
  · exact key 2 (View.ld x0 (Rect.unit ![0, 256] ![32, 128] inb_S32x1024_S32x128_0_256))
      (View.ld x5 (Rect.unit ![2, 0] ![1, 2048] inb_S8x2176_S1x2048_2_0))
      (View.ld x5 (Rect.unit ![2, 2048] ![1, 32] inb_S8x2176_S1x32_2_2048))
      (View.readAt (Elt Ideal) arg4.view ⟨![0, 2, 0], ![1, 2048, 128], ![1, 8, 1], inb_S1x16384x128_S1x2048x128_0_2_0_s_1_8_1⟩ (harg4.unread x3))
      (View.ld x1 (Rect.unit ![0, 256] ![32, 128] inb_S32x1024_S32x128_0_256))
      (View.readAt (Elt Ideal) arg5.view ⟨![0, 2, 0], ![1, 2048, 128], ![1, 8, 1], inb_S1x16384x128_S1x2048x128_0_2_0_s_1_8_1⟩ (harg5.unread x4))
      (View.ld x2 (Rect.unit ![0, 256] ![32, 128] inb_S32x1024_S32x128_0_256))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((2 : Fin 8) : ℕ)) = 2 := rfl; omega)
  · exact key 1 (View.ld x0 (Rect.unit ![0, 128] ![32, 128] inb_S32x1024_S32x128_0_128))
      (View.ld x5 (Rect.unit ![1, 0] ![1, 2048] inb_S8x2176_S1x2048_1_0))
      (View.ld x5 (Rect.unit ![1, 2048] ![1, 32] inb_S8x2176_S1x32_1_2048))
      (View.readAt (Elt Ideal) arg4.view ⟨![0, 1, 0], ![1, 2048, 128], ![1, 8, 1], inb_S1x16384x128_S1x2048x128_0_1_0_s_1_8_1⟩ (harg4.unread x3))
      (View.ld x1 (Rect.unit ![0, 128] ![32, 128] inb_S32x1024_S32x128_0_128))
      (View.readAt (Elt Ideal) arg5.view ⟨![0, 1, 0], ![1, 2048, 128], ![1, 8, 1], inb_S1x16384x128_S1x2048x128_0_1_0_s_1_8_1⟩ (harg5.unread x4))
      (View.ld x2 (Rect.unit ![0, 128] ![32, 128] inb_S32x1024_S32x128_0_128))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((1 : Fin 8) : ℕ)) = 1 := rfl; omega)
  · exact key 0 (View.ld x0 (Rect.unit ![0, 0] ![32, 128] inb_S32x1024_S32x128_0_0))
      (View.ld x5 (Rect.unit ![0, 0] ![1, 2048] inb_S8x2176_S1x2048_0_0))
      (View.ld x5 (Rect.unit ![0, 2048] ![1, 32] inb_S8x2176_S1x32_0_2048))
      (View.readAt (Elt Ideal) arg4.view ⟨![0, 0, 0], ![1, 2048, 128], ![1, 8, 1], inb_S1x16384x128_S1x2048x128_0_0_0_s_1_8_1⟩ (harg4.unread x3))
      (View.ld x1 (Rect.unit ![0, 0] ![32, 128] inb_S32x1024_S32x128_0_0))
      (View.readAt (Elt Ideal) arg5.view ⟨![0, 0, 0], ![1, 2048, 128], ![1, 8, 1], inb_S1x16384x128_S1x2048x128_0_0_0_s_1_8_1⟩ (harg5.unread x4))
      (View.ld x2 (Rect.unit ![0, 0] ![32, 128] inb_S32x1024_S32x128_0_0))
      (ld_cols _ _ _ _ rfl) (ld_past _ _ _ _ rfl) (ld_new _ _ _ _ rfl) (ld_rows _ _ _ _ _ _ rfl) (ld_cols _ _ _ _ rfl)
      (ld_rows _ _ _ _ _ _ rfl) (ld_cols _ _ _ _ rfl) x (by omega) (by have : (((0 : Fin 8) : ℕ)) = 0 := rfl; omega)

end Cert.AttnSIdeal.Hand

end
-- ==== Proof.AttnSInputs.lean ====
/- What a grid point of the sample streams' attention reads: its blocks at an element, as elements of the arguments. -/
module

public import proofs.«01_k».proof.Proof.AttnSBlock
public import proofs.«01_k».proof.Proof.Gen.AttnSIdeal.Value
public import Idealize.ShloMosaic.Lib.Pointwise
public import Idealize.ShloMosaic.Lib.Claim
public import Idealize.ShloMosaic.Lib.Pipeline.ValueKit

@[expose] public section

set_option maxRecDepth 16384

noncomputable section

namespace Cert.AttnSIdeal.Hand

open Cert.AttnSIdeal Cert.AttnSIdeal.Gen Idealize.ShloMosaic Idealize.ShloMosaic.TcCoe Idealize.SL.Sem

variable (m : (ℓ : Loc nD τ sig) → Buf (Elt Ideal) ℓ)

theorem points : cfg0.N = 32 := N_0

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 3) = t.val ∧ win0_3.index t (1 : Fin 3) = 0
    ∧ win0_3.index t (2 : Fin 3) = 0 := (by decide +kernel : ∀ t : Fin grid0.N, _)
theorem index4 : ∀ t : Fin cfg0.N, win0_4.index t (0 : Fin 3) = t.val ∧ win0_4.index t (1 : Fin 3) = 0
    ∧ win0_4.index t (2 : Fin 3) = 0 := (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- A point's block of the queries, at an element: row `t * 32 + r`. -/
theorem iblk0_apply (c : Dev nD) (t : Fin cfg0.N) (r : Fin 32) (l : Fin 1024) (h : t.val * 32 + r.val < 1024) :
    iblk m c 0 t (ix2 r l) = m ((c : Thread nD τ).loc main_arg0) (ix2 ⟨t.val * 32 + r.val, h⟩ l) := by
  obtain ⟨e0, e1⟩ := index0 t
  rw [← V_main_arg0 m c]
  unfold iblk
  show V m c main_arg0 _ = _
  congr 1
  funext a
  apply Fin.ext
  match a with
  | ⟨0, _⟩ => show win0_0.index t (0 : Fin 2) * 32 + 1 * r.val = _; rw [e0, Nat.one_mul]; rfl
  | ⟨1, _⟩ => show win0_0.index t (1 : Fin 2) * 1024 + 1 * l.val = _; rw [e1, Nat.zero_mul, Nat.zero_add, Nat.one_mul]; rfl

/-- A point's block of the new keys, at an element. -/
theorem iblk1_apply (c : Dev nD) (t : Fin cfg0.N) (r : Fin 32) (l : Fin 1024) (h : t.val * 32 + r.val < 1024) :
    iblk m c 1 t (ix2 r l) = m ((c : Thread nD τ).loc main_arg1) (ix2 ⟨t.val * 32 + r.val, h⟩ l) := by
  obtain ⟨e0, e1⟩ := index1 t
  rw [← V_main_arg1 m c]
  unfold iblk
  show V m c main_arg1 _ = _
  congr 1
  funext a
  apply Fin.ext
  match a with
  | ⟨0, _⟩ => show win0_1.index t (0 : Fin 2) * 32 + 1 * r.val = _; rw [e0, Nat.one_mul]; rfl
  | ⟨1, _⟩ => show win0_1.index t (1 : Fin 2) * 1024 + 1 * l.val = _; rw [e1, Nat.zero_mul, Nat.zero_add, Nat.one_mul]; rfl

/-- A point's block of the new values, at an element. -/
theorem iblk2_apply (c : Dev nD) (t : Fin cfg0.N) (r : Fin 32) (l : Fin 1024) (h : t.val * 32 + r.val < 1024) :
    iblk m c 2 t (ix2 r l) = m ((c : Thread nD τ).loc main_arg2) (ix2 ⟨t.val * 32 + r.val, h⟩ l) := by
  obtain ⟨e0, e1⟩ := index2 t
  rw [← V_main_arg2 m c]
  unfold iblk
  show V m c main_arg2 _ = _
  congr 1
  funext a
  apply Fin.ext
  match a with
  | ⟨0, _⟩ => show win0_2.index t (0 : Fin 2) * 32 + 1 * r.val = _; rw [e0, Nat.one_mul]; rfl
  | ⟨1, _⟩ => show win0_2.index t (1 : Fin 2) * 1024 + 1 * l.val = _; rw [e1, Nat.zero_mul, Nat.zero_add, Nat.one_mul]; rfl

/-- A point's block of the running sums, at an element: row `t * 8 + h`. -/
theorem iblk5_apply (c : Dev nD) (t : Fin cfg0.N) (r : Fin 8) (l : Fin 2176) (h : t.val * 8 + r.val < 256) :
    iblk m c 5 t (ix2 r l) = m ((c : Thread nD τ).loc main_arg5) (ix2 ⟨t.val * 8 + r.val, h⟩ l) := by
  obtain ⟨e0, e1⟩ := index5 t
  rw [← V_main_arg5 m c]
  unfold iblk
  show V m c main_arg5 _ = _
  congr 1
  funext a
  apply Fin.ext
  match a with
  | ⟨0, _⟩ => show win0_5.index t (0 : Fin 2) * 8 + 1 * r.val = _; rw [e0, Nat.one_mul]; rfl
  | ⟨1, _⟩ => show win0_5.index t (1 : Fin 2) * 2176 + 1 * l.val = _; rw [e1, Nat.zero_mul, Nat.zero_add, Nat.one_mul]; rfl

/-- The cache of keys as the call is given it: row `j * 8 + h` of stream `n` is head `h` of token `j`. -/
theorem V_keys (c : Dev nD) (n : Fin 32) (w : Fin 16384) (d : Fin 128) :
    V m c main_v0 (ix3 n w d) = m ((c : Thread nD τ).loc main_arg3) (ix4 n ⟨w.val / 8, by omega⟩ ⟨w.val % 8, by omega⟩ d) := by
  entry_read
  pointwise []

/-- The cache of values as the call is given it. -/
theorem V_values (c : Dev nD) (n : Fin 32) (w : Fin 16384) (d : Fin 128) :
    V m c main_v1 (ix3 n w d) = m ((c : Thread nD τ).loc main_arg4) (ix4 n ⟨w.val / 8, by omega⟩ ⟨w.val % 8, by omega⟩ d) := by
  entry_read
  pointwise []

/-- A point's block of the cached keys, at an element. -/
theorem iblk3_apply (c : Dev nD) (t : Fin cfg0.N) (h : t.val < 32) (z : Fin 1) (w : Fin 16384) (d : Fin 128) :
    iblk m c 3 t (ix3 z w d)
      = m ((c : Thread nD τ).loc main_arg3) (ix4 ⟨t.val, h⟩ ⟨w.val / 8, by omega⟩ ⟨w.val % 8, by omega⟩ d) := by
  obtain ⟨e0, e1, e2⟩ := index3 t
  refine Eq.trans ?_ (V_keys m c ⟨t.val, h⟩ w d)
  unfold iblk
  show V m c main_v0 _ = _
  congr 1
  funext a
  apply Fin.ext
  match a with
  | ⟨0, _⟩ => show win0_3.index t (0 : Fin 3) * 1 + 1 * z.val = t.val; rw [e0]; omega
  | ⟨1, _⟩ => show win0_3.index t (1 : Fin 3) * 16384 + 1 * w.val = _; rw [e1, Nat.zero_mul, Nat.zero_add, Nat.one_mul]; rfl
  | ⟨2, _⟩ => show win0_3.index t (2 : Fin 3) * 128 + 1 * d.val = _; rw [e2, Nat.zero_mul, Nat.zero_add, Nat.one_mul]; rfl

/-- A point's block of the cached values, at an element. -/
theorem iblk4_apply (c : Dev nD) (t : Fin cfg0.N) (h : t.val < 32) (z : Fin 1) (w : Fin 16384) (d : Fin 128) :
    iblk m c 4 t (ix3 z w d)
      = m ((c : Thread nD τ).loc main_arg4) (ix4 ⟨t.val, h⟩ ⟨w.val / 8, by omega⟩ ⟨w.val % 8, by omega⟩ d) := by
  obtain ⟨e0, e1, e2⟩ := index4 t
  refine Eq.trans ?_ (V_values m c ⟨t.val, h⟩ w d)
  unfold iblk
  show V m c main_v1 _ = _
  congr 1
  funext a
  apply Fin.ext
  match a with
  | ⟨0, _⟩ => show win0_4.index t (0 : Fin 3) * 1 + 1 * z.val = t.val; rw [e0]; omega
  | ⟨1, _⟩ => show win0_4.index t (1 : Fin 3) * 16384 + 1 * w.val = _; rw [e1, Nat.zero_mul, Nat.zero_add, Nat.one_mul]; rfl
  | ⟨2, _⟩ => show win0_4.index t (2 : Fin 3) * 128 + 1 * d.val = _; rw [e2, Nat.zero_mul, Nat.zero_add, Nat.one_mul]; rfl

end Cert.AttnSIdeal.Hand

end
-- ==== Proof.AttnSRef.lean ====
/- What the reference of the sample streams' attention computes, element by element. -/
module

public import proofs.«01_k».proof.Proof.Softmax
public import proofs.«01_k».proof.Proof.Gen.AttnSRefIdeal.Run
public import proofs.«01_k».proof.Proof.Gen.AttnSRefIdeal.Read
public import Idealize.ShloMosaic.Lib.Pointwise
public import Idealize.ShloMosaic.Lib.WordCmp
public import Idealize.ShloMosaic.PureOps.IdealRules

@[expose] public section

set_option maxRecDepth 16384

noncomputable section

namespace Cert.AttnSRefIdeal.Hand

open Cert.AttnSRefIdeal Cert.AttnSRefIdeal.Gen Cert.AttnSRefIdeal.Read Idealize.ShloMosaic Idealize.ShloMosaic.TcCoe Idealize.SL.Sem

/-- Row `n * 32 + r` of the new tokens: token `r` of stream `n`. -/
abbrev row (n r : Fin 32) : Fin 1024 := ⟨n.val * 32 + r.val, by omega⟩
/-- Column `h * 128 + d`: component `d` of head `h`. -/
abbrev col (h : Fin 8) (d : Fin 128) : Fin 1024 := ⟨h.val * 128 + d.val, by omega⟩
/-- Row `n * 8 + h` of the running sums: head `h` of stream `n`. -/
abbrev sumRow (n : Fin 32) (h : Fin 8) : Fin 256 := ⟨n.val * 8 + h.val, by omega⟩

variable (q k v : Vec Ideal S1024x1024 .bf16) (ck cv : Vec Ideal S32x2048x8x128 .f32) (c : Vec Ideal S256x2176 .f32)

/-- The score of token `r` of stream `n` at head `h` against cached token `j`, in bits. -/
def cachedScore (n : Fin 32) (h : Fin 8) (r : Fin 32) (j : Fin 2048) : EReal :=
  ∑ l : Fin 128, q (ix2 (row n r) (col h l)) * ck (ix4 n j h l)
    + c (ix2 (sumRow n h) (⟨2048 + r.val, by omega⟩ : Fin 2176)) - c (ix2 (sumRow n h) (⟨j.val, by omega⟩ : Fin 2176))

/-- The score of token `r` against new token `j`, in bits: `⊥` for a later token. -/
def freshScore (n : Fin 32) (h : Fin 8) (r j : Fin 32) : EReal :=
  if j.val ≤ r.val then
    ∑ l : Fin 128, q (ix2 (row n r) (col h l)) * k (ix2 (row n j) (col h l))
      + c (ix2 (sumRow n h) (⟨2048 + r.val, by omega⟩ : Fin 2176))
      - c (ix2 (sumRow n h) (⟨2048 + j.val, by omega⟩ : Fin 2176))
  else ⊥

/-- The scores against all 2080 keys. -/
def scores (n : Fin 32) (h : Fin 8) (r : Fin 32) : Fin (2048 + 32) → EReal :=
  Fin.append (cachedScore q ck c n h r) (freshScore q k c n h r)

/-- The values of all 2080 keys, one component. -/
def values (n : Fin 32) (h : Fin 8) (d : Fin 128) : Fin (2048 + 32) → EReal :=
  Fin.append (fun j => cv (ix4 n j h d)) (fun j => v (ix2 (row n j) (col h d)))

theorem bits_two : Ideal.ofBits .f32 0x40000000#32 = ((2 : ℝ) : EReal) := by
  simp only [Ideal.ofBits, Ideal.ieee]
  have e1 : (BitVec.extractLsb' 23 8 0x40000000#32).toNat = 128 := by decide
  have e2 : (BitVec.extractLsb' 0 23 0x40000000#32).toNat = 0 := by decide
  have e3 : (BitVec.extractLsb' (8 + 23) 1 0x40000000#32 == 1#1) = false := by decide
  rw [e1, e2, e3]
  norm_num

theorem log_two : Ideal.log (Ideal.ofBits .f32 0x40000000#32) = Softmax.ln2 := by
  rw [bits_two]
  exact if_neg (by norm_num)

theorem bits_bot : Ideal.ofBits .f32 0xFF800000#32 = ⊥ := by simp [Ideal.ofBits, Ideal.ieee]

/-- The reference's masked scores are the scores times the logarithm of two. -/
theorem scores_apply (n : Fin 32) (h : Fin 8) (r : Fin 32) (j : Fin 2080) :
    val_main_v30 (F := Ideal) q k ck c (ix4 n h r j) = scores q k ck c n h r j * Softmax.ln2 := by
  pointwise [val_main_v30, val_main_v19, val_main_v18, val_main_v17, val_main_v16, val_main_v15, val_main_v14,
    val_main_v13, val_main_v12, val_main_v11, val_main_v10, val_main_v9, val_main_v8, val_main_v6, val_main_v3,
    val_main_v2, val_main_v1, val_main_v0, val_main_cst, val_main_call0_v0, val_main_call0_v1, val_main_call0_v2,
    val_main_cst_0, val_main_v29, val_main_v28, val_main_v27, val_main_v26, val_main_v25, val_main_v24, val_main_v23,
    val_main_v22, val_main_v21, val_main_v20, val_main_c]
  rw [log_two, show (id (constant (F := Ideal) S_ .f32 4286578688#32) ix0 : EReal) = ⊥ from bits_bot]
  have ea : IntOp.addi (2048#32) (BitVec.ofNat 32 r.val) = BitVec.ofNat 32 (2048 + r.val) := by
    show 2048#32 + BitVec.ofNat 32 r.val = _
    rw [BitVec.ofNat_add]
  rw [ea, WordCmp.cmpi_sle_ofNat (by omega) (by omega)]
  unfold scores
  by_cases hj : j.val < 2048
  · have e : Fin.append (cachedScore q ck c n h r) (freshScore q k c n h r) j = cachedScore q ck c n h r ⟨j.val, hj⟩ :=
      Fin.append_left (cachedScore q ck c n h r) (freshScore q k c n h r) ⟨j.val, hj⟩
    rw [e]
    simp only [dif_pos hj, Scalar.select, decide_eq_true (show j.val ≤ 2048 + r.val by omega)]
    rfl
  · have e : Fin.append (cachedScore q ck c n h r) (freshScore q k c n h r) j
        = freshScore q k c n h r ⟨j.val - 2048, by omega⟩ := by
      rw [← Fin.append_right (cachedScore q ck c n h r) (freshScore q k c n h r) ⟨j.val - 2048, by omega⟩]
      exact congrArg _ (Fin.ext (by show j.val = 2048 + (j.val - 2048); omega))
    rw [e]
    unfold freshScore
    simp only [dif_neg hj]
    by_cases hr : j.val - 2048 ≤ r.val
    · rw [if_pos hr]
      simp only [Scalar.select, decide_eq_true (show j.val ≤ 2048 + r.val by omega)]
      have ej : (⟨j.val, by omega⟩ : Fin 2176) = ⟨2048 + (j.val - 2048), by omega⟩ := Fin.ext (by show j.val = 2048 + (j.val - 2048); omega)
      rw [ej]
      rfl
    · rw [if_neg hr, Softmax.bot_mul_ln2]
      simp only [Scalar.select, decide_eq_false (show ¬ j.val ≤ 2048 + r.val by omega)]
      rfl

/-- The keys' values put end to end. -/
theorem values_apply (n : Fin 32) (j : Fin 2080) (h : Fin 8) (d : Fin 128) :
    val_main_v7 (F := Ideal) v cv (ix4 n j h d) = values v cv n h d j := by
  pointwise [val_main_v7, val_main_v5, val_main_v4]
  unfold values
  by_cases hj : j.val < 2048
  · rw [dif_pos hj]
    exact (Fin.append_left (fun j => cv (ix4 n j h d)) (fun j => v (ix2 (row n j) (col h d))) ⟨j.val, hj⟩).symm
  · rw [dif_neg hj]
    refine (Fin.append_right (fun j => cv (ix4 n j h d)) (fun j => v (ix2 (row n j) (col h d)))
      ⟨j.val - 2048, by omega⟩).symm.trans ?_
    exact congrArg _ (Fin.ext (by show 2048 + (j.val - 2048) = j.val; omega))

end Cert.AttnSRefIdeal.Hand

end
-- ==== Proof.AttnSSoft.lean ====
/- The reference of the sample streams' attention: softmax of the scores, summed against the values. -/
module

public import proofs.«01_k».proof.Proof.Softmax
public import proofs.«01_k».proof.Proof.Gen.AttnSRefIdeal.Run
public import proofs.«01_k».proof.Proof.Gen.AttnSRefIdeal.Read
public import proofs.«01_k».proof.Proof.AttnSRef
public import Idealize.ShloMosaic.Lib.Pointwise
public import Idealize.ShloMosaic.Lib.WordCmp
public import Idealize.ShloMosaic.PureOps.IdealRules

@[expose] public section

set_option maxRecDepth 16384

noncomputable section

namespace Cert.AttnSRefIdeal.Hand

open Cert.AttnSRefIdeal Cert.AttnSRefIdeal.Gen Cert.AttnSRefIdeal.Read Idealize.ShloMosaic Idealize.ShloMosaic.TcCoe Idealize.SL.Sem

variable (q k v : Vec Ideal S1024x1024 .bf16) (ck cv : Vec Ideal S32x2048x8x128 .f32) (c : Vec Ideal S256x2176 .f32)

/-- A row's maximum. -/
theorem fold_apply (n : Fin 32) (h : Fin 8) (r : Fin 32) :
    val_main_v31 (F := Ideal) q k ck c (ix3 n h r)
      = Softmax.top (fun j => val_main_v30 (F := Ideal) q k ck c (ix4 n h r j)) := by
  unfold val_main_v31
  generalize val_main_v30 (F := Ideal) q k ck c = x
  pointwise [val_main_cst_1]
  rw [bits_bot]
  unfold Softmax.top
  with_reducible rfl

/-- The reference takes the larger of a row's maximum and minus infinity: the maximum. -/
theorem max_apply (n : Fin 32) (h : Fin 8) (r : Fin 32) :
    val_main_v33 (F := Ideal) q k ck c (ix3 n h r)
      = val_main_v31 (F := Ideal) q k ck c (ix3 n h r) := by
  refine (val_main_v33_apply q k ck c (ix3 n h r)).trans ?_
  generalize val_main_v31 (F := Ideal) q k ck c = x
  rw [val_main_v32_apply]
  show max (Ideal.ofBits .f32 0xFF800000#32) (x (ix3 n h r)) = _
  rw [bits_bot]
  generalize x (ix3 n h r) = y
  exact max_eq_right bot_le

/-- A key's weight before the division. -/
theorem weight_apply (n : Fin 32) (h : Fin 8) (r : Fin 32) (j : Fin 2080) :
    val_main_v37 (F := Ideal) q k ck c (ix4 n h r j)
      = Ideal.exp (val_main_v30 (F := Ideal) q k ck c (ix4 n h r j)
          - val_main_v33 (F := Ideal) q k ck c (ix3 n h r)) := by
  unfold val_main_v37 val_main_v36 val_main_v35 val_main_v34
  generalize val_main_v30 (F := Ideal) q k ck c = x
  generalize val_main_v33 (F := Ideal) q k ck c = y
  pointwise []

/-- A key's weight: its share of the weights' sum. -/
theorem share_apply (n : Fin 32) (h : Fin 8) (r : Fin 32) (j : Fin 2080) :
    val_main_v41 (F := Ideal) q k ck c (ix4 n h r j)
      = Ideal.div (val_main_v37 (F := Ideal) q k ck c (ix4 n h r j))
          (∑ j : Fin 2080, val_main_v37 (F := Ideal) q k ck c (ix4 n h r j)) := by
  unfold val_main_v41 val_main_v40 val_main_v39 val_main_v38
  generalize val_main_v37 (F := Ideal) q k ck c = x
  pointwise [val_main_cst_3]

/-- The result, before the heads are laid out: the weighted sum of the values. -/
theorem sum_apply (n : Fin 32) (h : Fin 8) (d : Fin 128) (r : Fin 32) :
    val_main_v42 (F := Ideal) q k v ck cv c (ix4 n h d r)
      = ∑ j : Fin 2080, val_main_v7 (F := Ideal) v cv (ix4 n j h d) * val_main_v41 (F := Ideal) q k ck c (ix4 n h r j) := by
  unfold val_main_v42
  generalize val_main_v41 (F := Ideal) q k ck c = x
  generalize val_main_v7 (F := Ideal) v cv = y
  pointwise []

/-- The result at row `n * 32 + r`, column `h * 128 + d`. -/
theorem layout_apply (n r : Fin 32) (h : Fin 8) (d : Fin 128) :
    val_main_v44 (F := Ideal) q k v ck cv c (ix2 (row n r) (col h d))
      = val_main_v42 (F := Ideal) q k v ck cv c (ix4 n h d r) := by
  unfold val_main_v44 val_main_v43
  generalize val_main_v42 (F := Ideal) q k v ck cv c = x
  pointwise []
  congr 1
  have e0 : (n.val * 32 + r.val) / 32 = n.val := by omega
  have e1 : (n.val * 32 + r.val) % 32 = r.val := by omega
  have e2 : (h.val * 128 + d.val) / 128 = h.val := by omega
  have e3 : (h.val * 128 + d.val) % 128 = d.val := by omega
  simp only [e0, e1, e2, e3]

/-- The reference at an element: the softmax of the scores (times the logarithm of two) over all keys, summed against the
    values. -/
theorem result_apply (n r : Fin 32) (h : Fin 8) (d : Fin 128) :
    val_main_v44 (F := Ideal) q k v ck cv c (ix2 (row n r) (col h d))
      = ∑ j : Fin (2048 + 32), Ideal.div
          (Ideal.exp (scores q k ck c n h r j * Softmax.ln2 - Softmax.top fun j => scores q k ck c n h r j * Softmax.ln2))
          (∑ j : Fin (2048 + 32), Ideal.exp (scores q k ck c n h r j * Softmax.ln2
            - Softmax.top fun j => scores q k ck c n h r j * Softmax.ln2)) * values v cv n h d j := by
  rw [layout_apply, sum_apply]
  simp only [share_apply, weight_apply, max_apply, fold_apply, scores_apply, values_apply]
  exact Finset.sum_congr rfl fun j _ => mul_comm _ _

end Cert.AttnSRefIdeal.Hand

end
-- ==== Proof.Finite.lean ====
/- Real numbers among the extended reals: what a comparison with infinity says, and the sums and products that stay real. -/
module

public import Idealize.ShloMosaic.PureOps.Ideal
public import Mathlib.Data.EReal.Basic
public import Mathlib.Data.EReal.Operations

@[expose] public section

noncomputable section

namespace Cert.Finite

open Idealize.ShloMosaic

/-- An extended real that is a real number. -/
def Real (a : EReal) : Prop := ∃ x : ℝ, a = (x : EReal)

theorem bits_inf : Ideal.ofBits .f32 0x7F800000#32 = ⊤ := by simp [Ideal.ofBits, Ideal.ieee]

/-- A value whose absolute value compares below infinity is real. -/
theorem real_of_lt (a : EReal) (h : Ideal.cmp .olt (max a (-a)) (Ideal.ofBits .f32 0x7F800000#32) = 1#1) : Real a := by
  rw [bits_inf] at h
  have h' : max a (-a) < ⊤ := by
    by_contra hn
    simp [Ideal.cmp, hn] at h
  induction a with
  | bot => simp at h'
  | top => simp at h'
  | coe x => exact ⟨x, rfl⟩

theorem Real.add {a b : EReal} (ha : Real a) (hb : Real b) : Real (a + b) := by
  obtain ⟨x, rfl⟩ := ha
  obtain ⟨y, rfl⟩ := hb
  exact ⟨x + y, (EReal.coe_add x y).symm⟩

theorem Real.sub {a b : EReal} (ha : Real a) (hb : Real b) : Real (a - b) := by
  obtain ⟨x, rfl⟩ := ha
  obtain ⟨y, rfl⟩ := hb
  exact ⟨x - y, (EReal.coe_sub x y).symm⟩

theorem Real.mul {a b : EReal} (ha : Real a) (hb : Real b) : Real (a * b) := by
  obtain ⟨x, rfl⟩ := ha
  obtain ⟨y, rfl⟩ := hb
  exact ⟨x * y, (EReal.coe_mul x y).symm⟩

theorem Real.zero : Real 0 := ⟨0, rfl⟩

theorem Real.sum {ι : Type} (s : Finset ι) (f : ι → EReal) (h : ∀ i, Real (f i)) : Real (∑ i ∈ s, f i) :=
  Finset.sum_induction f Real (fun _ _ => Real.add) Real.zero fun i _ => h i

theorem Real.ne_top {a : EReal} (h : Real a) : a ≠ ⊤ := by
  obtain ⟨x, rfl⟩ := h
  exact EReal.coe_ne_top x

theorem Real.ne_bot {a : EReal} (h : Real a) : a ≠ ⊥ := by
  obtain ⟨x, rfl⟩ := h
  exact EReal.coe_ne_bot x

end Cert.Finite

end
-- ==== Proof.AttnSValue.lean ====
/- The sample streams' attention: what the kernel's output holds, and that it is what the reference computes. -/
module

public import proofs.«01_k».proof.Proof.AttnSInputs
public import proofs.«01_k».proof.Proof.AttnSSoft
public import proofs.«01_k».proof.Proof.Finite
public import proofs.«01_k».proof.Defs
public import proofs.«01_k».proof.Proof.Gen.Pre_attn_sample_finite

@[expose] public section

set_option maxRecDepth 16384

noncomputable section

namespace Cert.AttnSIdeal.Hand

open Cert.AttnSIdeal Cert.AttnSIdeal.Gen Idealize.ShloMosaic Idealize.ShloMosaic.TcCoe Idealize.SL.Sem
open Cert.AttnSRefIdeal.Hand (row col sumRow cachedScore freshScore scores values)
open Cert.Finite (Real)

variable (m : (ℓ : Loc nD τ sig) → Buf (Elt Ideal) ℓ)

abbrev argQ (c : Dev nD) : Vec Ideal S1024x1024 .bf16 := m ((c : Thread nD τ).loc main_arg0)
abbrev argK (c : Dev nD) : Vec Ideal S1024x1024 .bf16 := m ((c : Thread nD τ).loc main_arg1)
abbrev argV (c : Dev nD) : Vec Ideal S1024x1024 .bf16 := m ((c : Thread nD τ).loc main_arg2)
abbrev argCK (c : Dev nD) : Vec Ideal S32x2048x8x128 .f32 := m ((c : Thread nD τ).loc main_arg3)
abbrev argCV (c : Dev nD) : Vec Ideal S32x2048x8x128 .f32 := m ((c : Thread nD τ).loc main_arg4)
abbrev argC (c : Dev nD) : Vec Ideal S256x2176 .f32 := m ((c : Thread nD τ).loc main_arg5)

/-- Softmax in base two of a row of scores, summed against the values: numerator over denominator. -/
def weighted {n : ℕ} (s v : Fin n → EReal) : EReal :=
  Ideal.div (∑ k, Ideal.exp2 (s k - Softmax.top s) * v k) (∑ k, Ideal.exp2 (s k - Softmax.top s))

/-- The scores of the kernel's grid point `n` against the cached keys are the reference's. -/
theorem past_eq (c : Dev nD) (t : Fin cfg0.N) (n : Fin 32) (ht : t.val = n.val) (h : Fin 8) (r : Fin 32) :
    pastScore (headCols (iblk m c 0 t) h) (pastSums (iblk m c 5 t) h) (newSums (iblk m c 5 t) h) (headRows (iblk m c 3 t) h) r
      = cachedScore (argQ m c) (argCK m c) (argC m c) n h r := by
  have hs : t.val = n.val := ht
  funext j
  unfold pastScore cachedScore
  have e0 : ∀ l : Fin 128, headCols (iblk m c 0 t) h (ix2 r l) = argQ m c (ix2 (row n r) (col h l)) := fun l => by
    refine (iblk0_apply m c t r (col h l) (by omega)).trans ?_
    exact congrArg (argQ m c) (congrArg (ix2 · _) (Fin.ext (by show t.val * 32 + r.val = n.val * 32 + r.val; omega)))
  have e3 : ∀ l : Fin 128, headRows (iblk m c 3 t) h (ix3 0 j l) = argCK m c (ix4 n j h l) := fun l => by
    refine (iblk3_apply m c t (by omega) 0 (⟨h.val + j.val * 8, by omega⟩ : Fin 16384) l).trans ?_
    have a : (⟨t.val, by omega⟩ : Fin 32) = n := Fin.ext ht
    have b : (⟨(h.val + j.val * 8) / 8, by omega⟩ : Fin 2048) = j :=
      Fin.ext (by show (h.val + j.val * 8) / 8 = j.val; omega)
    have d : (⟨(h.val + j.val * 8) % 8, by omega⟩ : Fin 8) = h :=
      Fin.ext (by show (h.val + j.val * 8) % 8 = h.val; omega)
    show argCK m c (ix4 (⟨t.val, _⟩ : Fin 32) (⟨(h.val + j.val * 8) / 8, _⟩ : Fin 2048) (⟨(h.val + j.val * 8) % 8, _⟩ : Fin 8) l) = _
    rw [a, b, d]
  have hr : (⟨t.val * 8 + h.val, by omega⟩ : Fin 256) = sumRow n h :=
    Fin.ext (by show t.val * 8 + h.val = n.val * 8 + h.val; omega)
  have e5 : newSums (iblk m c 5 t) h (ix2 0 r) = argC m c (ix2 (sumRow n h) (⟨2048 + r.val, by omega⟩ : Fin 2176)) := by
    refine (iblk5_apply m c t h (⟨2048 + r.val, by omega⟩ : Fin 2176) (by omega)).trans ?_
    rw [hr]
  have e6 : pastSums (iblk m c 5 t) h (ix2 0 j) = argC m c (ix2 (sumRow n h) (⟨j.val, by omega⟩ : Fin 2176)) := by
    refine (iblk5_apply m c t h (⟨j.val, by omega⟩ : Fin 2176) (by omega)).trans ?_
    rw [hr]
  rw [e5, e6]
  refine congrArg (· + _ - _) (Finset.sum_congr rfl fun l _ => ?_)
  rw [e0, e3]

/-- The scores of the kernel's grid point `n` against the new keys are the reference's. -/
theorem new_eq (c : Dev nD) (t : Fin cfg0.N) (n : Fin 32) (ht : t.val = n.val) (h : Fin 8) (r : Fin 32) :
    newScore (headCols (iblk m c 0 t) h) (newSums (iblk m c 5 t) h) (headCols (iblk m c 1 t) h) r
      = freshScore (argQ m c) (argK m c) (argC m c) n h r := by
  have hs : t.val = n.val := ht
  funext j
  unfold newScore freshScore
  have e0 : ∀ l : Fin 128, headCols (iblk m c 0 t) h (ix2 r l) = argQ m c (ix2 (row n r) (col h l)) := fun l => by
    refine (iblk0_apply m c t r (col h l) (by omega)).trans ?_
    exact congrArg (argQ m c) (congrArg (ix2 · _) (Fin.ext (by show t.val * 32 + r.val = n.val * 32 + r.val; omega)))
  have e1 : ∀ l : Fin 128, headCols (iblk m c 1 t) h (ix2 j l) = argK m c (ix2 (row n j) (col h l)) := fun l => by
    refine (iblk1_apply m c t j (col h l) (by omega)).trans ?_
    exact congrArg (argK m c) (congrArg (ix2 · _) (Fin.ext (by show t.val * 32 + j.val = n.val * 32 + j.val; omega)))
  have hr : (⟨t.val * 8 + h.val, by omega⟩ : Fin 256) = sumRow n h :=
    Fin.ext (by show t.val * 8 + h.val = n.val * 8 + h.val; omega)
  have e5 : ∀ r : Fin 32, newSums (iblk m c 5 t) h (ix2 0 r)
      = argC m c (ix2 (sumRow n h) (⟨2048 + r.val, by omega⟩ : Fin 2176)) := fun r => by
    refine (iblk5_apply m c t h (⟨2048 + r.val, by omega⟩ : Fin 2176) (by omega)).trans ?_
    rw [hr]
  rw [e5, e5]
  split
  · refine congrArg (· + _ - _) (Finset.sum_congr rfl fun l _ => ?_)
    rw [e0, e1]
  · rfl

/-- A point's block at an element, over the arguments: row `r`, head `h`, component `d` of stream `n`. -/
theorem block_eq (c : Dev nD) (t : Fin cfg0.N) (n : Fin 32) (ht : t.val = n.val) (h : Fin 8) (r : Fin 32) (d : Fin 128) :
    block (iblk m c 0 t) (iblk m c 1 t) (iblk m c 2 t) (iblk m c 3 t) (iblk m c 4 t) (iblk m c 5 t) r h d
      = weighted (scores (argQ m c) (argK m c) (argCK m c) (argC m c) n h r)
          (values (argV m c) (argCV m c) n h d) := by
  have hs : t.val = n.val := ht
  unfold block weighted
  refine head_apply _ _ _ _ _ _ _ r d _ _ ?_ ?_
  · unfold scores
    rw [past_eq m c t n ht h r, new_eq m c t n ht h r]
  · unfold values
    refine congrArg₂ Fin.append (funext fun j => ?_) (funext fun j => ?_)
    · refine Eq.symm ((iblk4_apply m c t (by omega) 0 (⟨h.val + j.val * 8, by omega⟩ : Fin 16384) d).trans ?_)
      have a : (⟨t.val, by omega⟩ : Fin 32) = n := Fin.ext ht
      have b : (⟨(h.val + j.val * 8) / 8, by omega⟩ : Fin 2048) = j :=
        Fin.ext (by show (h.val + j.val * 8) / 8 = j.val; omega)
      have e : (⟨(h.val + j.val * 8) % 8, by omega⟩ : Fin 8) = h :=
        Fin.ext (by show (h.val + j.val * 8) % 8 = h.val; omega)
      show argCV m c (ix4 (⟨t.val, _⟩ : Fin 32) (⟨(h.val + j.val * 8) / 8, _⟩ : Fin 2048) (⟨(h.val + j.val * 8) % 8, _⟩ : Fin 8) d) = _
      rw [a, b, e]
    · refine Eq.symm ((iblk2_apply m c t j (col h d) (by omega)).trans ?_)
      exact congrArg (argV m c) (congrArg (ix2 · _) (Fin.ext (by show t.val * 32 + j.val = n.val * 32 + j.val; omega)))

/-- The kernel's output, from its arguments. -/
def result (c : Dev nD) : Vec Ideal S1024x1024 .f32 := fun i =>
  weighted
    (scores (argQ m c) (argK m c) (argCK m c) (argC m c)
      ⟨(i 0).val / 32, by have : (i 0).val < 1024 := (i 0).isLt; omega⟩
      ⟨(i 1).val / 128, by have : (i 1).val < 1024 := (i 1).isLt; omega⟩
      ⟨(i 0).val % 32, Nat.mod_lt _ (by decide)⟩)
    (values (argV m c) (argCV m c)
      ⟨(i 0).val / 32, by have : (i 0).val < 1024 := (i 0).isLt; omega⟩
      ⟨(i 1).val / 128, by have : (i 1).val < 1024 := (i 1).isLt; omega⟩
      ⟨(i 1).val % 128, Nat.mod_lt _ (by decide)⟩)

/-- The output at row `n * 32 + r`, column `h * 128 + d`. -/
theorem result_at (c : Dev nD) (i : S1024x1024.Idx) (n : Fin 32) (h : Fin 8) (r : Fin 32) (d : Fin 128)
    (h0 : (i 0).val = n.val * 32 + r.val) (h1 : (i 1).val = h.val * 128 + d.val) :
    result m c i = weighted (scores (argQ m c) (argK m c) (argCK m c) (argC m c) n h r)
      (values (argV m c) (argCV m c) n h d) := by
  have b0 : (i 0).val < 1024 := (i 0).isLt
  have b1 : (i 1).val < 1024 := (i 1).isLt
  have en : (⟨(i 0).val / 32, by omega⟩ : Fin 32) = n := Fin.ext (by show (i 0).val / 32 = n.val; omega)
  have er : (⟨(i 0).val % 32, by omega⟩ : Fin 32) = r := Fin.ext (by show (i 0).val % 32 = r.val; omega)
  have eh : (⟨(i 1).val / 128, by omega⟩ : Fin 8) = h := Fin.ext (by show (i 1).val / 128 = h.val; omega)
  have ed : (⟨(i 1).val % 128, by omega⟩ : Fin 128) = d := Fin.ext (by show (i 1).val % 128 = d.val; omega)
  unfold result
  rw [en, er, eh, ed]

theorem index6 : ∀ t : Fin cfg0.N, win0_6.index t (0 : Fin 2) = t.val ∧ win0_6.index t (1 : Fin 2) = 0 :=
  (by decide +kernel : ∀ t : Fin grid0.N, _)

/-- After the run the output array holds the result. -/
theorem output_eq (c : Dev nD) : (dats m 0 c).arrAt 6 cfg0.N = result m c := by
  refine (dats m 0 c).arrAt_eq_of_covers 6 _ (by decide +kernel) fun t _ y => ?_
  obtain ⟨e0, e1⟩ := index6 t
  have hN : t.val < 32 := points ▸ t.isLt
  blk_simp
  rw [after0_6]
  unfold outsAt0
  refine (out_apply ..).trans ?_
  have h0 : (y 0).val < 32 := (y 0).isLt
  have h1 : (y 1).val < 1024 := (y 1).isLt
  refine (block_eq m c t ⟨t.val, hN⟩ rfl _ _ _).trans ?_
  unfold result
  have p0 : ((((cfg0.win 6).blk t).view.emb y) 0).val = t.val * 32 + (y 0).val := by
    blk_simp [e0]
  have p1 : ((((cfg0.win 6).blk t).view.emb y) 1).val = (y 1).val := by
    blk_simp [e1]
  refine Eq.symm (result_at m c _ ⟨t.val, hN⟩ _ _ _ p0 (p1.trans ?_))
  show (y 1).val = (y 1).val / 128 * 128 + (y 1).val % 128
  omega

/-- The precondition at an element: queries, new keys, cached keys and running sums are real numbers. -/
theorem inputs_real (c : Dev nD) (h : Cert.Pre_AttnSIdeal_attn_sample_finite m) :
    (∀ i, Real (argQ m c i)) ∧ (∀ i, Real (argK m c i)) ∧ (∀ i, Real (argCK m c i)) ∧ (∀ i, Real (argC m c i)) := by
  obtain ⟨h0, h1, h2, h3⟩ := h c
  exact ⟨fun i => Finite.real_of_lt _ (congrFun h0 i), fun i => Finite.real_of_lt _ (congrFun h1 i),
    fun i => Finite.real_of_lt _ (congrFun h2 i), fun i => Finite.real_of_lt _ (congrFun h3 i)⟩

/-- A score against a cached token is real. -/
theorem cached_real (c : Dev nD) (hp : Cert.Pre_AttnSIdeal_attn_sample_finite m) (n : Fin 32) (h : Fin 8) (r : Fin 32) (j : Fin 2048) :
    Real (cachedScore (argQ m c) (argCK m c) (argC m c) n h r j) := by
  obtain ⟨hq, _, hck, hc⟩ := inputs_real m c hp
  exact ((Real.sum _ _ fun l => (hq _).mul (hck _)).add (hc _)).sub (hc _)

/-- A score against a new token is real, or minus infinity: it is not infinity. -/
theorem fresh_ne_top (c : Dev nD) (hp : Cert.Pre_AttnSIdeal_attn_sample_finite m) (n : Fin 32) (h : Fin 8) (r j : Fin 32) :
    freshScore (argQ m c) (argK m c) (argC m c) n h r j ≠ ⊤ := by
  obtain ⟨hq, hk, _, hc⟩ := inputs_real m c hp
  unfold freshScore
  split
  · exact (((Real.sum _ _ fun l => (hq _).mul (hk _)).add (hc _)).sub (hc _)).ne_top
  · exact bot_ne_top

/-- The kernel's result is the reference's. -/
theorem value_eq (c : Dev nD) (hp : Cert.Pre_AttnSIdeal_attn_sample_finite m) :
    result m c = Cert.AttnSRefIdeal.Read.val_main_v44 (F := Ideal) (argQ m c) (argK m c) (argV m c) (argCK m c) (argCV m c)
      (argC m c) := by
  funext i
  have h0 : (i 0).val < 1024 := (i 0).isLt
  have h1 : (i 1).val < 1024 := (i 1).isLt
  have hn : (i 0).val / 32 < 32 := by omega
  have hh : (i 1).val / 128 < 8 := by omega
  rw [result_at m c i ⟨(i 0).val / 32, hn⟩ ⟨(i 1).val / 128, hh⟩ ⟨(i 0).val % 32, Nat.mod_lt _ (by decide)⟩
    ⟨(i 1).val % 128, Nat.mod_lt _ (by decide)⟩ (by show (i 0).val = (i 0).val / 32 * 32 + (i 0).val % 32; omega)
    (by show (i 1).val = (i 1).val / 128 * 128 + (i 1).val % 128; omega)]
  have hi : i = ix2 (row ⟨(i 0).val / 32, hn⟩ ⟨(i 0).val % 32, Nat.mod_lt _ (by decide)⟩)
      (col ⟨(i 1).val / 128, hh⟩ ⟨(i 1).val % 128, Nat.mod_lt _ (by decide)⟩) := by
    funext a
    match a with
    | ⟨0, _⟩ => exact Fin.ext (by show (i 0).val = (i 0).val / 32 * 32 + (i 0).val % 32; omega)
    | ⟨1, _⟩ => exact Fin.ext (by show (i 1).val = (i 1).val / 128 * 128 + (i 1).val % 128; omega)
  refine Eq.trans ?_ (congrArg _ hi.symm)
  rw [Cert.AttnSRefIdeal.Hand.result_apply]
  unfold weighted
  refine Softmax.attention_eq _ _ (fun k => ?_) (Fin.castAdd 32 (0 : Fin 2048)) ?_
  · unfold scores
    refine Fin.addCases (fun j => ?_) (fun j => ?_) k
    · rw [Fin.append_left]
      exact (cached_real m c hp _ _ _ j).ne_top
    · rw [Fin.append_right]
      exact fresh_ne_top m c hp _ _ _ j
  · unfold scores
    rw [Fin.append_left]
    exact (cached_real m c hp _ _ _ 0).ne_bot

end Cert.AttnSIdeal.Hand

end
-- ==== Proof.MlpBlock.lean ====
/- What one grid point of the feed-forward kernel adds to its output block, read at an element. -/
module

public import proofs.«01_k».proof.Proof.Gen.MlpIdeal.Value
public import Idealize.ShloMosaic.Lib.Pointwise
public import Idealize.ShloMosaic.Lib.Pipeline.ValueKit

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)

/-- The squared rectifier: `max a 0` times itself. -/
def sq (a : EReal) : EReal := max a 0 * max a 0

/-- The body's payload at an element: the accumulator there plus the product of the squared rectified hidden values
    with the block of the down projection. -/
theorem pay_apply (h : Vec Ideal S512x2048 .bf16) (u : Vec Ideal S2048x2048 .bf16) (acc : Vec Ideal S512x2048 .f32)
    (d : Vec Ideal S2048x2048 .bf16) (r : Fin 512) (q : Fin 2048) :
    k0_pay1 (F := Ideal) h u acc d (ix2 r q)
      = acc (ix2 r q) + ∑ k : Fin 2048, sq (∑ l : Fin 2048, h (ix2 r l) * u (ix2 l k)) * d (ix2 k q) := by
  pointwise [k0_pay1]
  rfl

variable (m : (ℓ : Loc nD τ sig) → Buf (Elt Ideal) ℓ)

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = t.val / 4 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val % 4 :=
  (by decide +kernel : ∀ t : Fin grid0.N, _)
theorem index3 : ∀ t : Fin cfg0.N, win0_3.index t (0 : Fin 2) = t.val % 4 ∧ win0_3.index t (1 : Fin 2) = 0 :=
  (by decide +kernel : ∀ t : Fin grid0.N, _)

theorem points : cfg0.N = 128 := N_0

/-- A point's block of the residual, at an element. -/
theorem iblk0_apply (c : Dev nD) (t : Fin cfg0.N) (r : Fin 512) (l : Fin 2048)
    (h : t.val / 4 * 512 + r.val < 16384) :
    iblk m c 0 t (ix2 r l) = m ((c : Thread nD τ).loc main_arg0) (ix2 ⟨t.val / 4 * 512 + r.val, h⟩ l) := by
  obtain ⟨e0, e1⟩ := index0 t
  rw [← V_main_arg0 m c]
  unfold iblk
  show V m c main_arg0 _ = _
  congr 1
  funext a
  apply Fin.ext
  match a with
  | ⟨0, _⟩ => show win0_0.index t (0 : Fin 2) * 512 + 1 * r.val = _; rw [e0, Nat.one_mul]; rfl
  | ⟨1, _⟩ => show win0_0.index t (1 : Fin 2) * 2048 + 1 * l.val = _; rw [e1, Nat.zero_mul, Nat.zero_add, Nat.one_mul]; rfl

/-- A point's block of the normalised activations, at an element. -/
theorem iblk1_apply (c : Dev nD) (t : Fin cfg0.N) (r : Fin 512) (l : Fin 2048)
    (h : t.val / 4 * 512 + r.val < 16384) :
    iblk m c 1 t (ix2 r l) = m ((c : Thread nD τ).loc main_arg1) (ix2 ⟨t.val / 4 * 512 + r.val, h⟩ l) := by
  obtain ⟨e0, e1⟩ := index1 t
  rw [← V_main_arg1 m c]
  unfold iblk
  show V m c main_arg1 _ = _
  congr 1
  funext a
  apply Fin.ext
  match a with
  | ⟨0, _⟩ => show win0_1.index t (0 : Fin 2) * 512 + 1 * r.val = _; rw [e0, Nat.one_mul]; rfl
  | ⟨1, _⟩ => show win0_1.index t (1 : Fin 2) * 2048 + 1 * l.val = _; rw [e1, Nat.zero_mul, Nat.zero_add, Nat.one_mul]; rfl

/-- The up projection the call is given is the argument's, element by element. -/
theorem V_up (c : Dev nD) (i : S2048x8192.Idx) :
    V m c main_v0 i = m ((c : Thread nD τ).loc main_arg2) i := rfl

/-- The down projection the call is given is the argument's, element by element. -/
theorem V_down (c : Dev nD) (i : S8192x2048.Idx) :
    V m c main_v1 i = m ((c : Thread nD τ).loc main_arg3) i := rfl

/-- A point's block of the up projection, at an element: 2048 of its columns. -/
theorem iblk2_apply (c : Dev nD) (t : Fin cfg0.N) (l k : Fin 2048) (h : t.val % 4 * 2048 + k.val < 8192) :
    iblk m c 2 t (ix2 l k) = m ((c : Thread nD τ).loc main_arg2) (ix2 l ⟨t.val % 4 * 2048 + k.val, h⟩) := by
  obtain ⟨e0, e1⟩ := index2 t
  rw [← V_up m c]
  unfold iblk
  show V m c main_v0 _ = _
  congr 1
  funext a
  apply Fin.ext
  match a with
  | ⟨0, _⟩ => show win0_2.index t (0 : Fin 2) * 2048 + 1 * l.val = _; rw [e0, Nat.zero_mul, Nat.zero_add, Nat.one_mul]; rfl
  | ⟨1, _⟩ => show win0_2.index t (1 : Fin 2) * 2048 + 1 * k.val = _; rw [e1, Nat.one_mul]; rfl

/-- A point's block of the down projection, at an element: 2048 of its rows. -/
theorem iblk3_apply (c : Dev nD) (t : Fin cfg0.N) (k q : Fin 2048) (h : t.val % 4 * 2048 + k.val < 8192) :
    iblk m c 3 t (ix2 k q) = m ((c : Thread nD τ).loc main_arg3) (ix2 ⟨t.val % 4 * 2048 + k.val, h⟩ q) := by
  obtain ⟨e0, e1⟩ := index3 t
  rw [← V_down m c]
  unfold iblk
  show V m c main_v1 _ = _
  congr 1
  funext a
  apply Fin.ext
  match a with
  | ⟨0, _⟩ => show win0_3.index t (0 : Fin 2) * 2048 + 1 * k.val = _; rw [e0, Nat.one_mul]; rfl
  | ⟨1, _⟩ => show win0_3.index t (1 : Fin 2) * 2048 + 1 * q.val = _; rw [e1, Nat.zero_mul, Nat.zero_add, Nat.one_mul]; rfl

end Cert.MlpIdeal.Hand

end
-- ==== Proof.MlpValue.lean ====
/- The feed-forward part: what the kernel's output holds, what the reference computes, and that the two are equal. -/
module

public import proofs.«01_k».proof.Proof.MlpBlock
public import proofs.«01_k».proof.Proof.Gen.MlpRefIdeal.Run
public import proofs.«01_k».proof.Proof.Gen.MlpRefIdeal.Read

@[expose] public section

set_option maxRecDepth 16384

noncomputable section

namespace Cert.MlpIdeal.Hand

open Cert.MlpIdeal Cert.MlpIdeal.Gen Idealize.ShloMosaic Idealize.ShloMosaic.TcCoe Idealize.SL.Sem

/-- One hidden unit's share of an output element: the squared rectified hidden value times its weight. -/
def unit (h : Vec Ideal S16384x2048 .bf16) (u : Vec Ideal S2048x8192 .f32) (d : Vec Ideal S8192x2048 .f32)
    (r : Fin 16384) (q : Fin 2048) (k : Fin 8192) : EReal :=
  sq (∑ l : Fin 2048, h (ix2 r l) * u (ix2 l k)) * d (ix2 k q)

/-- The feed-forward part in one formula: the residual plus the sum over all 8192 hidden units. -/
def feedForward (x : Vec Ideal S16384x2048 .f32) (h : Vec Ideal S16384x2048 .bf16) (u : Vec Ideal S2048x8192 .f32)
    (d : Vec Ideal S8192x2048 .f32) : Vec Ideal S16384x2048 .f32 := fun i =>
  x i + ∑ k : Fin 8192, unit h u d (i 0) (i 1) k

/-- The reference computes that formula. -/
theorem reference_eq (x : Vec Ideal S16384x2048 .f32) (h : Vec Ideal S16384x2048 .bf16)
    (u : Vec Ideal S2048x8192 .f32) (d : Vec Ideal S8192x2048 .f32) :
    Cert.MlpRefIdeal.Read.val_main_v5 (F := Ideal) x h u d = feedForward x h u d := by
  funext i
  idx_vars i
  pointwise [Cert.MlpRefIdeal.Read.val_main_v5, Cert.MlpRefIdeal.Read.val_main_v4, Cert.MlpRefIdeal.Read.val_main_v3,
    Cert.MlpRefIdeal.Read.val_main_v2, Cert.MlpRefIdeal.Read.val_main_v1, Cert.MlpRefIdeal.Read.val_main_v0,
    Cert.MlpRefIdeal.Read.val_main_call0_v0, Cert.MlpRefIdeal.Read.val_main_call0_cst]
  rfl

variable (m : (ℓ : Loc nD τ sig) → Buf (Elt Ideal) ℓ)

/-- The arguments of the call, as arrays. -/
abbrev argX (c : Dev nD) : Vec Ideal S16384x2048 .f32 := m ((c : Thread nD τ).loc main_arg0)
abbrev argH (c : Dev nD) : Vec Ideal S16384x2048 .bf16 := m ((c : Thread nD τ).loc main_arg1)
abbrev argU (c : Dev nD) : Vec Ideal S2048x8192 .f32 := m ((c : Thread nD τ).loc main_arg2)
abbrev argD (c : Dev nD) : Vec Ideal S8192x2048 .f32 := m ((c : Thread nD τ).loc main_arg3)

/-- What grid point `n` adds at element `(r, q)` of its row block: its 2048 hidden units. -/
def part (c : Dev nD) (n : ℕ) (i : S512x2048.Idx) : EReal :=
  if h : n < 128 then
    ∑ k : Fin 2048, unit (argH m c) (argU m c) (argD m c)
      ⟨n / 4 * 512 + (i 0).val, by have : (i 0).val < 512 := (i 0).isLt; omega⟩ (i 1)
      ⟨n % 4 * 2048 + k.val, by omega⟩
  else 0

/-- The payload over a point's blocks: the accumulator plus the point's part. -/
theorem pay_blocks (c : Dev nD) (n : ℕ) (h : n < cfg0.N) (acc : Vec Ideal S512x2048 .f32) (i : S512x2048.Idx) :
    k0_pay1 (iblk m c 1 ⟨n, h⟩) (iblk m c 2 ⟨n, h⟩) acc (iblk m c 3 ⟨n, h⟩) i = acc i + part m c n i := by
  have hn : n < 128 := points ▸ h
  idx_vars i
  refine (pay_apply _ _ _ _ _ _).trans ?_
  unfold part
  rw [dif_pos hn]
  refine congrArg (_ + ·) (Finset.sum_congr rfl fun k _ => ?_)
  unfold unit
  rw [iblk3_apply m c ⟨n, h⟩ k _ (by show n % 4 * 2048 + k.val < 8192; omega)]
  refine congrArg (· * _) (congrArg sq (Finset.sum_congr rfl fun l _ => ?_))
  rw [iblk1_apply m c ⟨n, h⟩ _ l (by show n / 4 * 512 + _ < 16384; omega),
    iblk2_apply m c ⟨n, h⟩ l k (by show n % 4 * 2048 + k.val < 8192; omega)]
  rfl

/-- The kernel's output array is the feed-forward formula of its arguments. -/
theorem output_eq (c : Dev nD) :
    Value.G4 m c = feedForward (argX m c) (argH m c) (argU m c) (argD m c) := by
  funext i
  have h0 : (i 0).val < 16384 := (i 0).isLt
  have h1 : (i 1).val < 2048 := (i 1).isLt
  have hrun : Value.run4Of i = (i 0).val / 512 := by
    show 1 * ((i 0).val / 512 - 0) + 1 * ((i 1).val / 2048 - 0) = _
    omega
  have hN : 4 * Value.run4Of i + 3 < cfg0.N := by rw [hrun, points]; omega
  unfold Value.G4
  rw [dif_pos hN,
    Pipeline.accAt_add_apply (Value.reset4 m c) (Value.step4 m c)
      (fun j => iblk m c 0 ⟨4 * Value.run4Of i, by omega⟩ j) (part m c) (4 * Value.run4Of i) 3
      (fun h j => pay_blocks m c _ h _ j) (fun n h acc j _ _ => pay_blocks m c n h acc j) 3 le_rfl hN]
  have hl : Value.loc4Of i
      = ix2 (⟨(i 0).val % 512, Nat.mod_lt _ (by decide)⟩ : Fin 512) (⟨(i 1).val, h1⟩ : Fin 2048) := by
    funext a
    match a with
    | ⟨0, _⟩ => rfl
    | ⟨1, _⟩ => exact Fin.ext (Nat.mod_eq_of_lt h1)
  have hi : i = ix2 (⟨(i 0).val, h0⟩ : Fin 16384) (⟨(i 1).val, h1⟩ : Fin 2048) := by
    funext a
    match a with
    | ⟨0, _⟩ => rfl
    | ⟨1, _⟩ => rfl
  rw [hl]
  unfold feedForward
  have hx : iblk m c 0 ⟨4 * Value.run4Of i, by omega⟩
        (ix2 (⟨(i 0).val % 512, Nat.mod_lt _ (by decide)⟩ : Fin 512) (⟨(i 1).val, h1⟩ : Fin 2048)) = argX m c i := by
    rw [iblk0_apply m c _ _ _ (by show 4 * Value.run4Of i / 4 * 512 + (i 0).val % 512 < 16384; omega)]
    refine congrArg (argX m c) (Eq.trans ?_ hi.symm)
    refine congrArg (ix2 · _) (Fin.ext ?_)
    show 4 * Value.run4Of i / 4 * 512 + (i 0).val % 512 = (i 0).val
    omega
  refine congrArg₂ (· + ·) hx ?_
  rw [← Fin.sum_univ_eq_sum_range (fun s => part m c (4 * Value.run4Of i + s)
    (ix2 (⟨(i 0).val % 512, Nat.mod_lt _ (by decide)⟩ : Fin 512) (⟨(i 1).val, h1⟩ : Fin 2048)))]
  let f : ℕ → EReal := fun k => if hk : k < 8192 then
    unit (argH m c) (argU m c) (argD m c) (i 0) (i 1) ⟨k, hk⟩ else 0
  have hf : ∀ k : Fin 8192, unit (argH m c) (argU m c) (argD m c) (i 0) (i 1) k = f k.val := fun k => by
    show _ = dite _ _ _
    rw [dif_pos k.isLt]
  rw [Finset.sum_congr rfl fun k _ => hf k]
  refine Eq.trans (Finset.sum_congr rfl fun s _ => ?_) (Fin.sum_univ_univ_mul_add 4 2048 f)
  have hs : s.val < 4 := s.isLt
  unfold part
  rw [dif_pos (by omega)]
  refine Finset.sum_congr rfl fun k _ => ?_
  have hk : s.val * 2048 + k.val < 8192 := by have := k.isLt; omega
  show _ = dite _ _ _
  rw [dif_pos hk]
  refine congrArg₂ (fun r k => unit (argH m c) (argU m c) (argD m c) r (i 1) k) (Fin.ext ?_) (Fin.ext ?_)
  · show (4 * Value.run4Of i + s.val) / 4 * 512 + (i 0).val % 512 = (i 0).val
    omega
  · show (4 * Value.run4Of i + s.val) % 4 * 2048 + k.val = s.val * 2048 + k.val
    omega

end Cert.MlpIdeal.Hand

end
-- ==== Proof.InProjBlock.lean ====
/- One grid point of the input projection, read at an element: 512 rows normalised, multiplied with the weights, and the
   eight heads of the queries and keys normalised again. -/
module

public import proofs.«01_k».proof.Proof.Gen.InProjIdeal.Value
public import Idealize.ShloMosaic.Lib.Pointwise
public import Idealize.ShloMosaic.Lib.Pipeline.ValueKit
public import Idealize.ShloMosaic.PureOps.IdealRules

@[expose] public section

set_option maxRecDepth 16384

noncomputable section

namespace Cert.InProjIdeal.Hand

open Cert.InProjIdeal Cert.InProjIdeal.Gen Idealize.ShloMosaic Idealize.ShloMosaic.TcCoe Idealize.SL.Sem

/-- A row divided by the root of its mean square (plus the small constant), entry `l`, times the gain there. -/
def normed {n : ℕ} (count : EReal) (x g : Fin n → EReal) (l : Fin n) : EReal :=
  x l * Ideal.rsqrt (Ideal.div (∑ k : Fin n, x k * x k) count + Scalar.ofBits (F := Ideal) .f32 0x358637BD#32) * g l

/-- A row of the activations, normalised. -/
def normRow (x g : Fin 2048 → EReal) (l : Fin 2048) : EReal :=
  normed (Scalar.ofBits (F := Ideal) .f32 0x45000000#32) x g l

/-- One head of a row of queries or keys, normalised. -/
def headRow (x g : Fin 128 → EReal) (d : Fin 128) : EReal :=
  normed (Scalar.ofBits (F := Ideal) .f32 0x43000000#32) x g d

/-- A row of the activations, normalised, times one row of the weights. -/
def proj (x g w : Fin 2048 → EReal) : EReal := ∑ l : Fin 2048, normRow x g l * w l

/-- The logarithm of the logistic function. -/
def logSigmoid (z : EReal) : EReal := min z 0 - Ideal.log1p (Ideal.exp (0 - max z (-z)))

/-- The kernel's normalised rows. -/
theorem pay1_apply (x : Vec Ideal S512x2048 .f32) (g : Vec Ideal S1x2048 .f32) (r : Fin 512) (l : Fin 2048) :
    k0_pay1 (F := Ideal) x g (ix2 r l) = normRow (fun k => x (ix2 r k)) (fun k => g (ix2 0 k)) l := by
  pointwise [k0_pay1]
  rfl

/-- The product of 512 rows with 1024 rows of the weights, as a sum. -/
theorem pay36_apply (h : FVec Ideal S512x2048 .bf16) (w : Vec Ideal S1024x2048 .bf16) (r : Fin 512) (o : Fin 1024) :
    k0_pay36 (F := Ideal) h w (ix2 r o) = ∑ l : Fin 2048, h (ix2 r l) * w (ix2 o l) := by
  pointwise [k0_pay36]

/-- A block of the projection: the normalised rows times 1024 rows of the weights. -/
theorem rows_apply (x : Vec Ideal S512x2048 .f32) (g : Vec Ideal S1x2048 .f32) (w : Vec Ideal S1024x2048 .bf16)
    (r : Fin 512) (o : Fin 1024) :
    k0_pay36 (F := Ideal) (k0_pay1 x g) w (ix2 r o)
      = proj (fun k => x (ix2 r k)) (fun k => g (ix2 0 k)) (fun k => w (ix2 o k)) := by
  refine (pay36_apply _ _ _ _).trans (Finset.sum_congr rfl fun l _ => ?_)
  rw [pay1_apply]

/-- The logarithm of the forget gate, transposed. -/
theorem pay38_apply (h : FVec Ideal S512x2048 .bf16) (w : Vec Ideal S128x2048 .bf16) (b : Vec Ideal S1x128 .f32)
    (j : Fin 8) (r : Fin 512) :
    k0_pay38 (F := Ideal) h w b (ix2 j r)
      = logSigmoid ((∑ l : Fin 2048, h (ix2 r l) * w (ix2 (⟨j.val, by omega⟩ : Fin 128) l))
          + b (ix2 0 (⟨j.val, by omega⟩ : Fin 128))) := by
  pointwise [k0_pay38]
  rfl

/-- One head's 128 columns normalised and multiplied with the gain, as vector operations. -/
def headVec (z : FVec Ideal S512x128 .f32) (g : Vec Ideal S1x128 .f32) : FVec Ideal S512x128 .f32 :=
  mulf (mulf z (broadcastTo S512x128 (rsqrt (addf (divf (shapeCast S512x1
    (multiReduction .add [1] S512 (mulf z z) 0x00000000#32 reduces_S512x128_S512 (.inl rfl) rfl) shapeCasts_S512_S512x1)
    (broadcast S512x1 (Scalar.ofBits .f32 0x43000000#32))) (broadcast S512x1 (Scalar.ofBits .f32 0x358637BD#32))))
    broadcasts_S512x1_S512x128)) (broadcastTo S512x128 g broadcasts_S1x128_S512x128)

/-- Those operations at an element. -/
theorem headVec_apply (z : FVec Ideal S512x128 .f32) (g : Vec Ideal S1x128 .f32) (r : Fin 512) (d : Fin 128) :
    headVec z g (ix2 r d) = headRow (fun k => z (ix2 r k)) (fun k => g (ix2 0 k)) d := by
  pointwise [headVec]
  rfl

/-- Columns `h * 128 …` of a block, at an element. -/
theorem slice_apply (z : FVec Ideal S512x1024 .f32) (h : Fin 8) (o : ℕ) (hs : S512x1024.Slices ![0, o] S512x128)
    (ho : o = h.val * 128) (r : Fin 512) (d : Fin 128) :
    extractStridedSlice S512x128 ![0, o] z hs (ix2 r d) = z (ix2 r (⟨h.val * 128 + d.val, by omega⟩ : Fin 1024)) := by
  subst ho
  refine extractStridedSlice_apply _ _ _ _ _ fun a => ?_
  match a with
  | ⟨0, _⟩ => exact (Nat.zero_add _).symm
  | ⟨1, _⟩ => rfl

/-- A block's heads normalised one by one: element `(r, h * 128 + d)`. -/
def headBlock (z : FVec Ideal S512x1024 .f32) (g : Vec Ideal S1x128 .f32) (y : S512x1024.Idx) : EReal :=
  headRow (fun k => z (ix2 (y 0) (⟨(y 1).val / 128 * 128 + k.val, by
      have : (y 1).val < 1024 := (y 1).isLt
      omega⟩ : Fin 1024)))
    (fun k => g (ix2 0 k)) ⟨(y 1).val % 128, Nat.mod_lt _ (by decide)⟩

/-- Head `h`'s operations are the block's heads at column `h * 128 + d`. -/
theorem head_eq (z : FVec Ideal S512x1024 .f32) (g : Vec Ideal S1x128 .f32) (h : Fin 8) (o : ℕ)
    (hs : S512x1024.Slices ![0, o] S512x128) (ho : o = h.val * 128) (x : S512x128.Idx) (y : S512x1024.Idx)
    (h0 : (y 0).val = 0 + 1 * (x 0).val) (h1 : (y 1).val = o + 1 * (x 1).val) :
    headVec (extractStridedSlice S512x128 ![0, o] z hs) g x = headBlock z g y := by
  have hx : (x 1).val < 128 := (x 1).isLt
  have e0 : y 0 = x 0 := Fin.ext (by rw [h0]; omega)
  have ed : (y 1).val / 128 = h.val := by omega
  have em : (y 1).val % 128 = (x 1).val := by omega
  have ex : x = (ix2 (x 0) (x 1) : S512x128.Idx) := by
    funext a
    match a with
    | ⟨0, _⟩ => rfl
    | ⟨1, _⟩ => rfl
  refine (congrArg (headVec _ g) ex).trans ((headVec_apply _ g _ _).trans ?_)
  unfold headBlock
  refine congr (congrArg₂ headRow (funext fun k => ?_) rfl) (Fin.ext em.symm)
  refine (slice_apply z h o hs ho _ _).trans ?_
  exact congrArg z (congrArg₂ ix2 e0.symm (Fin.ext (by show h.val * 128 + k.val = _; rw [← ed])))

/-- A load of a whole array from its first element is the array. -/
theorem ld_whole (s : Shape) (e : EltTy) (x : Vec Ideal s e) (off : Fin s.rank → ℕ) (inb) (h : ∀ a, off a = 0) :
    View.ld x (Rect.unit (s := s) off s.size inb) = x := by
  funext i
  refine View.ld_unit_apply_of x _ _ inb i _ fun a => ?_
  rw [h a, Nat.zero_add]

/-- A load of 1024 rows of the weights from row `o`. -/
theorem ld_weights (x : Vec Ideal S4096x2048 .bf16) (o : ℕ) (inb) (r : Fin 1024) (l : Fin 2048) (h : o + r.val < 4096) :
    View.ld x (Rect.unit (s := S4096x2048) ![o, 0] S1024x2048.size inb) (ix2 r l) = x (ix2 (⟨o + r.val, h⟩ : Fin 4096) l) := by
  refine View.ld_unit_apply_of x _ _ inb _ _ fun a => ?_
  match a with
  | ⟨0, _⟩ => rfl
  | ⟨1, _⟩ => exact (Nat.zero_add _).symm

section Body

variable (x0 : Vec Ideal S512x2048 .f32) (x1 : Vec Ideal S1x2048 .f32) (x2 : Vec Ideal S4096x2048 .bf16)
  (x3 : Vec Ideal S128x2048 .bf16) (x4 x5 x6 : Vec Ideal S1x128 .f32)

/-- 1024 columns of the projection of a point's rows, those of the weights' rows `o …`. -/
def blockCols (o : ℕ) (h : o ≤ 3072) : FVec Ideal S512x1024 .f32 := fun y =>
  proj (fun k => x0 (ix2 (y 0) k)) (fun k => x1 (ix2 0 k))
    (fun k => x2 (ix2 (⟨o + (y 1).val, by have : (y 1).val < 1024 := (y 1).isLt; omega⟩ : Fin 4096) k))

/-- The product over the loads is those columns. -/
theorem cols_eq (o : ℕ) (ho : o ≤ 3072) (i0 i1 i2) :
    k0_pay36 (F := Ideal) (k0_pay1 (View.ld x0 (Rect.unit (s := S512x2048) ![0, 0] S512x2048.size i0))
        (View.ld x1 (Rect.unit (s := S1x2048) ![0, 0] S1x2048.size i1)))
        (View.ld x2 (Rect.unit (s := S4096x2048) ![o, 0] S1024x2048.size i2))
      = blockCols x0 x1 x2 o ho := by
  funext y
  have ey : y = (ix2 (y 0) (y 1) : S512x1024.Idx) := by
    funext a
    match a with
    | ⟨0, _⟩ => rfl
    | ⟨1, _⟩ => rfl
  rw [ld_whole S512x2048 .f32 x0 ![0, 0] i0 (by decide), ld_whole S1x2048 .f32 x1 ![0, 0] i1 (by decide)]
  refine (congrArg _ ey).trans ((rows_apply _ _ _ _ _).trans ?_)
  unfold blockCols
  refine congrArg (proj _ _) (funext fun k => ?_)
  exact ld_weights x2 o i2 _ k _

theorem out7_eq : out0_7 x0 x1 x2 x3 x4 x5 x6 = blockCols x0 x1 x2 0 (by omega) := by
  funext y
  unfold_out out0_7
  refine View.canon_apply_of_pieces (Val := Elt Ideal) (blockCols x0 x1 x2 0 (by omega)) _ ?_ y (cover0_7 _ y)
  intro pc hpc
  rcases List.mem_cons.mp hpc with rfl | hpc
  · intro x
    refine (congrFun (cols_eq x0 x1 x2 0 (by omega) _ _ _) x).trans (congrArg _ (funext fun a => Fin.ext ?_))
    match a with
    | ⟨0, _⟩ => show (x 0).val = 0 + 1 * (x 0).val; omega
    | ⟨1, _⟩ => show (x 1).val = 0 + 1 * (x 1).val; omega
  nomatch hpc

theorem out11_eq : out0_11 x0 x1 x2 x3 x4 x5 x6 = blockCols x0 x1 x2 3072 le_rfl := by
  funext y
  unfold_out out0_11
  refine View.canon_apply_of_pieces (Val := Elt Ideal) (blockCols x0 x1 x2 3072 le_rfl) _ ?_ y (cover0_11 _ y)
  intro pc hpc
  rcases List.mem_cons.mp hpc with rfl | hpc
  · intro x
    refine (congrFun (cols_eq x0 x1 x2 3072 le_rfl _ _ _) x).trans (congrArg _ (funext fun a => Fin.ext ?_))
    match a with
    | ⟨0, _⟩ => show (x 0).val = 0 + 1 * (x 0).val; omega
    | ⟨1, _⟩ => show (x 1).val = 0 + 1 * (x 1).val; omega
  nomatch hpc

theorem out12_eq : out0_12 x0 x1 x2 x3 x4 x5 x6 = blockCols x0 x1 x2 3072 le_rfl := by
  funext y
  unfold_out out0_12
  refine View.canon_apply_of_pieces (Val := Elt Ideal) (blockCols x0 x1 x2 3072 le_rfl) _ ?_ y (cover0_12 _ y)
  intro pc hpc
  rcases List.mem_cons.mp hpc with rfl | hpc
  · intro x
    refine (congrFun (cols_eq x0 x1 x2 3072 le_rfl _ _ _) x).trans (congrArg _ (funext fun a => Fin.ext ?_))
    match a with
    | ⟨0, _⟩ => show (x 0).val = 0 + 1 * (x 0).val; omega
    | ⟨1, _⟩ => show (x 1).val = 0 + 1 * (x 1).val; omega
  nomatch hpc

/-- The constant the queries are multiplied with. -/
def scale : EReal := (Named.named κ "scale" 0x3E0293EE#32 : Ideal .f32)

/-- It is one over the root of 128 and the logarithm of 2. -/
theorem scale_eq : scale = (((Real.sqrt 128)⁻¹ * (Real.log 2)⁻¹ : ℝ) : EReal) :=
  IdealRules.named_const.ideal_named_scalar _ _ _ _ rfl

/-- The keys' block: the heads of the columns from 2048, normalised. -/
def blockK (y : S512x1024.Idx) : EReal := headBlock (blockCols x0 x1 x2 2048 (by omega)) x6 y

/-- The queries' block: the heads of the columns from 1024, normalised and scaled. -/
def blockQ (y : S512x1024.Idx) : EReal := headBlock (blockCols x0 x1 x2 1024 (by omega)) x5 y * scale

theorem keyK (h : Fin 8) (o : ℕ) (hs : S512x1024.Slices ![0, o] S512x128) (ho : o = h.val * 128) (x : S512x128.Idx)
    (y : S512x1024.Idx) (h0 : (y 0).val = 0 + 1 * (x 0).val) (h1 : (y 1).val = o + 1 * (x 1).val) :
    headVec (extractStridedSlice S512x128 ![0, o]
      (k0_pay36 (F := Ideal) (k0_pay1 (View.ld x0 r0_0) (View.ld x1 r0_1)) (View.ld x2 r0_14)) hs) (View.ld x6 r0_5) x
      = blockK x0 x1 x2 x6 y := by
  rw [cols_eq x0 x1 x2 2048 (by omega), ld_whole S1x128 .f32 x6 ![0, 0] _ (by decide)]
  exact head_eq _ _ h o hs ho x y h0 h1

theorem keyQ (h : Fin 8) (o : ℕ) (hs : S512x1024.Slices ![0, o] S512x128) (ho : o = h.val * 128) (x : S512x128.Idx)
    (y : S512x1024.Idx) (h0 : (y 0).val = 0 + 1 * (x 0).val) (h1 : (y 1).val = o + 1 * (x 1).val) :
    headVec (extractStridedSlice S512x128 ![0, o]
      (k0_pay36 (F := Ideal) (k0_pay1 (View.ld x0 r0_0) (View.ld x1 r0_1)) (View.ld x2 r0_4)) hs) (View.ld x5 r0_5) x * scale
      = blockQ x0 x1 x2 x5 y := by
  rw [cols_eq x0 x1 x2 1024 (by omega), ld_whole S1x128 .f32 x5 ![0, 0] _ (by decide)]
  exact congrArg (· * scale) (head_eq _ _ h o hs ho x y h0 h1)

theorem out8_eq : out0_8 x0 x1 x2 x3 x4 x5 x6 = blockQ x0 x1 x2 x5 := by
  funext y
  unfold_out out0_8
  refine View.canon_apply_of_pieces (Val := Elt Ideal) (blockQ x0 x1 x2 x5) _ ?_ y (cover0_8 _ _ _ _ _ _ _ _ y)
  intro pc hpc
  rcases List.mem_cons.mp hpc with rfl | hpc
  · exact fun x => keyQ x0 x1 x2 x5 7 896 slices_S512x1024_o0_896_S512x128 rfl x _ rfl rfl
  rcases List.mem_cons.mp hpc with rfl | hpc
  · exact fun x => keyQ x0 x1 x2 x5 6 768 slices_S512x1024_o0_768_S512x128 rfl x _ rfl rfl
  rcases List.mem_cons.mp hpc with rfl | hpc
  · exact fun x => keyQ x0 x1 x2 x5 5 640 slices_S512x1024_o0_640_S512x128 rfl x _ rfl rfl
  rcases List.mem_cons.mp hpc with rfl | hpc
  · exact fun x => keyQ x0 x1 x2 x5 4 512 slices_S512x1024_o0_512_S512x128 rfl x _ rfl rfl
  rcases List.mem_cons.mp hpc with rfl | hpc
  · exact fun x => keyQ x0 x1 x2 x5 3 384 slices_S512x1024_o0_384_S512x128 rfl x _ rfl rfl
  rcases List.mem_cons.mp hpc with rfl | hpc
  · exact fun x => keyQ x0 x1 x2 x5 2 256 slices_S512x1024_o0_256_S512x128 rfl x _ rfl rfl
  rcases List.mem_cons.mp hpc with rfl | hpc
  · exact fun x => keyQ x0 x1 x2 x5 1 128 slices_S512x1024_o0_128_S512x128 rfl x _ rfl rfl
  rcases List.mem_cons.mp hpc with rfl | hpc
  · exact fun x => keyQ x0 x1 x2 x5 0 0 slices_S512x1024_o0_0_S512x128 rfl x _ rfl rfl
  nomatch hpc

theorem out9_eq : out0_9 x0 x1 x2 x3 x4 x5 x6 = blockK x0 x1 x2 x6 := by
  funext y
  unfold_out out0_9
  refine View.canon_apply_of_pieces (Val := Elt Ideal) (blockK x0 x1 x2 x6) _ ?_ y (cover0_9 _ _ _ _ _ _ _ _ y)
  intro pc hpc
  rcases List.mem_cons.mp hpc with rfl | hpc
  · exact fun x => keyK x0 x1 x2 x6 7 896 slices_S512x1024_o0_896_S512x128 rfl x _ rfl rfl
  rcases List.mem_cons.mp hpc with rfl | hpc
  · exact fun x => keyK x0 x1 x2 x6 6 768 slices_S512x1024_o0_768_S512x128 rfl x _ rfl rfl
  rcases List.mem_cons.mp hpc with rfl | hpc
  · exact fun x => keyK x0 x1 x2 x6 5 640 slices_S512x1024_o0_640_S512x128 rfl x _ rfl rfl
  rcases List.mem_cons.mp hpc with rfl | hpc
  · exact fun x => keyK x0 x1 x2 x6 4 512 slices_S512x1024_o0_512_S512x128 rfl x _ rfl rfl
  rcases List.mem_cons.mp hpc with rfl | hpc
  · exact fun x => keyK x0 x1 x2 x6 3 384 slices_S512x1024_o0_384_S512x128 rfl x _ rfl rfl
  rcases List.mem_cons.mp hpc with rfl | hpc
  · exact fun x => keyK x0 x1 x2 x6 2 256 slices_S512x1024_o0_256_S512x128 rfl x _ rfl rfl
  rcases List.mem_cons.mp hpc with rfl | hpc
  · exact fun x => keyK x0 x1 x2 x6 1 128 slices_S512x1024_o0_128_S512x128 rfl x _ rfl rfl
  rcases List.mem_cons.mp hpc with rfl | hpc
  · exact fun x => keyK x0 x1 x2 x6 0 0 slices_S512x1024_o0_0_S512x128 rfl x _ rfl rfl
  nomatch hpc

theorem out10_eq : out0_10 x0 x1 x2 x3 x4 x5 x6 = blockK x0 x1 x2 x6 := by
  funext y
  unfold_out out0_10
  refine View.canon_apply_of_pieces (Val := Elt Ideal) (blockK x0 x1 x2 x6) _ ?_ y (cover0_10 _ _ _ _ _ _ _ _ y)
  intro pc hpc
  rcases List.mem_cons.mp hpc with rfl | hpc
  · exact fun x => keyK x0 x1 x2 x6 7 896 slices_S512x1024_o0_896_S512x128 rfl x _ rfl rfl
  rcases List.mem_cons.mp hpc with rfl | hpc
  · exact fun x => keyK x0 x1 x2 x6 6 768 slices_S512x1024_o0_768_S512x128 rfl x _ rfl rfl
  rcases List.mem_cons.mp hpc with rfl | hpc
  · exact fun x => keyK x0 x1 x2 x6 5 640 slices_S512x1024_o0_640_S512x128 rfl x _ rfl rfl
  rcases List.mem_cons.mp hpc with rfl | hpc
  · exact fun x => keyK x0 x1 x2 x6 4 512 slices_S512x1024_o0_512_S512x128 rfl x _ rfl rfl
  rcases List.mem_cons.mp hpc with rfl | hpc
  · exact fun x => keyK x0 x1 x2 x6 3 384 slices_S512x1024_o0_384_S512x128 rfl x _ rfl rfl
  rcases List.mem_cons.mp hpc with rfl | hpc
  · exact fun x => keyK x0 x1 x2 x6 2 256 slices_S512x1024_o0_256_S512x128 rfl x _ rfl rfl
  rcases List.mem_cons.mp hpc with rfl | hpc
  · exact fun x => keyK x0 x1 x2 x6 1 128 slices_S512x1024_o0_128_S512x128 rfl x _ rfl rfl
  rcases List.mem_cons.mp hpc with rfl | hpc
  · exact fun x => keyK x0 x1 x2 x6 0 0 slices_S512x1024_o0_0_S512x128 rfl x _ rfl rfl
  nomatch hpc

/-- The forget gate's block: the logarithms of the logistic function, transposed. -/
def blockF (y : S8x512.Idx) : EReal :=
  logSigmoid (proj (fun k => x0 (ix2 (y 1) k)) (fun k => x1 (ix2 0 k))
      (fun k => x3 (ix2 (⟨(y 0).val, by have : (y 0).val < 8 := (y 0).isLt; omega⟩ : Fin 128) k))
    + x4 (ix2 0 (⟨(y 0).val, by have : (y 0).val < 8 := (y 0).isLt; omega⟩ : Fin 128)))

theorem out13_eq : out0_13 x0 x1 x2 x3 x4 x5 x6 = blockF x0 x1 x3 x4 := by
  funext y
  unfold_out out0_13
  refine View.canon_apply_of_pieces (Val := Elt Ideal) (blockF x0 x1 x3 x4) _ ?_ y (cover0_13 _ y)
  intro pc hpc
  rcases List.mem_cons.mp hpc with rfl | hpc
  · intro x
    have ex : x = (ix2 (x 0) (x 1) : S8x512.Idx) := by
      funext a
      match a with
      | ⟨0, _⟩ => rfl
      | ⟨1, _⟩ => rfl
    have ey : r0_17.emb x = x := by
      funext a
      apply Fin.ext
      match a with
      | ⟨0, _⟩ => show 0 + 1 * (x 0).val = (x 0).val; omega
      | ⟨1, _⟩ => show 0 + 1 * (x 1).val = (x 1).val; omega
    rw [ey, ld_whole S512x2048 .f32 x0 ![0, 0] _ (by decide), ld_whole S1x2048 .f32 x1 ![0, 0] _ (by decide),
      ld_whole S128x2048 .bf16 x3 ![0, 0] _ (by decide), ld_whole S1x128 .f32 x4 ![0, 0] _ (by decide)]
    refine (congrArg _ ex).trans ((pay38_apply _ _ _ _ _).trans ?_)
    unfold blockF
    refine congrArg logSigmoid (congrArg (· + _) (Finset.sum_congr rfl fun l _ => ?_))
    exact congrArg (· * _) (pay1_apply _ _ _ _)
  nomatch hpc

end Body

end Cert.InProjIdeal.Hand

end
-- ==== Proof.InProjOutputs.lean ====
/- The input projection's seven output arrays after the run, as formulas of its arguments. -/
module

public import proofs.«01_k».proof.Proof.InProjBlock

@[expose] public section

set_option maxRecDepth 16384

noncomputable section

namespace Cert.InProjIdeal.Hand

open Cert.InProjIdeal Cert.InProjIdeal.Gen Idealize.ShloMosaic Idealize.ShloMosaic.TcCoe Idealize.SL.Sem

section Formulas

variable {n : ℕ} (x : Vec Ideal ⟨2, ![n, 2048]⟩ .f32) (g : Vec Ideal S1x2048 .f32) (w : Vec Ideal S4096x2048 .bf16)
  (wf : Vec Ideal S128x2048 .bf16) (b : Vec Ideal S1x128 .f32)

/-- 1024 columns of the projection: the normalised rows times the weights' rows `o …`. -/
def cols (o : ℕ) (h : o ≤ 3072) (r : Fin n) (q : Fin 1024) : EReal :=
  proj (fun k => x (ix2 r k)) (fun k => g (ix2 0 k)) (fun k => w (ix2 (⟨o + q.val, by omega⟩ : Fin 4096) k))

/-- Those columns' heads normalised one by one. -/
def heads (o : ℕ) (h : o ≤ 3072) (gain : Vec Ideal S1x128 .f32) (r : Fin n) (q : Fin 1024) : EReal :=
  headRow (fun k => cols x g w o h r (⟨q.val / 128 * 128 + k.val, by omega⟩ : Fin 1024))
    (fun k => gain (ix2 0 k)) ⟨q.val % 128, Nat.mod_lt _ (by decide)⟩

/-- The logarithm of head `j`'s forget gate at row `r`. -/
def gate (j : Fin 8) (r : Fin n) : EReal :=
  logSigmoid (proj (fun k => x (ix2 r k)) (fun k => g (ix2 0 k)) (fun k => wf (ix2 (⟨j.val, by omega⟩ : Fin 128) k))
    + b (ix2 0 (⟨j.val, by omega⟩ : Fin 128)))

variable (x0 : Vec Ideal S512x2048 .f32) (t : ℕ)
  (h0 : ∀ (r : Fin 512) (l : Fin 2048) (h : t * 512 + r.val < n), x0 (ix2 r l) = x (ix2 ⟨t * 512 + r.val, h⟩ l))

include h0

/-- A point's columns are the array's, if the point's rows are 512 rows of the array. -/
theorem blockCols_of (o : ℕ) (h : o ≤ 3072) (y : S512x1024.Idx) (r : Fin n) (q : Fin 1024)
    (hr : r.val = t * 512 + (y 0).val) (hq : q.val = (y 1).val) : blockCols x0 g w o h y = cols x g w o h r q := by
  unfold blockCols cols
  obtain ⟨r, hr'⟩ := r
  obtain rfl : r = t * 512 + (y 0).val := hr
  have eq : (y 1 : Fin 1024) = q := Fin.ext hq.symm
  subst eq
  exact congrArg (fun f => proj f _ _) (funext fun k => h0 (y 0) k _)

/-- A point's normalised heads are the array's, if the point's rows are 512 rows of the array. -/
theorem headBlock_of (o : ℕ) (h : o ≤ 3072) (gain : Vec Ideal S1x128 .f32) (y : S512x1024.Idx) (r : Fin n) (q : Fin 1024)
    (hr : r.val = t * 512 + (y 0).val) (hq : q.val = (y 1).val) :
    headBlock (blockCols x0 g w o h) gain y = heads x g w o h gain r q := by
  unfold headBlock heads
  have eq : (y 1 : Fin 1024) = q := Fin.ext hq.symm
  subst eq
  exact congrArg (fun f => headRow f _ _) (funext fun k => blockCols_of x g w x0 t h0 o h _ r _ hr rfl)

/-- A point's forget gates are the array's, if the point's rows are 512 rows of the array. -/
theorem blockF_of (y : S8x512.Idx) (j : Fin 8) (r : Fin n) (hj : j.val = (y 0).val) (hr : r.val = t * 512 + (y 1).val) :
    blockF x0 g wf b y = gate x g wf b j r := by
  unfold blockF gate
  obtain ⟨r, hr'⟩ := r
  obtain rfl : r = t * 512 + (y 1).val := hr
  have ej : (y 0 : Fin 8) = j := Fin.ext hj.symm
  subst ej
  exact congrArg (fun f => logSigmoid (proj f _ _ + _)) (funext fun k => h0 (y 1) k _)

end Formulas

variable (m : (ℓ : Loc nD τ sig) → Buf (Elt Ideal) ℓ)

/-- The arguments of the call, as arrays. -/
abbrev argX (c : Dev nD) : Vec Ideal S16384x2048 .f32 := m ((c : Thread nD τ).loc main_arg0)
abbrev argG (c : Dev nD) : Vec Ideal S1x2048 .f32 := m ((c : Thread nD τ).loc main_arg1)
abbrev argW (c : Dev nD) : Vec Ideal S4096x2048 .bf16 := m ((c : Thread nD τ).loc main_arg2)
abbrev argWf (c : Dev nD) : Vec Ideal S128x2048 .bf16 := m ((c : Thread nD τ).loc main_arg3)
abbrev argB (c : Dev nD) : Vec Ideal S1x128 .f32 := m ((c : Thread nD τ).loc main_arg4)
abbrev argGq (c : Dev nD) : Vec Ideal S1x128 .f32 := m ((c : Thread nD τ).loc main_arg5)
abbrev argGk (c : Dev nD) : Vec Ideal S1x128 .f32 := m ((c : Thread nD τ).loc main_arg6)

theorem points : cfg0.N = 32 := N_0

theorem index0 : ∀ t : Fin cfg0.N, win0_0.index t (0 : Fin 2) = t.val ∧ win0_0.index t (1 : Fin 2) = 0 :=
  (by decide +kernel : ∀ t : Fin grid0.N, _)

/-- A point's block of the activations, at an element. -/
theorem iblk0_apply (c : Dev nD) (t : Fin cfg0.N) (r : Fin 512) (l : Fin 2048) (h : t.val * 512 + r.val < 16384) :
    iblk m c 0 t (ix2 r l) = argX m c (ix2 ⟨t.val * 512 + r.val, h⟩ l) := by
  obtain ⟨e0, e1⟩ := index0 t
  unfold argX
  rw [← V_main_arg0 m c]
  unfold iblk
  show V m c main_arg0 _ = _
  congr 1
  funext a
  apply Fin.ext
  match a with
  | ⟨0, _⟩ => show win0_0.index t (0 : Fin 2) * 512 + 1 * r.val = _; rw [e0, Nat.one_mul]; rfl
  | ⟨1, _⟩ => show win0_0.index t (1 : Fin 2) * 2048 + 1 * l.val = _; rw [e1, Nat.zero_mul, Nat.zero_add, Nat.one_mul]; rfl

theorem index1 : ∀ t : Fin cfg0.N, ∀ a : Fin 2, win0_1.index t a = 0 := (by decide +kernel : ∀ t : Fin grid0.N, _)
theorem index2 : ∀ t : Fin cfg0.N, ∀ a : Fin 2, win0_2.index t a = 0 := (by decide +kernel : ∀ t : Fin grid0.N, _)
theorem index3 : ∀ t : Fin cfg0.N, ∀ a : Fin 2, win0_3.index t a = 0 := (by decide +kernel : ∀ t : Fin grid0.N, _)
theorem index4 : ∀ t : Fin cfg0.N, ∀ a : Fin 2, win0_4.index t a = 0 := (by decide +kernel : ∀ t : Fin grid0.N, _)
theorem index5 : ∀ t : Fin cfg0.N, ∀ a : Fin 2, win0_5.index t a = 0 := (by decide +kernel : ∀ t : Fin grid0.N, _)
theorem index6 : ∀ t : Fin cfg0.N, ∀ a : Fin 2, win0_6.index t a = 0 := (by decide +kernel : ∀ t : Fin grid0.N, _)

/-- Every point is given the other six arguments whole: block `(0, 0)`, of the array's size. -/
theorem iblk1_eq (c : Dev nD) (t : Fin cfg0.N) : iblk m c 1 t = argG m c := by
  refine funext fun i => (congrArg (V m c main_arg1) (funext fun a => Fin.ext ?_)).trans (congrFun (V_main_arg1 m c) i)
  show win0_1.index t a * _ + 1 * (i a).val = _
  rw [index1, Nat.zero_mul, Nat.zero_add, Nat.one_mul]

theorem iblk2_eq (c : Dev nD) (t : Fin cfg0.N) : iblk m c 2 t = argW m c := by
  refine funext fun i => (congrArg (V m c main_arg2) (funext fun a => Fin.ext ?_)).trans (congrFun (V_main_arg2 m c) i)
  show win0_2.index t a * _ + 1 * (i a).val = _
  rw [index2, Nat.zero_mul, Nat.zero_add, Nat.one_mul]

theorem iblk3_eq (c : Dev nD) (t : Fin cfg0.N) : iblk m c 3 t = argWf m c := by
  refine funext fun i => (congrArg (V m c main_arg3) (funext fun a => Fin.ext ?_)).trans (congrFun (V_main_arg3 m c) i)
  show win0_3.index t a * _ + 1 * (i a).val = _
  rw [index3, Nat.zero_mul, Nat.zero_add, Nat.one_mul]

theorem iblk4_eq (c : Dev nD) (t : Fin cfg0.N) : iblk m c 4 t = argB m c := by
  refine funext fun i => (congrArg (V m c main_arg4) (funext fun a => Fin.ext ?_)).trans (congrFun (V_main_arg4 m c) i)
  show win0_4.index t a * _ + 1 * (i a).val = _
  rw [index4, Nat.zero_mul, Nat.zero_add, Nat.one_mul]

theorem iblk5_eq (c : Dev nD) (t : Fin cfg0.N) : iblk m c 5 t = argGq m c := by
  refine funext fun i => (congrArg (V m c main_arg5) (funext fun a => Fin.ext ?_)).trans (congrFun (V_main_arg5 m c) i)
  show win0_5.index t a * _ + 1 * (i a).val = _
  rw [index5, Nat.zero_mul, Nat.zero_add, Nat.one_mul]

theorem iblk6_eq (c : Dev nD) (t : Fin cfg0.N) : iblk m c 6 t = argGk m c := by
  refine funext fun i => (congrArg (V m c main_arg6) (funext fun a => Fin.ext ?_)).trans (congrFun (V_main_arg6 m c) i)
  show win0_6.index t a * _ + 1 * (i a).val = _
  rw [index6, Nat.zero_mul, Nat.zero_add, Nat.one_mul]

theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = 0 ∧ win0_13.index t (1 : Fin 2) = t.val :=
  (by decide +kernel : ∀ t : Fin grid0.N, _)

/-- The first output: the first 1024 columns. -/
theorem output7_eq (c : Dev nD) :
    (dats m 0 c).arrAt 7 cfg0.N = fun i : S16384x1024.Idx => cols (argX m c) (argG m c) (argW m c) 0 (by omega) (i 0) (i 1) := by
  refine (dats m 0 c).arrAt_eq_of_covers 7 _ (by decide +kernel) fun t _ y => ?_
  obtain ⟨e0, e1⟩ := index7 t
  blk_simp
  rw [after0_7, out7_eq]
  rw [iblk1_eq, iblk2_eq]
  exact blockCols_of _ _ _ _ _ (iblk0_apply m c t) 0 _ _ _ _ (by blk_simp [e0]) (by blk_simp [e1])

/-- The second output: the queries. -/
theorem output8_eq (c : Dev nD) :
    (dats m 0 c).arrAt 8 cfg0.N = fun i : S16384x1024.Idx =>
      heads (argX m c) (argG m c) (argW m c) 1024 (by omega) (argGq m c) (i 0) (i 1) * scale := by
  refine (dats m 0 c).arrAt_eq_of_covers 8 _ (by decide +kernel) fun t _ y => ?_
  obtain ⟨e0, e1⟩ := index8 t
  blk_simp
  rw [after0_8, out8_eq]
  unfold blockQ
  rw [iblk1_eq, iblk2_eq, iblk5_eq]
  exact congrArg (· * scale) (headBlock_of _ _ _ _ _ (iblk0_apply m c t) 1024 _ _ _ _ _ (by blk_simp [e0]) (by blk_simp [e1]))

/-- The third output: the keys. -/
theorem output9_eq (c : Dev nD) :
    (dats m 0 c).arrAt 9 cfg0.N = fun i : S16384x1024.Idx =>
      heads (argX m c) (argG m c) (argW m c) 2048 (by omega) (argGk m c) (i 0) (i 1) := by
  refine (dats m 0 c).arrAt_eq_of_covers 9 _ (by decide +kernel) fun t _ y => ?_
  obtain ⟨e0, e1⟩ := index9 t
  blk_simp
  rw [after0_9, out9_eq]
  unfold blockK
  rw [iblk1_eq, iblk2_eq, iblk6_eq]
  exact headBlock_of _ _ _ _ _ (iblk0_apply m c t) 2048 _ _ _ _ _ (by blk_simp [e0]) (by blk_simp [e1])

/-- The fourth output: the keys again. -/
theorem output10_eq (c : Dev nD) :
    (dats m 0 c).arrAt 10 cfg0.N = fun i : S16384x1024.Idx =>
      heads (argX m c) (argG m c) (argW m c) 2048 (by omega) (argGk m c) (i 0) (i 1) := by
  refine (dats m 0 c).arrAt_eq_of_covers 10 _ (by decide +kernel) fun t _ y => ?_
  obtain ⟨e0, e1⟩ := index10 t
  blk_simp
  rw [after0_10, out10_eq]
  unfold blockK
  rw [iblk1_eq, iblk2_eq, iblk6_eq]
  exact headBlock_of _ _ _ _ _ (iblk0_apply m c t) 2048 _ _ _ _ _ (by blk_simp [e0]) (by blk_simp [e1])

/-- The fifth output: the values. -/
theorem output11_eq (c : Dev nD) :
    (dats m 0 c).arrAt 11 cfg0.N = fun i : S16384x1024.Idx => cols (argX m c) (argG m c) (argW m c) 3072 le_rfl (i 0) (i 1) := by
  refine (dats m 0 c).arrAt_eq_of_covers 11 _ (by decide +kernel) fun t _ y => ?_
  obtain ⟨e0, e1⟩ := index11 t
  blk_simp
  rw [after0_11, out11_eq]
  rw [iblk1_eq, iblk2_eq]
  exact blockCols_of _ _ _ _ _ (iblk0_apply m c t) 3072 _ _ _ _ (by blk_simp [e0]) (by blk_simp [e1])

/-- The sixth output: the values again. -/
theorem output12_eq (c : Dev nD) :
    (dats m 0 c).arrAt 12 cfg0.N = fun i : S16384x1024.Idx => cols (argX m c) (argG m c) (argW m c) 3072 le_rfl (i 0) (i 1) := by
  refine (dats m 0 c).arrAt_eq_of_covers 12 _ (by decide +kernel) fun t _ y => ?_
  obtain ⟨e0, e1⟩ := index12 t
  blk_simp
  rw [after0_12, out12_eq]
  rw [iblk1_eq, iblk2_eq]
  exact blockCols_of _ _ _ _ _ (iblk0_apply m c t) 3072 _ _ _ _ (by blk_simp [e0]) (by blk_simp [e1])

/-- The seventh output: the forget gates. -/
theorem output13_eq (c : Dev nD) :
    (dats m 0 c).arrAt 13 cfg0.N = fun i : S8x16384.Idx => gate (argX m c) (argG m c) (argWf m c) (argB m c) (i 0) (i 1) := by
  refine (dats m 0 c).arrAt_eq_of_covers 13 _ (by decide +kernel) fun t _ y => ?_
  obtain ⟨e0, e1⟩ := index13 t
  blk_simp
  rw [after0_13, out13_eq]
  rw [iblk1_eq, iblk3_eq, iblk4_eq]
  exact blockF_of _ _ _ _ _ _ (iblk0_apply m c t) _ _ _ (by blk_simp [e0]) (by blk_simp [e1])

end Cert.InProjIdeal.Hand

end
-- ==== Proof.InProjRef.lean ====
/- What the reference of the input projection computes, element by element. -/
module

public import proofs.«01_k».proof.Proof.InProjOutputs
public import proofs.«01_k».proof.Proof.AttnSRef
public import proofs.«01_k».proof.Proof.Gen.InProjRefIdeal.Run
public import proofs.«01_k».proof.Proof.Gen.InProjRefIdeal.Read

@[expose] public section

set_option maxRecDepth 16384

noncomputable section

namespace Cert.InProjRefIdeal.Hand

open Cert.InProjRefIdeal Cert.InProjRefIdeal.Gen Cert.InProjRefIdeal.Read Idealize.ShloMosaic Idealize.ShloMosaic.TcCoe Idealize.SL.Sem
open Cert.InProjIdeal.Hand (normed normRow headRow proj logSigmoid cols heads gate scale scale_eq)

variable (x : Vec Ideal S16384x2048 .f32) (g : Vec Ideal S1x2048 .f32) (w : Vec Ideal S4096x2048 .bf16)
  (wf : Vec Ideal S128x2048 .bf16) (b gq gk : Vec Ideal S1x128 .f32)

/-- The normalised activations. -/
theorem norm_apply (r : Fin 16384) (l : Fin 2048) :
    val_main_v13 (F := Ideal) x g (ix2 r l) = normRow (fun k => x (ix2 r k)) (fun k => g (ix2 0 k)) l := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The first 4096 rows of the joined weights. -/
theorem weights_apply (o : Fin 4104) (h : o.val < 4096) (l : Fin 2048) :
    val_main_v17 (F := Ideal) w wf (ix2 o l) = w (ix2 (⟨o.val, h⟩ : Fin 4096) l) := by
  unfold val_main_v17
  refine concatenate_pair_apply_left (t := S4104x2048) (s₁ := S4096x2048) (s₂ := S8x2048) 0 (val_main_v14 (F := Ideal) w) _ _ _ rfl (ix2 (⟨o.val, h⟩ : Fin 4096) l) fun b => ?_
  match b with
  | ⟨0, _⟩ => rfl
  | ⟨1, _⟩ => rfl

/-- The projection's columns below 4096: the first weights. -/
theorem main_apply (r : Fin 16384) (o : Fin 4104) (h : o.val < 4096) :
    val_main_v19 (F := Ideal) x g w wf (ix2 r o)
      = proj (fun k => x (ix2 r k)) (fun k => g (ix2 0 k)) (fun k => w (ix2 (⟨o.val, h⟩ : Fin 4096) k)) := by
  unfold val_main_v19 proj val_main_v18
  have hn := norm_apply x g r
  have hw := weights_apply w wf o h
  generalize val_main_v13 (F := Ideal) x g = z at hn ⊢
  generalize val_main_v17 (F := Ideal) w wf = v at hw ⊢
  pointwise []
  exact Finset.sum_congr rfl fun l _ => by rw [hn l, hw l]

/-- The projection's columns from 4096: the forget gate's weights. -/
theorem gate_apply (r : Fin 16384) (j : Fin 8) :
    val_main_v19 (F := Ideal) x g w wf (ix2 r (⟨4096 + j.val, by omega⟩ : Fin 4104))
      = proj (fun k => x (ix2 r k)) (fun k => g (ix2 0 k)) (fun k => wf (ix2 (⟨j.val, by omega⟩ : Fin 128) k)) := by
  unfold val_main_v19 proj
  have hn := norm_apply x g r
  generalize val_main_v13 (F := Ideal) x g = z at hn ⊢
  pointwise [val_main_v18, val_main_v17, val_main_v16, val_main_v15, val_main_v14]
  refine Finset.sum_congr rfl fun l _ => ?_
  rw [hn l]

/-- 1024 of the projection's columns. -/
theorem cols_apply (o : ℕ) (h : o ≤ 3072) (r : Fin 16384) (q : Fin 1024) :
    val_main_v19 (F := Ideal) x g w wf (ix2 r (⟨o + q.val, by omega⟩ : Fin 4104)) = cols x g w o h r q :=
  main_apply x g w wf r _ _

/-- The queries' heads, normalised. -/
theorem queries_apply (r : Fin 16384) (h : Fin 8) (d : Fin 128) :
    val_main_v36 (F := Ideal) x g w wf gq (ix3 r h d)
      = headRow (fun k => cols x g w 1024 (by omega) r (⟨h.val * 128 + k.val, by omega⟩ : Fin 1024))
          (fun k => gq (ix2 0 k)) d := by
  have hc := fun q => cols_apply x g w wf 1024 (by omega) r q
  unfold headRow normed
  simp only [← hc]
  unfold val_main_v36 val_main_v33 val_main_v32 val_main_v31 val_main_v30 val_main_v28 val_main_v26 val_main_v25 val_main_v24
    val_main_v22 val_main_v21
  generalize val_main_v19 (F := Ideal) x g w wf = z
  pointwise [val_main_v35, val_main_v34, val_main_v23, val_main_v27, val_main_v29, val_main_cst_2, val_main_cst_3, val_main_cst_4]

/-- The keys' heads, normalised. -/
theorem keys_apply (r : Fin 16384) (h : Fin 8) (d : Fin 128) :
    val_main_v52 (F := Ideal) x g w wf gk (ix3 r h d)
      = headRow (fun k => cols x g w 2048 (by omega) r (⟨h.val * 128 + k.val, by omega⟩ : Fin 1024))
          (fun k => gk (ix2 0 k)) d := by
  have hc := fun q => cols_apply x g w wf 2048 (by omega) r q
  unfold headRow normed
  simp only [← hc]
  unfold val_main_v52 val_main_v49 val_main_v48 val_main_v47 val_main_v46 val_main_v44 val_main_v42 val_main_v41 val_main_v40
    val_main_v38 val_main_v37
  generalize val_main_v19 (F := Ideal) x g w wf = z
  pointwise [val_main_v51, val_main_v50, val_main_v39, val_main_v43, val_main_v45, val_main_cst_5, val_main_cst_6, val_main_cst_7]

/-- Head and component of a column. -/
theorem heads_eq (o : ℕ) (h : o ≤ 3072) (gain : Vec Ideal S1x128 .f32) (r : Fin 16384) (q : Fin 1024) :
    heads x g w o h gain r q
      = headRow (fun k => cols x g w o h r (⟨(⟨q.val / 128, by omega⟩ : Fin 8).val * 128 + k.val, by omega⟩ : Fin 1024))
          (fun k => gain (ix2 0 k)) ⟨q.val % 128, Nat.mod_lt _ (by decide)⟩ := rfl

/-- The reference's keys. -/
theorem resultK (r : Fin 16384) (q : Fin 1024) :
    val_main_v66 (F := Ideal) x g w wf gk (ix2 r q) = heads x g w 2048 (by omega) gk r q := by
  rw [heads_eq, ← keys_apply x g w wf gk]
  unfold val_main_v66
  generalize val_main_v52 (F := Ideal) x g w wf gk = z
  pointwise []

/-- Dividing by the root of 128 and by the logarithm of two is multiplying with the constant. -/
theorem scale_div (a : EReal) :
    Ideal.div (Ideal.div a (Ideal.sqrt (Ideal.ofBits .f32 0x43000000#32))) (Ideal.log (Ideal.ofBits .f32 0x40000000#32))
      = a * scale := by
  have b128 : Ideal.ofBits .f32 0x43000000#32 = ((128 : ℝ) : EReal) := by
    simp only [Ideal.ofBits, Ideal.ieee]
    have e1 : (BitVec.extractLsb' 23 8 0x43000000#32).toNat = 134 := by decide
    have e2 : (BitVec.extractLsb' 0 23 0x43000000#32).toNat = 0 := by decide
    have e3 : (BitVec.extractLsb' (8 + 23) 1 0x43000000#32 == 1#1) = false := by decide
    rw [e1, e2, e3]
    norm_num
  have h1 : Real.sqrt 128 ≠ 0 := (Real.sqrt_pos.2 (by norm_num)).ne'
  have h2 : Real.log 2 ≠ 0 := (Real.log_pos (by norm_num)).ne'
  rw [b128, Cert.AttnSRefIdeal.Hand.bits_two, Ideal.sqrt_coe, if_neg (by norm_num), Ideal.log_coe, if_neg (by norm_num), Ideal.div_coe h1, Ideal.div_coe h2,
    mul_assoc, ← EReal.coe_mul, one_div, one_div, scale_eq]

/-- The reference's queries. -/
theorem resultQ (r : Fin 16384) (q : Fin 1024) :
    val_main_v67 (F := Ideal) x g w wf gq (ix2 r q) = heads x g w 1024 (by omega) gq r q * scale := by
  rw [heads_eq, ← queries_apply x g w wf gq, ← scale_div]
  unfold val_main_v67 val_main_v65 val_main_v64 val_main_v61
  generalize val_main_v36 (F := Ideal) x g w wf gq = z
  pointwise [val_main_v63, val_main_v62, val_main_v60, val_main_v59, val_main_cst_8, val_main_cst_9]

/-- `log (1 + exp w)` is never `⊥`. -/
theorem log1p_exp_ne_bot (w : EReal) : Ideal.log1p (Ideal.exp w) ≠ ⊥ := by
  unfold Ideal.log1p
  induction w with
  | bot =>
    rw [Ideal.exp_bot, add_zero, ← EReal.coe_one, Ideal.log_coe, if_neg (by norm_num)]
    exact EReal.coe_ne_bot _
  | top =>
    show Ideal.log (((1 : ℝ) : EReal) + ⊤) ≠ ⊥
    rw [EReal.coe_add_top, Ideal.log_top]
    exact top_ne_bot
  | coe w =>
    have h : 0 < 1 + Real.exp w := by positivity
    rw [Ideal.exp_coe, ← EReal.coe_one, ← EReal.coe_add, Ideal.log_coe, if_neg (not_le.2 h)]
    exact EReal.coe_ne_bot _

/-- The host's way of writing the logarithm of the logistic function. -/
theorem host_logSigmoid (z : EReal) :
    -(max (-z) 0 + Ideal.log1p (Ideal.exp (-(max (-z) (-(-z)))))) = logSigmoid z := by
  unfold logSigmoid
  rw [neg_neg, max_comm (-z) z, zero_sub]
  have hL := log1p_exp_ne_bot (-(max z (-z)))
  generalize Ideal.log1p (Ideal.exp (-(max z (-z)))) = L at hL ⊢
  have hA : max (-z) 0 ≠ ⊥ := ne_of_gt (lt_of_lt_of_le EReal.bot_lt_zero (le_max_right _ _))
  have hm : -(max (-z) 0) = min z 0 := by
    rcases le_total z 0 with h | h
    · rw [max_eq_left (EReal.neg_nonneg.2 h), min_eq_left h, neg_neg]
    · rw [max_eq_right (by simpa using EReal.neg_le_neg_iff.2 h), min_eq_right h, neg_zero]
  rw [EReal.neg_add (Or.inl hA) (Or.inr hL), hm]

/-- The reference's forget gates. -/
theorem resultF (j : Fin 8) (r : Fin 16384) :
    val_main_v70 (F := Ideal) x g w wf b (ix2 j r) = gate x g wf b j r := by
  unfold gate
  rw [← gate_apply x g w wf]
  unfold val_main_v70 val_main_v58 val_main_call0_v1 val_main_call0_call0_v4 val_main_call0_call0_v6 val_main_call0_call0_v11
    val_main_call0_call0_v1 val_main_call0_call0_v10 val_main_call0_call0_v9 val_main_call0_call0_v8 val_main_call0_call0_v7
    val_main_call0_call0_v3 val_main_call0_v0
  have hz : val_main_v57 (F := Ideal) x g w wf b (ix2 r j) = val_main_v19 (F := Ideal) x g w wf (ix2 r (⟨4096 + j.val, by omega⟩ : Fin 4104))
      + b (ix2 0 (⟨j.val, by omega⟩ : Fin 128)) := by
    unfold val_main_v57 val_main_v54
    generalize val_main_v19 (F := Ideal) x g w wf = z
    pointwise [val_main_v56, val_main_v55]
  rw [← hz]
  generalize val_main_v57 (F := Ideal) x g w wf b = z
  pointwise [val_main_call0_call0_v0, val_main_call0_call0_v2, val_main_call0_call0_v5, val_main_call0_call0_cst]
  rw [if_neg (fun h => h rfl)]
  exact host_logSigmoid _

end Cert.InProjRefIdeal.Hand

end
-- ==== Proof.InProjValue.lean ====
/- The input projection: the seven results as arrays, of the kernel and of the reference. -/
module

public import proofs.«01_k».proof.Proof.InProjRef

@[expose] public section

set_option maxRecDepth 16384

noncomputable section

namespace Cert.InProjRefIdeal.Hand

open Cert.InProjRefIdeal Cert.InProjRefIdeal.Gen Cert.InProjRefIdeal.Read Idealize.ShloMosaic Idealize.ShloMosaic.TcCoe Idealize.SL.Sem
open Cert.InProjIdeal.Hand (cols heads gate scale)

variable (x : Vec Ideal S16384x2048 .f32) (g : Vec Ideal S1x2048 .f32) (w : Vec Ideal S4096x2048 .bf16)
  (wf : Vec Ideal S128x2048 .bf16) (b gq gk : Vec Ideal S1x128 .f32)

/-- The first 1024 columns. -/
theorem array_u : val_main_v20 (F := Ideal) x g w wf = fun i : S16384x1024.Idx => cols x g w 0 (by omega) (i 0) (i 1) := by
  funext i
  idx_vars i
  refine Eq.trans ?_ (cols_apply x g w wf 0 (by omega) _ _)
  unfold val_main_v20
  generalize val_main_v19 (F := Ideal) x g w wf = z
  pointwise []

/-- The values. -/
theorem array_v : val_main_v53 (F := Ideal) x g w wf = fun i : S16384x1024.Idx => cols x g w 3072 le_rfl (i 0) (i 1) := by
  funext i
  idx_vars i
  refine Eq.trans ?_ (cols_apply x g w wf 3072 le_rfl _ _)
  unfold val_main_v53
  generalize val_main_v19 (F := Ideal) x g w wf = z
  pointwise []

/-- The values again. -/
theorem array_vb : val_main_v69 (F := Ideal) x g w wf = fun i : S16384x1024.Idx => cols x g w 3072 le_rfl (i 0) (i 1) :=
  array_v x g w wf

/-- The queries. -/
theorem array_q : val_main_v67 (F := Ideal) x g w wf gq
    = fun i : S16384x1024.Idx => heads x g w 1024 (by omega) gq (i 0) (i 1) * scale := by
  funext i
  idx_vars i
  exact resultQ x g w wf gq _ _

/-- The keys. -/
theorem array_k : val_main_v66 (F := Ideal) x g w wf gk
    = fun i : S16384x1024.Idx => heads x g w 2048 (by omega) gk (i 0) (i 1) := by
  funext i
  idx_vars i
  exact resultK x g w wf gk _ _

/-- The keys again. -/
theorem array_kb : val_main_v68 (F := Ideal) x g w wf gk
    = fun i : S16384x1024.Idx => heads x g w 2048 (by omega) gk (i 0) (i 1) :=
  array_k x g w wf gk

/-- The forget gates. -/
theorem array_f : val_main_v70 (F := Ideal) x g w wf b = fun i : S8x16384.Idx => gate x g wf b (i 0) (i 1) := by
  funext i
  idx_vars i
  exact resultF x g w wf b _ _

end Cert.InProjRefIdeal.Hand

end
-- ==== Proof.InProjSOutputs.lean ====
/- The input projection at the sample's rows: its seven output arrays after the run. A grid point computes what one of the
   prompt's does, so that the lemmas about a block are those of the prompt. -/
module

public import proofs.«01_k».proof.Proof.InProjOutputs
public import proofs.«01_k».proof.Proof.Gen.InProjSIdeal.Value

@[expose] public section

set_option maxRecDepth 1024

noncomputable section

namespace Cert.InProjSIdeal.Hand

open Cert.InProjSIdeal Cert.InProjSIdeal.Gen Idealize.ShloMosaic Idealize.ShloMosaic.TcCoe Idealize.SL.Sem
open Cert.InProjIdeal.Hand (cols heads gate scale blockCols_of headBlock_of blockF_of)

section Block

variable (x0 : Vec Ideal S512x2048 .f32) (x1 : Vec Ideal S1x2048 .f32) (x2 : Vec Ideal S4096x2048 .bf16)
  (x3 : Vec Ideal S128x2048 .bf16) (x4 x5 x6 : Vec Ideal S1x128 .f32)

/-! A point's seven blocks are the prompt's. -/

theorem out7_eq : out0_7 x0 x1 x2 x3 x4 x5 x6 = Cert.InProjIdeal.Hand.blockCols x0 x1 x2 0 (by omega) :=
  Cert.InProjIdeal.Hand.out7_eq x0 x1 x2 x3 x4 x5 x6

theorem out8_eq : out0_8 x0 x1 x2 x3 x4 x5 x6 = Cert.InProjIdeal.Hand.blockQ x0 x1 x2 x5 :=
  Cert.InProjIdeal.Hand.out8_eq x0 x1 x2 x3 x4 x5 x6

theorem out9_eq : out0_9 x0 x1 x2 x3 x4 x5 x6 = Cert.InProjIdeal.Hand.blockK x0 x1 x2 x6 :=
  Cert.InProjIdeal.Hand.out9_eq x0 x1 x2 x3 x4 x5 x6

theorem out10_eq : out0_10 x0 x1 x2 x3 x4 x5 x6 = Cert.InProjIdeal.Hand.blockK x0 x1 x2 x6 :=
  Cert.InProjIdeal.Hand.out10_eq x0 x1 x2 x3 x4 x5 x6

theorem out11_eq : out0_11 x0 x1 x2 x3 x4 x5 x6 = Cert.InProjIdeal.Hand.blockCols x0 x1 x2 3072 le_rfl :=
  Cert.InProjIdeal.Hand.out11_eq x0 x1 x2 x3 x4 x5 x6

theorem out12_eq : out0_12 x0 x1 x2 x3 x4 x5 x6 = Cert.InProjIdeal.Hand.blockCols x0 x1 x2 3072 le_rfl :=
  Cert.InProjIdeal.Hand.out12_eq x0 x1 x2 x3 x4 x5 x6

theorem out13_eq : out0_13 x0 x1 x2 x3 x4 x5 x6 = Cert.InProjIdeal.Hand.blockF x0 x1 x3 x4 :=
  Cert.InProjIdeal.Hand.out13_eq x0 x1 x2 x3 x4 x5 x6

end Block

variable (m : (ℓ : Loc nD τ sig) → Buf (Elt Ideal) ℓ)

/-- The arguments of the call, as arrays. -/
abbrev argX (c : Dev nD) : Vec Ideal S1024x2048 .f32 := m ((c : Thread nD τ).loc main_arg0)
abbrev argG (c : Dev nD) : Vec Ideal S1x2048 .f32 := m ((c : Thread nD τ).loc main_arg1)
abbrev argW (c : Dev nD) : Vec Ideal S4096x2048 .bf16 := m ((c : Thread nD τ).loc main_arg2)
abbrev argWf (c : Dev nD) : Vec Ideal S128x2048 .bf16 := m ((c : Thread nD τ).loc main_arg3)
abbrev argB (c : Dev nD) : Vec Ideal S1x128 .f32 := m ((c : Thread nD τ).loc main_arg4)
abbrev argGq (c : Dev nD) : Vec Ideal S1x128 .f32 := m ((c : Thread nD τ).loc main_arg5)
abbrev argGk (c : Dev nD) : Vec Ideal S1x128 .f32 := m ((c : Thread nD τ).loc main_arg6)

theorem points : cfg0.N = 2 := N_0

theorem index0 : ∀ t : Fin cfg0.N, win0_0.index t (0 : Fin 2) = t.val ∧ win0_0.index t (1 : Fin 2) = 0 :=
  (by decide +kernel : ∀ t : Fin grid0.N, _)

/-- A point's block of the activations, at an element. -/
theorem iblk0_apply (c : Dev nD) (t : Fin cfg0.N) (r : Fin 512) (l : Fin 2048) (h : t.val * 512 + r.val < 1024) :
    iblk m c 0 t (ix2 r l) = argX m c (ix2 ⟨t.val * 512 + r.val, h⟩ l) := by
  obtain ⟨e0, e1⟩ := index0 t
  unfold argX
  rw [← V_main_arg0 m c]
  unfold iblk
  show V m c main_arg0 _ = _
  congr 1
  funext a
  apply Fin.ext
  match a with
  | ⟨0, _⟩ => show win0_0.index t (0 : Fin 2) * 512 + 1 * r.val = _; rw [e0, Nat.one_mul]; rfl
  | ⟨1, _⟩ => show win0_0.index t (1 : Fin 2) * 2048 + 1 * l.val = _; rw [e1, Nat.zero_mul, Nat.zero_add, Nat.one_mul]; rfl

theorem index1 : ∀ t : Fin cfg0.N, ∀ a : Fin 2, win0_1.index t a = 0 := (by decide +kernel : ∀ t : Fin grid0.N, _)
theorem index2 : ∀ t : Fin cfg0.N, ∀ a : Fin 2, win0_2.index t a = 0 := (by decide +kernel : ∀ t : Fin grid0.N, _)
theorem index3 : ∀ t : Fin cfg0.N, ∀ a : Fin 2, win0_3.index t a = 0 := (by decide +kernel : ∀ t : Fin grid0.N, _)
theorem index4 : ∀ t : Fin cfg0.N, ∀ a : Fin 2, win0_4.index t a = 0 := (by decide +kernel : ∀ t : Fin grid0.N, _)
theorem index5 : ∀ t : Fin cfg0.N, ∀ a : Fin 2, win0_5.index t a = 0 := (by decide +kernel : ∀ t : Fin grid0.N, _)
theorem index6 : ∀ t : Fin cfg0.N, ∀ a : Fin 2, win0_6.index t a = 0 := (by decide +kernel : ∀ t : Fin grid0.N, _)

/-- Every point is given the other six arguments whole: block `(0, 0)`, of the array's size. -/
theorem iblk1_eq (c : Dev nD) (t : Fin cfg0.N) : iblk m c 1 t = argG m c := by
  refine funext fun i => (congrArg (V m c main_arg1) (funext fun a => Fin.ext ?_)).trans (congrFun (V_main_arg1 m c) i)
  show win0_1.index t a * _ + 1 * (i a).val = _
  rw [index1, Nat.zero_mul, Nat.zero_add, Nat.one_mul]

theorem iblk2_eq (c : Dev nD) (t : Fin cfg0.N) : iblk m c 2 t = argW m c := by
  refine funext fun i => (congrArg (V m c main_arg2) (funext fun a => Fin.ext ?_)).trans (congrFun (V_main_arg2 m c) i)
  show win0_2.index t a * _ + 1 * (i a).val = _
  rw [index2, Nat.zero_mul, Nat.zero_add, Nat.one_mul]

theorem iblk3_eq (c : Dev nD) (t : Fin cfg0.N) : iblk m c 3 t = argWf m c := by
  refine funext fun i => (congrArg (V m c main_arg3) (funext fun a => Fin.ext ?_)).trans (congrFun (V_main_arg3 m c) i)
  show win0_3.index t a * _ + 1 * (i a).val = _
  rw [index3, Nat.zero_mul, Nat.zero_add, Nat.one_mul]

theorem iblk4_eq (c : Dev nD) (t : Fin cfg0.N) : iblk m c 4 t = argB m c := by
  refine funext fun i => (congrArg (V m c main_arg4) (funext fun a => Fin.ext ?_)).trans (congrFun (V_main_arg4 m c) i)
  show win0_4.index t a * _ + 1 * (i a).val = _
  rw [index4, Nat.zero_mul, Nat.zero_add, Nat.one_mul]

theorem iblk5_eq (c : Dev nD) (t : Fin cfg0.N) : iblk m c 5 t = argGq m c := by
  refine funext fun i => (congrArg (V m c main_arg5) (funext fun a => Fin.ext ?_)).trans (congrFun (V_main_arg5 m c) i)
  show win0_5.index t a * _ + 1 * (i a).val = _
  rw [index5, Nat.zero_mul, Nat.zero_add, Nat.one_mul]

theorem iblk6_eq (c : Dev nD) (t : Fin cfg0.N) : iblk m c 6 t = argGk m c := by
  refine funext fun i => (congrArg (V m c main_arg6) (funext fun a => Fin.ext ?_)).trans (congrFun (V_main_arg6 m c) i)
  show win0_6.index t a * _ + 1 * (i a).val = _
  rw [index6, Nat.zero_mul, Nat.zero_add, Nat.one_mul]

theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = 0 ∧ win0_13.index t (1 : Fin 2) = t.val :=
  (by decide +kernel : ∀ t : Fin grid0.N, _)

/-- The first output: the first 1024 columns. -/
theorem output7_eq (c : Dev nD) :
    (dats m 0 c).arrAt 7 cfg0.N = fun i : S1024x1024.Idx => cols (argX m c) (argG m c) (argW m c) 0 (by omega) (i 0) (i 1) := by
  refine (dats m 0 c).arrAt_eq_of_covers 7 _ (by decide +kernel) fun t _ y => ?_
  obtain ⟨e0, e1⟩ := index7 t
  blk_simp
  rw [after0_7, out7_eq]
  rw [iblk1_eq, iblk2_eq]
  exact blockCols_of _ _ _ _ _ (iblk0_apply m c t) 0 _ _ _ _ (by blk_simp [e0]) (by blk_simp [e1])

/-- The second output: the queries. -/
theorem output8_eq (c : Dev nD) :
    (dats m 0 c).arrAt 8 cfg0.N = fun i : S1024x1024.Idx =>
      heads (argX m c) (argG m c) (argW m c) 1024 (by omega) (argGq m c) (i 0) (i 1) * scale := by
  refine (dats m 0 c).arrAt_eq_of_covers 8 _ (by decide +kernel) fun t _ y => ?_
  obtain ⟨e0, e1⟩ := index8 t
  blk_simp
  rw [after0_8, out8_eq]
  unfold Cert.InProjIdeal.Hand.blockQ
  rw [iblk1_eq, iblk2_eq, iblk5_eq]
  exact congrArg (· * scale) (headBlock_of _ _ _ _ _ (iblk0_apply m c t) 1024 _ _ _ _ _ (by blk_simp [e0]) (by blk_simp [e1]))

/-- The third output: the keys. -/
theorem output9_eq (c : Dev nD) :
    (dats m 0 c).arrAt 9 cfg0.N = fun i : S1024x1024.Idx =>
      heads (argX m c) (argG m c) (argW m c) 2048 (by omega) (argGk m c) (i 0) (i 1) := by
  refine (dats m 0 c).arrAt_eq_of_covers 9 _ (by decide +kernel) fun t _ y => ?_
  obtain ⟨e0, e1⟩ := index9 t
  blk_simp
  rw [after0_9, out9_eq]
  unfold Cert.InProjIdeal.Hand.blockK
  rw [iblk1_eq, iblk2_eq, iblk6_eq]
  exact headBlock_of _ _ _ _ _ (iblk0_apply m c t) 2048 _ _ _ _ _ (by blk_simp [e0]) (by blk_simp [e1])

/-- The fourth output: the keys again. -/
theorem output10_eq (c : Dev nD) :
    (dats m 0 c).arrAt 10 cfg0.N = fun i : S1024x1024.Idx =>
      heads (argX m c) (argG m c) (argW m c) 2048 (by omega) (argGk m c) (i 0) (i 1) := by
  refine (dats m 0 c).arrAt_eq_of_covers 10 _ (by decide +kernel) fun t _ y => ?_
  obtain ⟨e0, e1⟩ := index10 t
  blk_simp
  rw [after0_10, out10_eq]
  unfold Cert.InProjIdeal.Hand.blockK
  rw [iblk1_eq, iblk2_eq, iblk6_eq]
  exact headBlock_of _ _ _ _ _ (iblk0_apply m c t) 2048 _ _ _ _ _ (by blk_simp [e0]) (by blk_simp [e1])

/-- The fifth output: the values. -/
theorem output11_eq (c : Dev nD) :
    (dats m 0 c).arrAt 11 cfg0.N = fun i : S1024x1024.Idx => cols (argX m c) (argG m c) (argW m c) 3072 le_rfl (i 0) (i 1) := by
  refine (dats m 0 c).arrAt_eq_of_covers 11 _ (by decide +kernel) fun t _ y => ?_
  obtain ⟨e0, e1⟩ := index11 t
  blk_simp
  rw [after0_11, out11_eq]
  rw [iblk1_eq, iblk2_eq]
  exact blockCols_of _ _ _ _ _ (iblk0_apply m c t) 3072 _ _ _ _ (by blk_simp [e0]) (by blk_simp [e1])

/-- The sixth output: the values again. -/
theorem output12_eq (c : Dev nD) :
    (dats m 0 c).arrAt 12 cfg0.N = fun i : S1024x1024.Idx => cols (argX m c) (argG m c) (argW m c) 3072 le_rfl (i 0) (i 1) := by
  refine (dats m 0 c).arrAt_eq_of_covers 12 _ (by decide +kernel) fun t _ y => ?_
  obtain ⟨e0, e1⟩ := index12 t
  blk_simp
  rw [after0_12, out12_eq]
  rw [iblk1_eq, iblk2_eq]
  exact blockCols_of _ _ _ _ _ (iblk0_apply m c t) 3072 _ _ _ _ (by blk_simp [e0]) (by blk_simp [e1])

/-- The seventh output: the forget gates. -/
theorem output13_eq (c : Dev nD) :
    (dats m 0 c).arrAt 13 cfg0.N = fun i : S8x1024.Idx => gate (argX m c) (argG m c) (argWf m c) (argB m c) (i 0) (i 1) := by
  refine (dats m 0 c).arrAt_eq_of_covers 13 _ (by decide +kernel) fun t _ y => ?_
  obtain ⟨e0, e1⟩ := index13 t
  blk_simp
  rw [after0_13, out13_eq]
  rw [iblk1_eq, iblk3_eq, iblk4_eq]
  exact blockF_of _ _ _ _ _ _ (iblk0_apply m c t) _ _ _ (by blk_simp [e0]) (by blk_simp [e1])

end Cert.InProjSIdeal.Hand

end
-- ==== Proof.InProjSRef.lean ====
/- What the reference of the input projection computes at the sample's rows, element by element and as arrays. -/
module

public import proofs.«01_k».proof.Proof.InProjValue
public import proofs.«01_k».proof.Proof.Gen.InProjSRefIdeal.Run
public import proofs.«01_k».proof.Proof.Gen.InProjSRefIdeal.Read

@[expose] public section

set_option maxRecDepth 1024

noncomputable section

namespace Cert.InProjSRefIdeal.Hand

open Cert.InProjSRefIdeal Cert.InProjSRefIdeal.Gen Cert.InProjSRefIdeal.Read Idealize.ShloMosaic Idealize.ShloMosaic.TcCoe Idealize.SL.Sem
open Cert.InProjIdeal.Hand (normed normRow headRow proj logSigmoid cols heads gate scale)
open Cert.InProjRefIdeal.Hand (scale_div host_logSigmoid)

variable (x : Vec Ideal S1024x2048 .f32) (g : Vec Ideal S1x2048 .f32) (w : Vec Ideal S4096x2048 .bf16)
  (wf : Vec Ideal S128x2048 .bf16) (b gq gk : Vec Ideal S1x128 .f32)

/-- The normalised activations. -/
theorem norm_apply (r : Fin 1024) (l : Fin 2048) :
    val_main_v13 (F := Ideal) x g (ix2 r l) = normRow (fun k => x (ix2 r k)) (fun k => g (ix2 0 k)) l := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The first 4096 rows of the joined weights. -/
theorem weights_apply (o : Fin 4104) (h : o.val < 4096) (l : Fin 2048) :
    val_main_v17 (F := Ideal) w wf (ix2 o l) = w (ix2 (⟨o.val, h⟩ : Fin 4096) l) := by
  unfold val_main_v17
  refine concatenate_pair_apply_left (t := S4104x2048) (s₁ := S4096x2048) (s₂ := S8x2048) 0 (val_main_v14 (F := Ideal) w) _ _ _ rfl (ix2 (⟨o.val, h⟩ : Fin 4096) l) fun b => ?_
  match b with
  | ⟨0, _⟩ => rfl
  | ⟨1, _⟩ => rfl

/-- The projection's columns below 4096: the first weights. -/
theorem main_apply (r : Fin 1024) (o : Fin 4104) (h : o.val < 4096) :
    val_main_v19 (F := Ideal) x g w wf (ix2 r o)
      = proj (fun k => x (ix2 r k)) (fun k => g (ix2 0 k)) (fun k => w (ix2 (⟨o.val, h⟩ : Fin 4096) k)) := by
  unfold val_main_v19 proj val_main_v18
  have hn := norm_apply x g r
  have hw := weights_apply w wf o h
  generalize val_main_v13 (F := Ideal) x g = z at hn ⊢
  generalize val_main_v17 (F := Ideal) w wf = v at hw ⊢
  pointwise []
  exact Finset.sum_congr rfl fun l _ => by rw [hn l, hw l]

/-- The projection's columns from 4096: the forget gate's weights. -/
theorem gate_apply (r : Fin 1024) (j : Fin 8) :
    val_main_v19 (F := Ideal) x g w wf (ix2 r (⟨4096 + j.val, by omega⟩ : Fin 4104))
      = proj (fun k => x (ix2 r k)) (fun k => g (ix2 0 k)) (fun k => wf (ix2 (⟨j.val, by omega⟩ : Fin 128) k)) := by
  unfold val_main_v19 proj
  have hn := norm_apply x g r
  generalize val_main_v13 (F := Ideal) x g = z at hn ⊢
  pointwise [val_main_v18, val_main_v17, val_main_v16, val_main_v15, val_main_v14]
  refine Finset.sum_congr rfl fun l _ => ?_
  rw [hn l]

/-- 1024 of the projection's columns. -/
theorem cols_apply (o : ℕ) (h : o ≤ 3072) (r : Fin 1024) (q : Fin 1024) :
    val_main_v19 (F := Ideal) x g w wf (ix2 r (⟨o + q.val, by omega⟩ : Fin 4104)) = cols x g w o h r q :=
  main_apply x g w wf r _ _

/-- The queries' heads, normalised. -/
theorem queries_apply (r : Fin 1024) (h : Fin 8) (d : Fin 128) :
    val_main_v36 (F := Ideal) x g w wf gq (ix3 r h d)
      = headRow (fun k => cols x g w 1024 (by omega) r (⟨h.val * 128 + k.val, by omega⟩ : Fin 1024))
          (fun k => gq (ix2 0 k)) d := by
  have hc := fun q => cols_apply x g w wf 1024 (by omega) r q
  unfold headRow normed
  simp only [← hc]
  unfold val_main_v36 val_main_v33 val_main_v32 val_main_v31 val_main_v30 val_main_v28 val_main_v26 val_main_v25 val_main_v24
    val_main_v22 val_main_v21
  generalize val_main_v19 (F := Ideal) x g w wf = z
  pointwise [val_main_v35, val_main_v34, val_main_v23, val_main_v27, val_main_v29, val_main_cst_2, val_main_cst_3, val_main_cst_4]

/-- The keys' heads, normalised. -/
theorem keys_apply (r : Fin 1024) (h : Fin 8) (d : Fin 128) :
    val_main_v52 (F := Ideal) x g w wf gk (ix3 r h d)
      = headRow (fun k => cols x g w 2048 (by omega) r (⟨h.val * 128 + k.val, by omega⟩ : Fin 1024))
          (fun k => gk (ix2 0 k)) d := by
  have hc := fun q => cols_apply x g w wf 2048 (by omega) r q
  unfold headRow normed
  simp only [← hc]
  unfold val_main_v52 val_main_v49 val_main_v48 val_main_v47 val_main_v46 val_main_v44 val_main_v42 val_main_v41 val_main_v40
    val_main_v38 val_main_v37
  generalize val_main_v19 (F := Ideal) x g w wf = z
  pointwise [val_main_v51, val_main_v50, val_main_v39, val_main_v43, val_main_v45, val_main_cst_5, val_main_cst_6, val_main_cst_7]

/-- Head and component of a column. -/
theorem heads_eq (o : ℕ) (h : o ≤ 3072) (gain : Vec Ideal S1x128 .f32) (r : Fin 1024) (q : Fin 1024) :
    heads x g w o h gain r q
      = headRow (fun k => cols x g w o h r (⟨(⟨q.val / 128, by omega⟩ : Fin 8).val * 128 + k.val, by omega⟩ : Fin 1024))
          (fun k => gain (ix2 0 k)) ⟨q.val % 128, Nat.mod_lt _ (by decide)⟩ := rfl

/-- The reference's keys. -/
theorem resultK (r : Fin 1024) (q : Fin 1024) :
    val_main_v66 (F := Ideal) x g w wf gk (ix2 r q) = heads x g w 2048 (by omega) gk r q := by
  rw [heads_eq, ← keys_apply x g w wf gk]
  unfold val_main_v66
  generalize val_main_v52 (F := Ideal) x g w wf gk = z
  pointwise []

/-- The reference's queries. -/
theorem resultQ (r : Fin 1024) (q : Fin 1024) :
    val_main_v67 (F := Ideal) x g w wf gq (ix2 r q) = heads x g w 1024 (by omega) gq r q * scale := by
  rw [heads_eq, ← queries_apply x g w wf gq, ← scale_div]
  unfold val_main_v67 val_main_v65 val_main_v64 val_main_v61
  generalize val_main_v36 (F := Ideal) x g w wf gq = z
  pointwise [val_main_v63, val_main_v62, val_main_v60, val_main_v59, val_main_cst_8, val_main_cst_9]

/-- The reference's forget gates. -/
theorem resultF (j : Fin 8) (r : Fin 1024) :
    val_main_v70 (F := Ideal) x g w wf b (ix2 j r) = gate x g wf b j r := by
  unfold gate
  rw [← gate_apply x g w wf]
  unfold val_main_v70 val_main_v58 val_main_call0_v1 val_main_call0_call0_v4 val_main_call0_call0_v6 val_main_call0_call0_v11
    val_main_call0_call0_v1 val_main_call0_call0_v10 val_main_call0_call0_v9 val_main_call0_call0_v8 val_main_call0_call0_v7
    val_main_call0_call0_v3 val_main_call0_v0
  have hz : val_main_v57 (F := Ideal) x g w wf b (ix2 r j) = val_main_v19 (F := Ideal) x g w wf (ix2 r (⟨4096 + j.val, by omega⟩ : Fin 4104))
      + b (ix2 0 (⟨j.val, by omega⟩ : Fin 128)) := by
    unfold val_main_v57 val_main_v54
    generalize val_main_v19 (F := Ideal) x g w wf = z
    pointwise [val_main_v56, val_main_v55]
  rw [← hz]
  generalize val_main_v57 (F := Ideal) x g w wf b = z
  pointwise [val_main_call0_call0_v0, val_main_call0_call0_v2, val_main_call0_call0_v5, val_main_call0_call0_cst]
  rw [if_neg (fun h => h rfl)]
  exact host_logSigmoid _

/-- The first 1024 columns. -/
theorem array_u : val_main_v20 (F := Ideal) x g w wf = fun i : S1024x1024.Idx => cols x g w 0 (by omega) (i 0) (i 1) := by
  funext i
  idx_vars i
  refine Eq.trans ?_ (cols_apply x g w wf 0 (by omega) _ _)
  unfold val_main_v20
  generalize val_main_v19 (F := Ideal) x g w wf = z
  pointwise []

/-- The values. -/
theorem array_v : val_main_v53 (F := Ideal) x g w wf = fun i : S1024x1024.Idx => cols x g w 3072 le_rfl (i 0) (i 1) := by
  funext i
  idx_vars i
  refine Eq.trans ?_ (cols_apply x g w wf 3072 le_rfl _ _)
  unfold val_main_v53
  generalize val_main_v19 (F := Ideal) x g w wf = z
  pointwise []

/-- The values again. -/
theorem array_vb : val_main_v69 (F := Ideal) x g w wf = fun i : S1024x1024.Idx => cols x g w 3072 le_rfl (i 0) (i 1) :=
  array_v x g w wf

/-- The queries. -/
theorem array_q : val_main_v67 (F := Ideal) x g w wf gq
    = fun i : S1024x1024.Idx => heads x g w 1024 (by omega) gq (i 0) (i 1) * scale := by
  funext i
  idx_vars i
  exact resultQ x g w wf gq _ _

/-- The keys. -/
theorem array_k : val_main_v66 (F := Ideal) x g w wf gk
    = fun i : S1024x1024.Idx => heads x g w 2048 (by omega) gk (i 0) (i 1) := by
  funext i
  idx_vars i
  exact resultK x g w wf gk _ _

/-- The keys again. -/
theorem array_kb : val_main_v68 (F := Ideal) x g w wf gk
    = fun i : S1024x1024.Idx => heads x g w 2048 (by omega) gk (i 0) (i 1) :=
  array_k x g w wf gk

/-- The forget gates. -/
theorem array_f : val_main_v70 (F := Ideal) x g w wf b = fun i : S8x1024.Idx => gate x g wf b (i 0) (i 1) := by
  funext i
  idx_vars i
  exact resultF x g w wf b _ _

end Cert.InProjSRefIdeal.Hand

end
-- ==== Proof.MixRows.lean ====
/- The mixing of the two branches, row by row: the functions of a row that the kernel and the reference both compute, and
   the kernel's operations outside the parking area read at an element. -/
module

public import proofs.«01_k».proof.Proof.Gen.MixIdeal.Skeleton
public import proofs.«01_k».proof.Proof.InProjBlock

@[expose] public section

set_option maxRecDepth 16384

noncomputable section

namespace Cert.MixIdeal.Hand

open Cert.MixIdeal Cert.MixIdeal.Gen Idealize.ShloMosaic Idealize.ShloMosaic.TcCoe Idealize.SL.Sem
open Cert.InProjIdeal.Hand (normed normRow)

/-- The smooth rectifier, in its form with the hyperbolic tangent. -/
def gelu (z : EReal) : EReal :=
  Scalar.ofBits (F := Ideal) .f32 0x3F000000#32 * z * (1
    + Ideal.tanh (Scalar.ofBits (F := Ideal) .f32 0x3F4C422A#32
        * (z + Scalar.ofBits (F := Ideal) .f32 0x3D372713#32 * (z * z * z))))

/-- A row of the recurrent branch, rectified and gated by the logistic function of its product with the gate's weights. -/
def gated (y : Fin 1024 → EReal) (w : Fin 1024 → Fin 1024 → EReal) (l : Fin 1024) : EReal :=
  gelu (y l) * Ideal.logistic (∑ k : Fin 1024, gelu (y k) * w k l)

/-- A row of 1024 entries, normalised. -/
def normHalf (x g : Fin 1024 → EReal) (l : Fin 1024) : EReal :=
  normed (Scalar.ofBits (F := Ideal) .f32 0x44800000#32) x g l

/-- A row of the recurrent branch, gated and normalised. -/
def ssmRow (y : Fin 1024 → EReal) (w : Fin 1024 → Fin 1024 → EReal) (g : Fin 1024 → EReal) (l : Fin 1024) : EReal :=
  normHalf (gated y w) g l

/-- The residual plus the two branches' shares of the output projection. -/
def mixRow (x : Fin 2048 → EReal) (s a : Fin 1024 → EReal) (top bottom : Fin 1024 → Fin 2048 → EReal) (q : Fin 2048) : EReal :=
  x q + (∑ k : Fin 1024, s k * top k q) + ∑ k : Fin 1024, a k * bottom k q

/-- The gated branch before normalisation, as vector operations. -/
def gateVec (v0 : Vec Ideal S512x1024 .f32) (v15 : Vec Ideal S1024x1024 .bf16) : FVec Ideal S512x1024 .f32 :=
  have v1 : FVec Ideal S512x1024 .f32 := broadcast S512x1024 (Scalar.ofBits .f32 0x3F000000#32)
  have v5 : FVec Ideal S512x1024 .f32 := broadcast S512x1024 (Scalar.ofBits .f32 0x3D372713#32)
  have v8 : FVec Ideal S512x1024 .f32 := broadcast S512x1024 (Scalar.ofBits .f32 0x3F4C422A#32)
  have v11 : FVec Ideal S512x1024 .f32 := broadcast S512x1024 (Scalar.ofBits .f32 0x3F800000#32)
  have v13 : FVec Ideal S512x1024 .f32 :=
    mulf (mulf v1 v0) (addf v11 (tanh (mulf v8 (addf v0 (mulf v5 (mulf (mulf v0 v0) v0))))))
  have v16 : FVec Ideal S1024x1024 .bf16 := shapeCast S1024x1024 v15 shapeCasts_S1024x1024_S1024x1024
  mulf v13 (logistic (matmul dot_S512x1024_S1024x1024_S512x1024_1_0_0_1_n_n none (truncf .bf16 v13 bitsLt_bf16_f32)
    v16 (constant S512x1024 .f32 0x00000000#32)))

/-- Those operations at an element. -/
theorem gateVec_apply (y : Vec Ideal S512x1024 .f32) (w : Vec Ideal S1024x1024 .bf16) (r : Fin 512) (l : Fin 1024) :
    gateVec y w (ix2 r l) = gated (fun k => y (ix2 r k)) (fun k j => w (ix2 k j)) l := by
  pointwise [gateVec]
  rfl

/-- The normalisation of 512 rows of 1024 entries, as vector operations. -/
def normVec (z : FVec Ideal S512x1024 .f32) (g : Vec Ideal S1x1024 .f32) : FVec Ideal S512x1024 .f32 :=
  mulf (mulf z (broadcastTo S512x1024 (rsqrt (addf (divf (shapeCast S512x1
    (multiReduction .add [1] S512 (mulf z z) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 g broadcasts_S1x1024_S512x1024)

/-- Those operations at an element. -/
theorem normVec_apply (z : FVec Ideal S512x1024 .f32) (g : Vec Ideal S1x1024 .f32) (r : Fin 512) (l : Fin 1024) :
    normVec z g (ix2 r l) = normHalf (fun k => z (ix2 r k)) (fun k => g (ix2 0 k)) l := by
  pointwise [normVec]
  rfl

/-- The kernel's recurrent branch, gated and normalised, at an element. -/
theorem pay1_apply (y : Vec Ideal S512x1024 .f32) (w : Vec Ideal S1024x1024 .bf16) (g : Vec Ideal S1x1024 .f32)
    (r : Fin 512) (l : Fin 1024) :
    k0_pay1 (F := Ideal) y w g (ix2 r l)
      = ssmRow (fun k => y (ix2 r k)) (fun k j => w (ix2 k j)) (fun k => g (ix2 0 k)) l := by
  show normVec (gateVec y w) g (ix2 r l) = _
  refine (normVec_apply _ _ _ _).trans ?_
  unfold ssmRow
  exact congrArg (normHalf · _ l) (funext fun k => gateVec_apply y w r k)

/-- The two products with the output projection's halves, added to the residual, as vector operations. -/
def joinVec (s a : FVec Ideal S512x1024 .bf16) (x : Vec Ideal S512x2048 .f32) (top bottom : Vec Ideal S1024x2048 .bf16) :
    FVec Ideal S512x2048 .f32 :=
  have t : FVec Ideal S1024x2048 .bf16 := shapeCast S1024x2048 top shapeCasts_S1024x2048_S1024x2048
  have b : FVec Ideal S1024x2048 .bf16 := shapeCast S1024x2048 bottom shapeCasts_S1024x2048_S1024x2048
  addf (addf x (matmul dot_S512x1024_S1024x2048_S512x2048_1_0_0_1_n_n none s t (constant S512x2048 .f32 0x00000000#32)))
    (matmul dot_S512x1024_S1024x2048_S512x2048_1_0_0_1_n_n none a b (constant S512x2048 .f32 0x00000000#32))

/-- Those operations at an element. -/
theorem joinVec_apply (s a : FVec Ideal S512x1024 .bf16) (x : Vec Ideal S512x2048 .f32)
    (top bottom : Vec Ideal S1024x2048 .bf16) (r : Fin 512) (q : Fin 2048) :
    joinVec s a x top bottom (ix2 r q)
      = mixRow (fun k => x (ix2 r k)) (fun k => s (ix2 r k)) (fun k => a (ix2 r k)) (fun k j => top (ix2 k j))
          (fun k j => bottom (ix2 k j)) q := by
  pointwise [joinVec]
  rfl

/-- The residual stream after the mixing, at an element of a point's rows. -/
theorem pay331_apply (s : FVec Ideal S512x1024 .bf16) (a : Vec Ideal S512x1024 .f32) (g : Vec Ideal S1x1024 .f32)
    (x : Vec Ideal S512x2048 .f32) (top bottom : Vec Ideal S1024x2048 .bf16) (r : Fin 512) (q : Fin 2048) :
    k0_pay331 (F := Ideal) s a g x top bottom (ix2 r q)
      = mixRow (fun k => x (ix2 r k)) (fun k => s (ix2 r k)) (normHalf (fun k => a (ix2 r k)) fun k => g (ix2 0 k))
          (fun k j => top (ix2 k j)) (fun k j => bottom (ix2 k j)) q := by
  show joinVec s (normVec a g) x top bottom (ix2 r q) = _
  refine (joinVec_apply _ _ _ _ _ _ _).trans ?_
  exact congrArg (fun z => mixRow _ _ z _ _ q) (funext fun k => normVec_apply a g r k)

/-- The normalisation of 512 rows of 2048 entries, as vector operations. -/
def normWide (z : FVec Ideal S512x2048 .f32) (g : Vec Ideal S1x2048 .f32) : FVec Ideal S512x2048 .f32 :=
  mulf (mulf z (broadcastTo S512x2048 (rsqrt (addf (divf (shapeCast S512x1
    (multiReduction .add [1] S512 (mulf z z) 0x00000000#32 reduces_S512x2048_S512 (.inl rfl) rfl) shapeCasts_S512_S512x1)
    (broadcast S512x1 (Scalar.ofBits .f32 0x45000000#32))) (broadcast S512x1 (Scalar.ofBits .f32 0x358637BD#32))))
    broadcasts_S512x1_S512x2048)) (broadcastTo S512x2048 g broadcasts_S1x2048_S512x2048)

/-- Those operations at an element. -/
theorem normWide_apply (z : FVec Ideal S512x2048 .f32) (g : Vec Ideal S1x2048 .f32) (r : Fin 512) (l : Fin 2048) :
    normWide z g (ix2 r l) = normRow (fun k => z (ix2 r k)) (fun k => g (ix2 0 k)) l := by
  pointwise [normWide]
  rfl

/-- The normalised residual stream after the mixing, at an element of a point's rows. -/
theorem pay332_apply (s : FVec Ideal S512x1024 .bf16) (a : Vec Ideal S512x1024 .f32) (g : Vec Ideal S1x1024 .f32)
    (x : Vec Ideal S512x2048 .f32) (top bottom : Vec Ideal S1024x2048 .bf16) (gm : Vec Ideal S1x2048 .f32)
    (r : Fin 512) (q : Fin 2048) :
    k0_pay332 (F := Ideal) s a g x top bottom gm (ix2 r q)
      = normRow (mixRow (fun k => x (ix2 r k)) (fun k => s (ix2 r k)) (normHalf (fun k => a (ix2 r k)) fun k => g (ix2 0 k))
          (fun k j => top (ix2 k j)) (fun k j => bottom (ix2 k j))) (fun k => gm (ix2 0 k)) q := by
  show normWide (k0_pay331 (F := Ideal) s a g x top bottom) gm (ix2 r q) = _
  refine (normWide_apply _ _ _ _).trans ?_
  exact congrArg (normRow · _ q) (funext fun k => pay331_apply s a g x top bottom r k)

end Cert.MixIdeal.Hand

end
-- ==== Proof.MixPark.lean ====
/- The parking area of the mixing kernel: 32 tiles of 16 rows are stored side by side, eight chunks of 128 columns each, and
   read back one row of every tile at a time. What is read is the same array with its rows in another order. -/
module

public import proofs.«01_k».proof.Proof.Gen.MixIdeal.Value
public import proofs.«01_k».proof.Proof.MixRows
public import Idealize.ShloMosaic.Lib.Pipeline.ValueKit

@[expose] public section

set_option maxRecDepth 16384

noncomputable section

namespace Cert.MixIdeal.Hand

open Cert.MixIdeal Cert.MixIdeal.Gen Idealize.ShloMosaic Idealize.ShloMosaic.TcCoe Idealize.SL.Sem

/-- The row of the stored array that is read back as row `r`. -/
def source (r : Fin 512) : Fin 512 := ⟨r.val % 32 * 16 + r.val / 32, by omega⟩

theorem park_inb (n : ℕ) (h : n < 256) :
    ∀ a, (![n % 8, n / 8 * 24, 0] : Fin 3 → ℕ) a + S1x16x128.size a ≤ S8x768x128.size a := fun a => by
  match a with
  | ⟨0, _⟩ => show n % 8 + 1 ≤ 8; omega
  | ⟨1, _⟩ => show n / 8 * 24 + 16 ≤ 768; omega
  | ⟨2, _⟩ => show 0 + 128 ≤ 128; omega

theorem park_slices (n : ℕ) (h : n < 256) : S512x1024.Slices ![n / 8 * 16, n % 8 * 128] S16x128 := by
  refine ⟨rfl, fun a => ?_⟩
  match a with
  | ⟨0, _⟩ => show n / 8 * 16 + 16 ≤ 512; omega
  | ⟨1, _⟩ => show n % 8 * 128 + 128 ≤ 1024; omega

/-- Store `n`: columns `n % 8` of tile `n / 8`. -/
def stored (s : FVec Ideal S512x1024 .f32) (n : ℕ) (h : n < 256) : View.Piece (Elt Ideal) S8x768x128 .f32 :=
  ⟨Rect.unit (s := S8x768x128) ![n % 8, n / 8 * 24, 0] S1x16x128.size (park_inb n h),
    (shapeCast S1x16x128 (extractStridedSlice S16x128 ![n / 8 * 16, n % 8 * 128] s (park_slices n h))
      shapeCasts_S16x128_S1x16x128 : FVec Ideal S1x16x128 .f32)⟩

/-- The first `n` stores, the last one first. -/
def park (s : FVec Ideal S512x1024 .f32) : (n : ℕ) → n ≤ 256 → List (View.Piece (Elt Ideal) S8x768x128 .f32)
  | 0, _ => []
  | n + 1, h => stored s n h :: park s n (Nat.le_of_succ_le h)

/-- What the parking area holds after all stores, at the places that are stored to. -/
def parked (s : FVec Ideal S512x1024 .f32) (y : S8x768x128.Idx) : EReal :=
  if h : (y 1).val % 24 < 16 then
    s (ix2 (⟨(y 1).val / 24 * 16 + (y 1).val % 24, by have : (y 1).val < 768 := (y 1).isLt; omega⟩ : Fin 512)
      (⟨(y 0).val * 128 + (y 2).val, by
        have : (y 0).val < 8 := (y 0).isLt
        have : (y 2).val < 128 := (y 2).isLt
        omega⟩ : Fin 1024))
  else 0

/-- A store's 16 rows of 128 columns, at an element. -/
theorem tile_apply (s : FVec Ideal S512x1024 .f32) (n : ℕ) (h : n < 256) (x : S1x16x128.Idx) :
    shapeCast S1x16x128 (extractStridedSlice S16x128 ![n / 8 * 16, n % 8 * 128] s (park_slices n h))
        shapeCasts_S16x128_S1x16x128 x
      = s (ix2 (⟨n / 8 * 16 + (x 1).val, by have : (x 1).val < 16 := (x 1).isLt; omega⟩ : Fin 512)
          (⟨n % 8 * 128 + (x 2).val, by have : (x 2).val < 128 := (x 2).isLt; omega⟩ : Fin 1024)) := by
  have h0 : (x 0).val < 1 := (x 0).isLt
  refine (shapeCast_apply (s := S16x128) (t := S1x16x128) _ shapeCasts_S16x128_S1x16x128 x
    (ix2 (x 1) (x 2) : S16x128.Idx) ?_).trans ?_
  · rewrite [Shape.rowMajor_val_three, Shape.rowMajor_val_two]
    show (x 1).val * 128 + (x 2).val = ((x 0).val * 16 + (x 1).val) * 128 + (x 2).val
    omega
  · refine extractStridedSlice_apply _ _ _ _ _ fun a => ?_
    match a with
    | ⟨0, _⟩ => rfl
    | ⟨1, _⟩ => rfl

/-- Each store writes a block of it. -/
theorem stored_eq (s : FVec Ideal S512x1024 .f32) (n : ℕ) (h : n < 256) (x : (stored s n h).1.shape.Idx) :
    (stored s n h).2 x = parked s ((stored s n h).1.emb x) := by
  have h0 : (x 0).val < 1 := (x 0).isLt
  have h1 : (x 1).val < 16 := (x 1).isLt
  have h2 : (x 2).val < 128 := (x 2).isLt
  have e0 : ((stored s n h).1.emb x 0).val = n % 8 + 1 * (x 0).val := rfl
  have e1 : ((stored s n h).1.emb x 1).val = n / 8 * 24 + 1 * (x 1).val := rfl
  have e2 : ((stored s n h).1.emb x 2).val = 0 + 1 * (x 2).val := rfl
  unfold parked
  rw [dif_pos (by rw [e1]; omega)]
  refine (tile_apply s n h x).trans (congrArg s (congrArg₂ ix2 (Fin.ext ?_) (Fin.ext ?_)))
  · show n / 8 * 16 + (x 1).val = ((stored s n h).1.emb x 1).val / 24 * 16 + ((stored s n h).1.emb x 1).val % 24
    rw [e1]; omega
  · show n % 8 * 128 + (x 2).val = ((stored s n h).1.emb x 0).val * 128 + ((stored s n h).1.emb x 2).val
    rw [e0, e2]; omega

theorem mem_park (s : FVec Ideal S512x1024 .f32) (pc : View.Piece (Elt Ideal) S8x768x128 .f32) :
    ∀ (n : ℕ) (h : n ≤ 256), pc ∈ park s n h → ∃ k hk, pc = stored s k hk
  | 0, _, hpc => nomatch hpc
  | n + 1, h, hpc => by
    rcases List.mem_cons.mp hpc with rfl | hpc
    · exact ⟨n, h, rfl⟩
    · exact mem_park s pc n _ hpc

theorem park_mem (s : FVec Ideal S512x1024 .f32) (k : ℕ) (hk : k < 256) :
    ∀ (n : ℕ) (h : n ≤ 256), k < n → stored s k hk ∈ park s n h
  | n + 1, h, hkn => by
    rcases Nat.lt_succ_iff_lt_or_eq.mp hkn with hlt | rfl
    · exact List.mem_cons_of_mem _ (park_mem s k hk n _ hlt)
    · exact List.mem_cons_self

theorem row_inb (p : Fin 8) (c : Fin 16) : ∀ a, S1x32x128.size a = 0 ∨
    (![p.val, c.val, 0] : Fin 3 → ℕ) a + (![1, 24, 1] : Fin 3 → ℕ) a * (S1x32x128.size a - 1) < S8x768x128.size a := fun a => by
  match a with
  | ⟨0, _⟩ => exact Or.inr (show p.val + 1 * (1 - 1) < 8 by omega)
  | ⟨1, _⟩ => exact Or.inr (show c.val + 24 * (32 - 1) < 768 by omega)
  | ⟨2, _⟩ => exact Or.inr (show 0 + 1 * (128 - 1) < 128 by omega)

/-- Row `c` of every tile, columns `p`. -/
def rowBox (p : Fin 8) (c : Fin 16) : LoadRect S8x768x128 :=
  ⟨![p.val, c.val, 0], S1x32x128.size, ![1, 24, 1], row_inb p c⟩

/-- What that load reads: the stored array's rows `c, 16 + c, …`. -/
def rowOf (s : FVec Ideal S512x1024 .f32) (p : Fin 8) (c : Fin 16) (x : S1x32x128.Idx) : EReal :=
  s (ix2 (⟨(x 1).val * 16 + c.val, by have : (x 1).val < 32 := (x 1).isLt; omega⟩ : Fin 512)
    (⟨p.val * 128 + (x 2).val, by have : (x 2).val < 128 := (x 2).isLt; omega⟩ : Fin 1024))

theorem read_park (v : View sig .tc .vmem S8x768x128 .f32) (s : FVec Ideal S512x1024 .f32) (p : Fin 8) (c : Fin 16) :
    v.readCov (park s 256 le_rfl) (rowBox p c) = rowOf s p c := by
  rw [View.readCov_eq_canon']
  funext x
  have h0 : (x 0).val < 1 := (x 0).isLt
  have h1 : (x 1).val < 32 := (x 1).isLt
  have h2 : (x 2).val < 128 := (x 2).isLt
  have e0 : ((rowBox p c).idx x 0).val = p.val + 1 * (x 0).val := rfl
  have e1 : ((rowBox p c).idx x 1).val = c.val + 24 * (x 1).val := rfl
  have e2 : ((rowBox p c).idx x 2).val = 0 + 1 * (x 2).val := rfl
  have hk : (x 1).val * 8 + p.val < 256 := by omega
  have hd : ((x 1).val * 8 + p.val) / 8 = (x 1).val := by omega
  have hm : ((x 1).val * 8 + p.val) % 8 = p.val := by omega
  refine (View.canon_apply_of_pieces (Val := Elt Ideal) (parked s) _ ?_ _
    ⟨_, park_mem s ((x 1).val * 8 + p.val) hk 256 le_rfl hk, ?_⟩).trans ?_
  · intro pc hpc
    obtain ⟨k, hk, rfl⟩ := mem_park s pc 256 le_rfl hpc
    exact stored_eq s k hk
  · rw [LoadRect.mem_set]
    intro a
    match a with
    | ⟨0, _⟩ =>
      refine ⟨0, Nat.one_pos, ?_⟩
      show ((rowBox p c).idx x 0).val = ((x 1).val * 8 + p.val) % 8 + 1 * 0
      rw [e0, hm]; omega
    | ⟨1, _⟩ =>
      refine ⟨c.val, c.isLt, ?_⟩
      show ((rowBox p c).idx x 1).val = ((x 1).val * 8 + p.val) / 8 * 24 + 1 * c.val
      rw [e1, hd]; omega
    | ⟨2, _⟩ =>
      refine ⟨(x 2).val, h2, ?_⟩
      show ((rowBox p c).idx x 2).val = 0 + 1 * (x 2).val
      rw [e2]
  · unfold parked rowOf
    rw [dif_pos (by rw [e1]; omega)]
    refine congrArg s (congrArg₂ ix2 (Fin.ext ?_) (Fin.ext ?_))
    · show ((rowBox p c).idx x 1).val / 24 * 16 + ((rowBox p c).idx x 1).val % 24 = (x 1).val * 16 + c.val
      rw [e1]; omega
    · show ((rowBox p c).idx x 0).val * 128 + ((rowBox p c).idx x 2).val = p.val * 128 + (x 2).val
      rw [e0, e2]; omega

/-- One row of every tile, its eight chunks of columns side by side. -/
def strip (f : Fin 8 → Vec Ideal S1x32x128 .f32) : FVec Ideal S32x1024 .f32 :=
  concatenate S32x1024 1 (List.ofFn fun p : Fin 8 =>
      (⟨S32x128, (shapeCast S32x128 (f p) shapeCasts_S1x32x128_S32x128 : FVec Ideal S32x128 .f32)⟩ :
        (s : Shape) × (s.Idx → EReal)))
    concatenates_S32x128_S32x128_S32x128_S32x128_S32x128_S32x128_S32x128_S32x128_S32x1024_d1

/-- All sixteen rows of every tile, one below the other. -/
def joined (f : Fin 8 → Fin 16 → Vec Ideal S1x32x128 .f32) : FVec Ideal S512x1024 .f32 :=
  concatenate S512x1024 0 (List.ofFn fun c : Fin 16 =>
      (⟨S32x1024, strip fun p => f p c⟩ : (s : Shape) × (s.Idx → EReal)))
    concatenates_S32x1024_S32x1024_S32x1024_S32x1024_S32x1024_S32x1024_S32x1024_S32x1024_S32x1024_S32x1024_S32x1024_S32x1024_S32x1024_S32x1024_S32x1024_S32x1024_S512x1024_d0

/-- The same, cast. -/
def gathered (f : Fin 8 → Fin 16 → Vec Ideal S1x32x128 .f32) : FVec Ideal S512x1024 .bf16 :=
  truncf .bf16 (joined f) bitsLt_bf16_f32

theorem strip_apply (f : Fin 8 → Vec Ideal S1x32x128 .f32) (r : Fin 32) (q : Fin 1024) :
    strip f (ix2 r q) = f ⟨q.val / 128, by omega⟩ (ix3 0 r (⟨q.val % 128, by omega⟩ : Fin 128)) := by
  unfold strip
  refine (concatenate_ofFn_apply (t := S32x1024) (s₁ := S32x128) (1 : Fin 2) _ _ rfl 128 rfl _
    (⟨q.val / 128, by omega⟩ : Fin 8) rfl (ix2 r (⟨q.val % 128, by omega⟩ : Fin 128) : S32x128.Idx) rfl ?_).trans ?_
  · intro b hb
    match b with
    | ⟨0, _⟩ => rfl
    | ⟨1, _⟩ => exact absurd rfl hb
  · refine shapeCast_apply (s := S1x32x128) (t := S32x128) _ shapeCasts_S1x32x128_S32x128 _ _ ?_
    rewrite [Shape.rowMajor_val_three, Shape.rowMajor_val_two]
    show (0 * 32 + r.val) * 128 + q.val % 128 = r.val * 128 + q.val % 128
    omega

/-- The rows read back are the stored array's rows in their other order. -/
theorem gathered_apply (s : FVec Ideal S512x1024 .f32) (r : Fin 512) (q : Fin 1024) :
    gathered (rowOf s) (ix2 r q) = s (ix2 (source r) q) := by
  show joined (rowOf s) (ix2 r q) = _
  unfold joined
  refine (concatenate_ofFn_apply (t := S512x1024) (s₁ := S32x1024) (0 : Fin 2) _ _ rfl 32 rfl _
    (⟨r.val / 32, by omega⟩ : Fin 16) rfl (ix2 (⟨r.val % 32, by omega⟩ : Fin 32) q : S32x1024.Idx) rfl ?_).trans ?_
  · intro b hb
    match b with
    | ⟨0, _⟩ => exact absurd rfl hb
    | ⟨1, _⟩ => rfl
  · refine (strip_apply _ _ _).trans ?_
    unfold rowOf source
    refine congrArg s (congrArg₂ ix2 rfl (Fin.ext ?_))
    show q.val / 128 * 128 + q.val % 128 = q.val
    omega

end Cert.MixIdeal.Hand

end
-- ==== Proof.MixBlock.lean ====
/- What one point of the mixing kernel leaves in its two output blocks. -/
module

public import proofs.«01_k».proof.Proof.MixPark
public import proofs.«01_k».proof.Proof.InProjBlock

@[expose] public section

set_option maxRecDepth 16384

noncomputable section

namespace Cert.MixIdeal.Hand

open Cert.MixIdeal Cert.MixIdeal.Gen Idealize.ShloMosaic Idealize.ShloMosaic.TcCoe Idealize.SL.Sem
open Cert.InProjIdeal.Hand (normed normRow ld_whole)

/-- A load of a whole array from its first element is the array. -/
theorem read_whole {σ : RefSig} {s : Shape} {e : EltTy} (v : Memref σ .tc .vmem s e) (h : v.IsWhole) (x : Vec Ideal s e)
    (off : Fin s.rank → ℕ) (inb) (h0 : ∀ a, off a = 0) :
    View.readAt (Elt Ideal) v.view (Rect.unit (s := s) off s.size inb).toLoadRect (h.unread x) = x :=
  (congrArg (fun z => View.ld z (Rect.unit (s := s) off s.size inb)) (h.read_unread x)).trans (ld_whole s e x off inb h0)

/-- A load of 1024 rows of the output projection from row `o`. -/
theorem read_rows (v : Memref sig .tc .vmem S2048x2048 .bf16) (h : v.IsWhole) (x : Vec Ideal S2048x2048 .bf16) (o : ℕ) (inb)
    (k : Fin 1024) (q : Fin 2048) (hk : o + k.val < 2048) :
    View.readAt (Elt Ideal) v.view (Rect.unit (s := S2048x2048) ![o, 0] S1024x2048.size inb).toLoadRect (h.unread x) (ix2 k q)
      = x (ix2 (⟨o + k.val, hk⟩ : Fin 2048) q) := by
  refine (congrFun (congrArg (fun z => View.ld z (Rect.unit (s := S2048x2048) ![o, 0] S1024x2048.size inb))
    (h.read_unread x)) _).trans (View.ld_unit_apply_of x _ _ inb _ _ fun a => ?_)
  match a with
  | ⟨0, _⟩ => rfl
  | ⟨1, _⟩ => exact (Nat.zero_add _).symm

section Body

variable (c : Dev nD) (i : grid0.Coords)
  (arg1 : Memref sig .tc .vmem S512x2048 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1024x1024 .bf16) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S2048x2048 .bf16) (harg7 : arg7.IsWhole) (arg8 : Memref sig .tc .vmem S1x2048 .f32) (harg8 : arg8.IsWhole)
  (arg9 : Memref sig .tc .vmem S512x2048 .f32) (harg9 : arg9.IsWhole) (arg10 : Memref sig .tc .vmem S512x2048 .bf16) (harg10 : arg10.IsWhole)
  (arg11 : Memref sig .tc .vmem S8x768x128 .f32) (harg11 : arg11.IsWhole)
  (x0 : Vec Ideal S512x2048 .f32) (x1 x2 : Vec Ideal S512x1024 .f32) (x3 : Vec Ideal S1024x1024 .bf16) (x4 x5 : Vec Ideal S1x1024 .f32)
  (x6 : Vec Ideal S2048x2048 .bf16) (x7 : Vec Ideal S1x2048 .f32)

/-- The run's stores to the parking area are the list of `park`. -/
theorem stores_eq :
    kernelRun0_A.sl.HS0_256 (F := Ideal) c arg2 harg2 arg4 harg4 arg5 harg5 x1 x3 x4
      = park (kernelRun0_A.sl.r (F := Ideal) c arg2 harg2 arg4 harg4 arg5 harg5 x1 x3 x4) 256 le_rfl := rfl

/-- The run's loads from it, joined. -/
theorem loads_eq :
    kernelRun0_A.sl.r_73 (F := Ideal) c arg2 harg2 arg4 harg4 arg5 harg5 arg11 x1 x3 x4
      = gathered fun p k => arg11.view.readCov
          (kernelRun0_A.sl.HS0_256 (F := Ideal) c arg2 harg2 arg4 harg4 arg5 harg5 x1 x3 x4) (rowBox p k) := rfl

/-- So what the run reads back is the gated branch, its rows reordered. -/
theorem branch_eq (r : Fin 512) (l : Fin 1024) :
    kernelRun0_A.sl.r_73 (F := Ideal) c arg2 harg2 arg4 harg4 arg5 harg5 arg11 x1 x3 x4 (ix2 r l)
      = ssmRow (fun k => x1 (ix2 (source r) k)) (fun k j => x3 (ix2 k j)) (fun k => x4 (ix2 0 k)) l := by
  rw [loads_eq, stores_eq]
  refine (congrFun (congrArg gathered (funext fun p => funext fun k => read_park _ _ p k)) _).trans
    ((gathered_apply _ _ _).trans ?_)
  unfold kernelRun0_A.sl.r
  rw [read_whole arg2 harg2 x1 ![0, 0] _ (by decide), read_whole arg4 harg4 x3 ![0, 0] _ (by decide),
    read_whole arg5 harg5 x4 ![0, 0] _ (by decide)]
  exact pay1_apply x1 x3 x4 (source r) l

/-- A point's rows: the residual plus the output projection of the two branches. -/
def blockMix (r : Fin 512) : Fin 2048 → EReal :=
  mixRow (fun k => x0 (ix2 r k))
    (ssmRow (fun k => x1 (ix2 (source r) k)) (fun k j => x3 (ix2 k j)) fun k => x4 (ix2 0 k))
    (normHalf (fun k => x2 (ix2 r k)) fun k => x5 (ix2 0 k))
    (fun k j => x6 (ix2 (⟨k.val, by omega⟩ : Fin 2048) j)) (fun k j => x6 (ix2 (⟨1024 + k.val, by omega⟩ : Fin 2048) j))

/-- The rows as the run writes them. -/
theorem rows_eq (r : Fin 512) (t b : Vec Ideal S1024x2048 .bf16)
    (ht : ∀ (k : Fin 1024) (q : Fin 2048), t (ix2 k q) = x6 (ix2 (⟨k.val, by omega⟩ : Fin 2048) q))
    (hb : ∀ (k : Fin 1024) (q : Fin 2048), b (ix2 k q) = x6 (ix2 (⟨1024 + k.val, by omega⟩ : Fin 2048) q)) :
    mixRow (fun k => x0 (ix2 r k))
        (fun k => kernelRun0_A.sl.r_73 (F := Ideal) c arg2 harg2 arg4 harg4 arg5 harg5 arg11 x1 x3 x4 (ix2 r k))
        (normHalf (fun k => x2 (ix2 r k)) fun k => x5 (ix2 0 k)) (fun k j => t (ix2 k j)) (fun k j => b (ix2 k j))
      = blockMix x0 x1 x2 x3 x4 x5 x6 r := by
  unfold blockMix
  simp only [ht, hb, branch_eq]

/-- The first output's block. -/
theorem out8_apply (r : Fin 512) (q : Fin 2048) :
    out0_A_8 (F := Ideal) c i arg1 harg1 arg2 harg2 arg3 harg3 arg4 harg4 arg5 harg5 arg6 harg6 arg7 harg7 arg8 harg8 arg9 harg9 arg10 harg10
        arg11 harg11 x0 x1 x2 x3 x4 x5 x6 x7 (ix2 r q)
      = blockMix x0 x1 x2 x3 x4 x5 x6 r q := by
  unfold out0_A_8
  rw [View.read_writes_junk_apply_eq_canon]
  unfold kernelRun0_A
  dsimp only
  refine (congrFun (View.canon_cons_unit_lit (Val := Elt Ideal) (S := S512x2048) (off := ![0, 0]) inb_S512x2048_S512x2048_0_0 _ [] (by decide)) _).trans ?_
  unfold kernelRun0_A.sl.r_74 kernelRun0_A.sl.r_75
  rw [read_whole arg1 harg1 x0 ![0, 0] _ (by decide), read_whole arg3 harg3 x2 ![0, 0] _ (by decide),
    read_whole arg6 harg6 x5 ![0, 0] _ (by decide)]
  refine (pay331_apply _ _ _ _ _ _ _ _).trans (congrFun (rows_eq c arg2 harg2 arg4 harg4 arg5 harg5 arg11 x0 x1 x2 x3 x4 x5 x6 r _ _ ?_ ?_) q)
  · exact fun k j => (read_rows arg7 harg7 x6 0 _ k j (by omega)).trans (congrArg (fun n => x6 (ix2 n j)) (Fin.ext (Nat.zero_add _)))
  · exact fun k j => read_rows arg7 harg7 x6 1024 _ k j _

/-- The second output's block: those rows normalised. -/
theorem out9_apply (r : Fin 512) (q : Fin 2048) :
    out0_A_9 (F := Ideal) c i arg1 harg1 arg2 harg2 arg3 harg3 arg4 harg4 arg5 harg5 arg6 harg6 arg7 harg7 arg8 harg8 arg9 harg9 arg10 harg10
        arg11 harg11 x0 x1 x2 x3 x4 x5 x6 x7 (ix2 r q)
      = normRow (blockMix x0 x1 x2 x3 x4 x5 x6 r) (fun k => x7 (ix2 0 k)) q := by
  unfold out0_A_9
  rw [View.read_writes_junk_apply_eq_canon]
  unfold kernelRun0_A
  dsimp only
  refine (congrFun (View.canon_cons_unit_lit (Val := Elt Ideal) (S := S512x2048) (off := ![0, 0]) inb_S512x2048_S512x2048_0_0 _ [] (by decide)) _).trans ?_
  unfold kernelRun0_A.sl.r_74 kernelRun0_A.sl.r_75
  rw [read_whole arg1 harg1 x0 ![0, 0] _ (by decide), read_whole arg3 harg3 x2 ![0, 0] _ (by decide),
    read_whole arg6 harg6 x5 ![0, 0] _ (by decide), read_whole arg8 harg8 x7 ![0, 0] _ (by decide)]
  refine (pay332_apply _ _ _ _ _ _ _ _ _).trans (congrArg (fun z => normRow z _ q)
    (rows_eq c arg2 harg2 arg4 harg4 arg5 harg5 arg11 x0 x1 x2 x3 x4 x5 x6 r _ _ ?_ ?_))
  · exact fun k j => (read_rows arg7 harg7 x6 0 _ k j (by omega)).trans (congrArg (fun n => x6 (ix2 n j)) (Fin.ext (Nat.zero_add _)))
  · exact fun k j => read_rows arg7 harg7 x6 1024 _ k j _

end Body

end Cert.MixIdeal.Hand

end
-- ==== Proof.MixOutputs.lean ====
/- The mixing kernel's two output arrays after the run, as formulas of its arguments. -/
module

public import proofs.«01_k».proof.Proof.MixBlock

@[expose] public section

set_option maxRecDepth 16384

noncomputable section

namespace Cert.MixIdeal.Hand

open Cert.MixIdeal Cert.MixIdeal.Gen Idealize.ShloMosaic Idealize.ShloMosaic.TcCoe Idealize.SL.Sem
open Cert.InProjIdeal.Hand (normed normRow)

/-- The row of the recurrent branch that goes into row `r`: inside each 512 rows the order is by step, not by frame. -/
def origin (r : Fin 16384) : Fin 16384 := ⟨r.val / 512 * 512 + (r.val % 32 * 16 + r.val % 512 / 32), by omega⟩

/-- A row of the first result: the residual plus the output projection of the two normalised branches. -/
def mixed (x : Vec Ideal S16384x2048 .f32) (y a : Vec Ideal S16384x1024 .f32) (w : Vec Ideal S1024x1024 .f32)
    (gs ga : Vec Ideal S1x1024 .f32) (o : Vec Ideal S2048x2048 .f32) (r : Fin 16384) : Fin 2048 → EReal :=
  mixRow (fun k => x (ix2 r k))
    (ssmRow (fun k => y (ix2 (origin r) k)) (fun k j => w (ix2 k j)) fun k => gs (ix2 0 k))
    (normHalf (fun k => a (ix2 r k)) fun k => ga (ix2 0 k))
    (fun k j => o (ix2 (⟨k.val, by omega⟩ : Fin 2048) j)) (fun k j => o (ix2 (⟨1024 + k.val, by omega⟩ : Fin 2048) j))

variable (m : (ℓ : Loc nD τ sig) → Buf (Elt Ideal) ℓ)

/-- The arguments of the call, as arrays. -/
abbrev argX (c : Dev nD) : Vec Ideal S16384x2048 .f32 := m ((c : Thread nD τ).loc main_arg0)
abbrev argY (c : Dev nD) : Vec Ideal S16384x1024 .f32 := m ((c : Thread nD τ).loc main_arg1)
abbrev argA (c : Dev nD) : Vec Ideal S16384x1024 .f32 := m ((c : Thread nD τ).loc main_arg2)
abbrev argW (c : Dev nD) : Vec Ideal S1024x1024 .f32 := m ((c : Thread nD τ).loc main_arg3)
abbrev argGs (c : Dev nD) : Vec Ideal S1x1024 .f32 := m ((c : Thread nD τ).loc main_arg4)
abbrev argGa (c : Dev nD) : Vec Ideal S1x1024 .f32 := m ((c : Thread nD τ).loc main_arg5)
abbrev argO (c : Dev nD) : Vec Ideal S2048x2048 .f32 := m ((c : Thread nD τ).loc main_arg6)
abbrev argGm (c : Dev nD) : Vec Ideal S1x2048 .f32 := m ((c : Thread nD τ).loc main_arg7)

theorem points : cfg0.N = 32 := N_0

/-- The cast weights of the gate and of the output projection are the arguments', element by element. -/
theorem V_gate (c : Dev nD) (i : S1024x1024.Idx) : V m c main_v0 i = argW m c i := rfl
theorem V_out (c : Dev nD) (i : S2048x2048.Idx) : V m c main_v1 i = argO m c i := rfl

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index3 : ∀ t : Fin cfg0.N, ∀ a : Fin 2, win0_3.index t a = 0 := (by decide +kernel : ∀ t : Fin grid0.N, _)
theorem index4 : ∀ t : Fin cfg0.N, ∀ a : Fin 2, win0_4.index t a = 0 := (by decide +kernel : ∀ t : Fin grid0.N, _)
theorem index5 : ∀ t : Fin cfg0.N, ∀ a : Fin 2, win0_5.index t a = 0 := (by decide +kernel : ∀ t : Fin grid0.N, _)
theorem index6 : ∀ t : Fin cfg0.N, ∀ a : Fin 2, win0_6.index t a = 0 := (by decide +kernel : ∀ t : Fin grid0.N, _)
theorem index7 : ∀ t : Fin cfg0.N, ∀ a : Fin 2, win0_7.index t a = 0 := (by decide +kernel : ∀ t : Fin grid0.N, _)

/-! A point's blocks: 512 rows of the residual and of the two branches, the rest whole. -/

theorem iblk0_apply (c : Dev nD) (t : Fin cfg0.N) (r : Fin 512) (l : Fin 2048) (h : t.val * 512 + r.val < 16384) :
    iblk m c 0 t (ix2 r l) = argX m c (ix2 ⟨t.val * 512 + r.val, h⟩ l) := by
  obtain ⟨e0, e1⟩ := index0 t
  unfold argX
  rw [← V_main_arg0 m c]
  unfold iblk
  show V m c main_arg0 _ = _
  congr 1
  funext a
  apply Fin.ext
  match a with
  | ⟨0, _⟩ => show win0_0.index t (0 : Fin 2) * 512 + 1 * r.val = _; rw [e0, Nat.one_mul]; rfl
  | ⟨1, _⟩ => show win0_0.index t (1 : Fin 2) * 2048 + 1 * l.val = _; rw [e1, Nat.zero_mul, Nat.zero_add, Nat.one_mul]; rfl

theorem iblk1_apply (c : Dev nD) (t : Fin cfg0.N) (r : Fin 512) (l : Fin 1024) (h : t.val * 512 + r.val < 16384) :
    iblk m c 1 t (ix2 r l) = argY m c (ix2 ⟨t.val * 512 + r.val, h⟩ l) := by
  obtain ⟨e0, e1⟩ := index1 t
  unfold argY
  rw [← V_main_arg1 m c]
  unfold iblk
  show V m c main_arg1 _ = _
  congr 1
  funext a
  apply Fin.ext
  match a with
  | ⟨0, _⟩ => show win0_1.index t (0 : Fin 2) * 512 + 1 * r.val = _; rw [e0, Nat.one_mul]; rfl
  | ⟨1, _⟩ => show win0_1.index t (1 : Fin 2) * 1024 + 1 * l.val = _; rw [e1, Nat.zero_mul, Nat.zero_add, Nat.one_mul]; rfl

theorem iblk2_apply (c : Dev nD) (t : Fin cfg0.N) (r : Fin 512) (l : Fin 1024) (h : t.val * 512 + r.val < 16384) :
    iblk m c 2 t (ix2 r l) = argA m c (ix2 ⟨t.val * 512 + r.val, h⟩ l) := by
  obtain ⟨e0, e1⟩ := index2 t
  unfold argA
  rw [← V_main_arg2 m c]
  unfold iblk
  show V m c main_arg2 _ = _
  congr 1
  funext a
  apply Fin.ext
  match a with
  | ⟨0, _⟩ => show win0_2.index t (0 : Fin 2) * 512 + 1 * r.val = _; rw [e0, Nat.one_mul]; rfl
  | ⟨1, _⟩ => show win0_2.index t (1 : Fin 2) * 1024 + 1 * l.val = _; rw [e1, Nat.zero_mul, Nat.zero_add, Nat.one_mul]; rfl

theorem iblk3_eq (c : Dev nD) (t : Fin cfg0.N) : iblk m c 3 t = argW m c := by
  funext i
  rw [← V_gate m c]
  unfold iblk
  show V m c main_v0 _ = _
  congr 1
  funext a
  apply Fin.ext
  match a with
  | ⟨0, _⟩ => show win0_3.index t (0 : Fin 2) * 1024 + 1 * (i 0).val = _; rw [index3, Nat.zero_mul, Nat.zero_add, Nat.one_mul]; rfl
  | ⟨1, _⟩ => show win0_3.index t (1 : Fin 2) * 1024 + 1 * (i 1).val = _; rw [index3, Nat.zero_mul, Nat.zero_add, Nat.one_mul]; rfl

theorem iblk4_eq (c : Dev nD) (t : Fin cfg0.N) : iblk m c 4 t = argGs m c := by
  funext i
  unfold argGs
  rw [← V_main_arg4 m c]
  unfold iblk
  show V m c main_arg4 _ = _
  congr 1
  funext a
  apply Fin.ext
  match a with
  | ⟨0, _⟩ => show win0_4.index t (0 : Fin 2) * 1 + 1 * (i 0).val = _; rw [index4, Nat.zero_mul, Nat.zero_add, Nat.one_mul]; rfl
  | ⟨1, _⟩ => show win0_4.index t (1 : Fin 2) * 1024 + 1 * (i 1).val = _; rw [index4, Nat.zero_mul, Nat.zero_add, Nat.one_mul]; rfl

theorem iblk5_eq (c : Dev nD) (t : Fin cfg0.N) : iblk m c 5 t = argGa m c := by
  funext i
  unfold argGa
  rw [← V_main_arg5 m c]
  unfold iblk
  show V m c main_arg5 _ = _
  congr 1
  funext a
  apply Fin.ext
  match a with
  | ⟨0, _⟩ => show win0_5.index t (0 : Fin 2) * 1 + 1 * (i 0).val = _; rw [index5, Nat.zero_mul, Nat.zero_add, Nat.one_mul]; rfl
  | ⟨1, _⟩ => show win0_5.index t (1 : Fin 2) * 1024 + 1 * (i 1).val = _; rw [index5, Nat.zero_mul, Nat.zero_add, Nat.one_mul]; rfl

theorem iblk6_eq (c : Dev nD) (t : Fin cfg0.N) : iblk m c 6 t = argO m c := by
  funext i
  rw [← V_out m c]
  unfold iblk
  show V m c main_v1 _ = _
  congr 1
  funext a
  apply Fin.ext
  match a with
  | ⟨0, _⟩ => show win0_6.index t (0 : Fin 2) * 2048 + 1 * (i 0).val = _; rw [index6, Nat.zero_mul, Nat.zero_add, Nat.one_mul]; rfl
  | ⟨1, _⟩ => show win0_6.index t (1 : Fin 2) * 2048 + 1 * (i 1).val = _; rw [index6, Nat.zero_mul, Nat.zero_add, Nat.one_mul]; rfl

theorem iblk7_eq (c : Dev nD) (t : Fin cfg0.N) : iblk m c 7 t = argGm m c := by
  funext i
  unfold argGm
  rw [← V_main_arg7 m c]
  unfold iblk
  show V m c main_arg7 _ = _
  congr 1
  funext a
  apply Fin.ext
  match a with
  | ⟨0, _⟩ => show win0_7.index t (0 : Fin 2) * 1 + 1 * (i 0).val = _; rw [index7, Nat.zero_mul, Nat.zero_add, Nat.one_mul]; rfl
  | ⟨1, _⟩ => show win0_7.index t (1 : Fin 2) * 2048 + 1 * (i 1).val = _; rw [index7, Nat.zero_mul, Nat.zero_add, Nat.one_mul]; rfl

/-- A point's rows are the array's. -/
theorem blockMix_eq (c : Dev nD) (t : Fin cfg0.N) (r : Fin 512) (h : t.val * 512 + r.val < 16384) :
    blockMix (iblk m c 0 t) (iblk m c 1 t) (iblk m c 2 t) (iblk m c 3 t) (iblk m c 4 t) (iblk m c 5 t) (iblk m c 6 t) r
      = mixed (argX m c) (argY m c) (argA m c) (argW m c) (argGs m c) (argGa m c) (argO m c) ⟨t.val * 512 + r.val, h⟩ := by
  have hs : t.val * 512 + (source r).val < 16384 := by have := (source r).isLt; omega
  have ho : (⟨t.val * 512 + (source r).val, hs⟩ : Fin 16384) = origin ⟨t.val * 512 + r.val, h⟩ := by
    apply Fin.ext
    show t.val * 512 + (r.val % 32 * 16 + r.val / 32)
      = (t.val * 512 + r.val) / 512 * 512 + ((t.val * 512 + r.val) % 32 * 16 + (t.val * 512 + r.val) % 512 / 32)
    omega
  unfold blockMix mixed
  rw [iblk3_eq, iblk4_eq, iblk5_eq, iblk6_eq, ← ho]
  simp only [iblk0_apply m c t _ _ h, iblk1_apply m c t _ _ hs, iblk2_apply m c t _ _ h]

/-- An index of a block is its two coordinates. -/
theorem coords_eq (y : S512x2048.Idx) : y = (ix2 (y 0) (y 1) : S512x2048.Idx) := by
  funext a
  match a with
  | ⟨0, _⟩ => rfl
  | ⟨1, _⟩ => rfl

/-- What a point leaves in the first output's block. -/
theorem point8_eq (c : Dev nD) (t : Fin cfg0.N) (y : S512x2048.Idx) :
    (outsAt0 m c t).1 y = blockMix (iblk m c 0 t) (iblk m c 1 t) (iblk m c 2 t) (iblk m c 3 t) (iblk m c 4 t) (iblk m c 5 t)
      (iblk m c 6 t) (y 0) (y 1) := by
  refine (congrArg (outsAt0 m c t).1 (coords_eq y)).trans ?_
  unfold outsAt0
  dsimp only
  exact out8_apply ..

/-- What a point leaves in the second output's block. -/
theorem point9_eq (c : Dev nD) (t : Fin cfg0.N) (y : S512x2048.Idx) :
    (outsAt0 m c t).2 y = normRow (blockMix (iblk m c 0 t) (iblk m c 1 t) (iblk m c 2 t) (iblk m c 3 t) (iblk m c 4 t)
      (iblk m c 5 t) (iblk m c 6 t) (y 0)) (fun k => iblk m c 7 t (ix2 0 k)) (y 1) := by
  refine (congrArg (outsAt0 m c t).2 (coords_eq y)).trans ?_
  unfold outsAt0
  dsimp only
  exact out9_apply ..

/-- The first output: the residual stream. -/
theorem output8_eq (c : Dev nD) :
    (dats m 0 c).arrAt 8 cfg0.N = fun i : S16384x2048.Idx =>
      mixed (argX m c) (argY m c) (argA m c) (argW m c) (argGs m c) (argGa m c) (argO m c) (i 0) (i 1) := by
  refine (dats m 0 c).arrAt_eq_of_covers 8 _ (by decide +kernel) fun t _ y => ?_
  obtain ⟨e0, e1⟩ := index8 t
  have hy : (y 0).val < 512 := (y 0).isLt
  have ht : t.val < 32 := points ▸ t.isLt
  blk_simp
  rw [after0_8]
  refine (point8_eq m c t y).trans ?_
  rw [blockMix_eq m c t (y 0) (by omega)]
  exact congrArg₂ (mixed _ _ _ _ _ _ _) (Fin.ext (by blk_simp [e0])) (Fin.ext (by blk_simp [e1]))

/-- The second output: its rows normalised. -/
theorem output9_eq (c : Dev nD) :
    (dats m 0 c).arrAt 9 cfg0.N = fun i : S16384x2048.Idx =>
      normRow (mixed (argX m c) (argY m c) (argA m c) (argW m c) (argGs m c) (argGa m c) (argO m c) (i 0))
        (fun k => argGm m c (ix2 0 k)) (i 1) := by
  refine (dats m 0 c).arrAt_eq_of_covers 9 _ (by decide +kernel) fun t _ y => ?_
  obtain ⟨e0, e1⟩ := index9 t
  have hy : (y 0).val < 512 := (y 0).isLt
  have ht : t.val < 32 := points ▸ t.isLt
  blk_simp
  rw [after0_9]
  refine (point9_eq m c t y).trans ?_
  rw [blockMix_eq m c t (y 0) (by omega), iblk7_eq]
  exact congrArg₂ (fun r q => normRow (mixed (argX m c) (argY m c) (argA m c) (argW m c) (argGs m c) (argGa m c) (argO m c) r)
    (fun k => argGm m c (ix2 0 k)) q) (Fin.ext (by blk_simp [e0])) (Fin.ext (by blk_simp [e1]))

end Cert.MixIdeal.Hand

end
-- ==== Proof.MixRef.lean ====
/- What the reference of the mixing call computes, element by element. -/
module

public import proofs.«01_k».proof.Proof.MixOutputs
public import proofs.«01_k».proof.Proof.Gen.MixRefIdeal.Run
public import proofs.«01_k».proof.Proof.Gen.MixRefIdeal.Read

@[expose] public section

set_option maxRecDepth 16384

noncomputable section

namespace Cert.MixRefIdeal.Hand

open Cert.MixRefIdeal Cert.MixRefIdeal.Gen Cert.MixRefIdeal.Read Idealize.ShloMosaic Idealize.ShloMosaic.TcCoe Idealize.SL.Sem
open Cert.InProjIdeal.Hand (normed normRow)
open Cert.MixIdeal.Hand (gelu gated normHalf ssmRow mixRow origin mixed)

variable (x : Vec Ideal S16384x2048 .f32) (y a : Vec Ideal S16384x1024 .f32) (w : Vec Ideal S1024x1024 .f32)
  (gs ga : Vec Ideal S1x1024 .f32) (o : Vec Ideal S2048x2048 .f32) (gm : Vec Ideal S1x2048 .f32)

/-- The recurrent branch with its rows in the residual's order. -/
theorem order_apply (r : Fin 16384) (l : Fin 1024) : val_main_v2 (F := Ideal) y (ix2 r l) = y (ix2 (origin r) l) := by
  rw [val_main_v2_apply, val_main_v1_apply, val_main_v0_apply]
  have hr := r.isLt
  have hl := l.isLt
  refine congrArg y (funext fun b => Fin.ext ?_)
  match b with
  | ⟨0, _⟩ =>
    show (((((r.val * 1024 + l.val) / 524288) * 32 + (r.val * 1024 + l.val) / 1024 % 32) * 16
        + (r.val * 1024 + l.val) / 32768 % 16) * 1024 + (r.val * 1024 + l.val) % 1024) / 1024
      = r.val / 512 * 512 + (r.val % 32 * 16 + r.val % 512 / 32)
    omega
  | ⟨1, _⟩ =>
    show (((((r.val * 1024 + l.val) / 524288) * 32 + (r.val * 1024 + l.val) / 1024 % 32) * 16
        + (r.val * 1024 + l.val) / 32768 % 16) * 1024 + (r.val * 1024 + l.val) % 1024) % 1024 = l.val
    omega

/-- The rectified branch. -/
theorem gelu_apply (r : Fin 16384) (l : Fin 1024) :
    val_main_v15 (F := Ideal) y (ix2 r l) = gelu (y (ix2 (origin r) l)) := by
  rw [← order_apply y r l]
  unfold val_main_v15 val_main_v14 val_main_v12 val_main_v10 val_main_v9 val_main_v7 val_main_v6 val_main_v4 val_main_v3
  generalize val_main_v2 (F := Ideal) y = z
  pointwise [val_main_v13, val_main_v11, val_main_v8, val_main_v5, val_main_cst, val_main_cst_0, val_main_cst_1, val_main_cst_2]
  unfold gelu
  rw [mul_comm (Scalar.ofBits (F := Ideal) .f32 0x3F000000#32) (z (ix2 r l))]
  exact (mul_assoc _ _ _).symm

/-- The gated branch. -/
theorem gated_apply (r : Fin 16384) (l : Fin 1024) :
    val_main_v23 (F := Ideal) y w (ix2 r l) = gated (fun k => y (ix2 (origin r) k)) (fun k j => w (ix2 k j)) l := by
  have hg := fun l => gelu_apply y r l
  unfold gated
  simp only [← hg]
  unfold val_main_v23 val_main_v22 val_main_v20 val_main_v18 val_main_v17 val_main_v16
  generalize val_main_v15 (F := Ideal) y = z
  pointwise [val_main_v21, val_main_v19, val_main_cst_3, val_main_cst_4]
  rfl

/-- The gated branch, normalised. -/
theorem branch_apply (r : Fin 16384) (l : Fin 1024) :
    val_main_v37 (F := Ideal) y w gs (ix2 r l)
      = ssmRow (fun k => y (ix2 (origin r) k)) (fun k j => w (ix2 k j)) (fun k => gs (ix2 0 k)) l := by
  have hg := fun l => gated_apply y w r l
  unfold ssmRow normHalf normed
  simp only [← hg]
  unfold val_main_v37 val_main_v34 val_main_v33 val_main_v32 val_main_v31 val_main_v29 val_main_v27 val_main_v26 val_main_v25
  generalize val_main_v23 (F := Ideal) y w = z
  pointwise [val_main_v36, val_main_v35, val_main_v24, val_main_v30, val_main_v28, val_main_cst_5, val_main_cst_6, val_main_cst_7]

/-- The attention's branch, normalised. -/
theorem attn_apply (r : Fin 16384) (l : Fin 1024) :
    val_main_v51 (F := Ideal) a ga (ix2 r l) = normHalf (fun k => a (ix2 r k)) (fun k => ga (ix2 0 k)) l := by
  unfold normHalf normed
  pointwise [val_main_v51, val_main_v50, val_main_v49, val_main_v48, val_main_v47, val_main_v46, val_main_v45, val_main_v44,
    val_main_v43, val_main_v42, val_main_v41, val_main_v40, val_main_v39, val_main_v38, val_main_cst_8, val_main_cst_9, val_main_cst_10]

/-- The first 1024 columns of the joined branches. -/
theorem left_apply (r : Fin 16384) (k : Fin 1024) :
    val_main_v52 (F := Ideal) y a w gs ga (ix2 r (⟨k.val, by omega⟩ : Fin 2048)) = val_main_v37 (F := Ideal) y w gs (ix2 r k) := by
  unfold val_main_v52
  refine concatenate_pair_apply_left (t := S16384x2048) (s₁ := S16384x1024) (s₂ := S16384x1024) 1 (val_main_v37 (F := Ideal) y w gs) _ _ _ rfl (ix2 r k) fun b => ?_
  match b with
  | ⟨0, _⟩ => rfl
  | ⟨1, _⟩ => rfl

/-- The other 1024 columns. -/
theorem right_apply (r : Fin 16384) (k : Fin 1024) :
    val_main_v52 (F := Ideal) y a w gs ga (ix2 r (⟨1024 + k.val, by omega⟩ : Fin 2048)) = val_main_v51 (F := Ideal) a ga (ix2 r k) := by
  unfold val_main_v52
  generalize val_main_v37 (F := Ideal) y w gs = u
  generalize val_main_v51 (F := Ideal) a ga = v
  pointwise []

/-- A row of the residual stream. -/
theorem mixed_apply (r : Fin 16384) (q : Fin 2048) :
    val_main_v54 (F := Ideal) x y a w gs ga o (ix2 r q) = mixed x y a w gs ga o r q := by
  have hl := fun k => (left_apply y a w gs ga r k).trans (branch_apply y w gs r k)
  have hr := fun k => (right_apply y a w gs ga r k).trans (attn_apply a ga r k)
  unfold val_main_v54 val_main_v53 mixed mixRow
  generalize val_main_v52 (F := Ideal) y a w gs ga = z at hl hr ⊢
  pointwise []
  rw [add_assoc]
  refine congrArg (x (ix2 r q) + ·) ?_
  refine (Fin.sum_univ_add (a := 1024) (b := 1024) fun k => z (ix2 r k) * o (ix2 k q)).trans (congrArg₂ (· + ·) ?_ ?_)
  · exact Finset.sum_congr rfl fun k _ => congrArg (· * _) (hl k)
  · exact Finset.sum_congr rfl fun k _ => congrArg (· * _) (hr k)

/-- The row normalised. -/
theorem norm_apply (r : Fin 16384) (q : Fin 2048) :
    val_main_v69 (F := Ideal) x y a w gs ga o gm (ix2 r q) = normRow (mixed x y a w gs ga o r) (fun k => gm (ix2 0 k)) q := by
  have hm := fun q => mixed_apply x y a w gs ga o r q
  unfold normRow normed
  simp only [← hm]
  unfold val_main_v69 val_main_v68 val_main_v65 val_main_v64 val_main_v63 val_main_v62 val_main_v60 val_main_v58 val_main_v57 val_main_v56
  generalize val_main_v54 (F := Ideal) x y a w gs ga o = z
  pointwise [val_main_v67, val_main_v66, val_main_v61, val_main_v59, val_main_v55, val_main_cst_11, val_main_cst_12, val_main_cst_13]

/-- An element's index is its two coordinates. -/
theorem index_eq (i : S16384x2048.Idx) : i = (ix2 (i 0) (i 1) : S16384x2048.Idx) := by
  funext b
  match b with
  | ⟨0, _⟩ => rfl
  | ⟨1, _⟩ => rfl

/-- The reference's two results, as arrays. -/
theorem array_x : val_main_v54 (F := Ideal) x y a w gs ga o = fun i => mixed x y a w gs ga o (i 0) (i 1) :=
  funext fun i => (congrArg _ (index_eq i)).trans (mixed_apply x y a w gs ga o (i 0) (i 1))
theorem array_h : val_main_v69 (F := Ideal) x y a w gs ga o gm
    = fun i => normRow (mixed x y a w gs ga o (i 0)) (fun k => gm (ix2 0 k)) (i 1) :=
  funext fun i => (congrArg _ (index_eq i)).trans (norm_apply x y a w gs ga o gm (i 0) (i 1))

end Cert.MixRefIdeal.Hand

end
-- ==== Proof.CastWValue.lean ====
/- The weights of the input projection, transposed and cast: what the kernel and the reference compute. -/
module

public import proofs.«01_k».proof.Proof.MixBlock
public import proofs.«01_k».proof.Proof.Gen.CastWIdeal.Value
public import proofs.«01_k».proof.Proof.Gen.CastWRefIdeal.Run
public import proofs.«01_k».proof.Proof.Gen.CastWRefIdeal.Read
public import Idealize.ShloMosaic.Lib.KernelVsHost

@[expose] public section

set_option maxRecDepth 16384

noncomputable section

namespace Cert.CastWIdeal.Hand

open Cert.CastWIdeal Cert.CastWIdeal.Gen Idealize.ShloMosaic Idealize.ShloMosaic.TcCoe Idealize.SL.Sem
open Cert.MixIdeal.Hand (read_whole)

/-- The first 4096 columns of the weights, as rows. -/
def mainRows (w : Vec Ideal S2048x4104 .f32) (r : Fin 4096) (l : Fin 2048) : EReal :=
  w (ix2 l (⟨r.val, by omega⟩ : Fin 4104))

/-- The last eight columns of the weights, as rows, followed by zeros. -/
def gateRows (w : Vec Ideal S2048x4104 .f32) (r : Fin 128) (l : Fin 2048) : EReal :=
  if h : r.val < 8 then w (ix2 l (⟨4096 + r.val, by omega⟩ : Fin 4104)) else 0

variable (m : (ℓ : Loc nD τ sig) → Buf (Elt Ideal) ℓ)

/-- The argument of the call, as an array. -/
abbrev argW (c : Dev nD) : Vec Ideal S2048x4104 .f32 := m ((c : Thread nD τ).loc main_arg0)

/-- What the kernel is given: the transposed weights. -/
theorem V_rows (c : Dev nD) (r : Fin 4104) (l : Fin 2048) : V m c main_v0 (ix2 r l) = argW m c (ix2 l r) := by
  show transpose S4104x2048 [1, 0] (argW m c) transposes_S2048x4104_S4104x2048_1_0 (ix2 r l) = _
  generalize argW m c = w
  pointwise []

theorem points : cfg0.N = 8 := N_0

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 512 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

/-- A point's block of the transposed weights: 512 rows of them. -/
theorem rows_apply (c : Dev nD) (t : Fin cfg0.N) (r : Fin 512) (l : Fin 2048) (h : t.val * 512 + r.val < 4104) :
    X0_0 m c t (ix2 r l) = argW m c (ix2 l ⟨t.val * 512 + r.val, h⟩) := by
  obtain ⟨e0, e1⟩ := index0 t
  rw [← V_rows]
  unfold X0_0 Pipeline.Window.fill
  rw [dif_pos (moved0_0 t _)]
  unfold iblk
  show V m c main_v0 _ = _
  congr 1
  funext a
  apply Fin.ext
  match a with
  | ⟨0, _⟩ => show win0_0.index t (0 : Fin 2) * 512 + 1 * r.val = _; rw [e0, Nat.one_mul]; rfl
  | ⟨1, _⟩ => show win0_0.index t (1 : Fin 2) * 2048 + 1 * l.val = _; rw [e1, Nat.zero_mul, Nat.zero_add, Nat.one_mul]; rfl

/-- Every point is given the last eight rows as well. -/
theorem last_apply (c : Dev nD) (t : Fin cfg0.N) (r : Fin 8) (l : Fin 2048) :
    iblk m c 1 t (ix2 r l) = argW m c (ix2 l (⟨4096 + r.val, by omega⟩ : Fin 4104)) := by
  obtain ⟨e0, e1⟩ := index1 t
  rw [← V_rows]
  unfold iblk
  show V m c main_v0 _ = _
  congr 1
  funext a
  apply Fin.ext
  match a with
  | ⟨0, _⟩ => show win0_1.index t (0 : Fin 2) * 8 + 1 * r.val = _; rw [e0, Nat.one_mul]; rfl
  | ⟨1, _⟩ => show win0_1.index t (1 : Fin 2) * 2048 + 1 * l.val = _; rw [e1, Nat.zero_mul, Nat.zero_add, Nat.one_mul]; rfl

section Body

variable (c : Dev nD) (i : grid0.Coords) (arg1 : Memref sig .tc .vmem S512x2048 .f32) (harg1 : arg1.IsWhole)
  (arg2 : Memref sig .tc .vmem S8x2048 .f32) (harg2 : arg2.IsWhole) (arg3 : Memref sig .tc .vmem S512x2048 .bf16)
  (harg3 : arg3.IsWhole) (arg4 : Memref sig .tc .vmem S128x2048 .bf16) (harg4 : arg4.IsWhole)
  (x0 : Vec Ideal S512x2048 .f32) (x1 : Vec Ideal S8x2048 .f32)

/-- The first output's block is the point's block of the weights. -/
theorem out2_apply (y : S512x2048.Idx) :
    out0_A_2 (F := Ideal) c i arg1 harg1 arg2 harg2 arg3 harg3 arg4 harg4 x0 x1 y = x0 y := by
  unfold out0_A_2
  rw [View.read_writes_junk_apply_eq_canon]
  unfold kernelRun0_A
  dsimp only
  refine (congrFun (View.canon_cons_unit_lit (Val := Elt Ideal) (S := S512x2048) (off := ![0, 0]) inb_S512x2048_S512x2048_0_0 _ [] (by decide)) _).trans ?_
  rw [read_whole arg1 harg1 x0 ![0, 0] _ (by decide)]
  idx_vars y
  pointwise [k0_pay1]

/-- The second output's block: the last rows over zeros. -/
theorem out3_apply (r : Fin 128) (l : Fin 2048) :
    out0_A_3 (F := Ideal) c i arg1 harg1 arg2 harg2 arg3 harg3 arg4 harg4 x0 x1 (ix2 r l)
      = if h : r.val < 8 then x1 (ix2 (⟨r.val, h⟩ : Fin 8) l) else 0 := by
  unfold out0_A_3
  rw [View.read_writes_junk_apply_eq_canon]
  unfold kernelRun0_A
  dsimp only
  by_cases h : r.val < 8
  · rw [dif_pos h]
    have hr : (ix2 r l : S128x2048.Idx)
        = (Rect.unit (s := S128x2048) ![0, 0] S8x2048.size inb_S128x2048_S8x2048_0_0).emb (ix2 (⟨r.val, h⟩ : Fin 8) l) := by
      funext a
      apply Fin.ext
      match a with
      | ⟨0, _⟩ => show r.val = 0 + 1 * r.val; omega
      | ⟨1, _⟩ => show l.val = 0 + 1 * l.val; omega
    rw [hr]
    refine (View.canon_cons_emb (Val := Elt Ideal) _ _ _ _).trans ?_
    rw [read_whole arg2 harg2 x1 ![0, 0] _ (by decide)]
    pointwise [k0_pay3]
  · rw [dif_neg h]
    refine (View.canon_cons_of_not_mem (Val := Elt Ideal) _ _
      (Rect.not_mem_set_of_axis _ _ 0 0 8 rfl rfl rfl (Or.inr (by show 0 + 8 ≤ r.val; omega)))).trans ?_
    refine (congrFun (View.canon_cons_unit_lit (Val := Elt Ideal) (S := S128x2048) (off := ![0, 0]) inb_S128x2048_S128x2048_0_0 _ [] (by decide)) _).trans ?_
    pointwise [k0_pay2]

end Body

/-- The first output: the first 4096 columns as rows. -/
theorem output2_eq (c : Dev nD) :
    (dats m 0 c).arrAt 2 cfg0.N = fun i : S4096x2048.Idx => mainRows (argW m c) (i 0) (i 1) := by
  refine (dats m 0 c).arrAt_eq_of_covers 2 _ (by decide +kernel) fun t _ y => ?_
  obtain ⟨e0, e1⟩ := index2 t
  have hy : (y 0).val < 512 := (y 0).isLt
  have ht : t.val < 8 := points ▸ t.isLt
  blk_simp
  rw [after0_2]
  unfold outsAt0
  dsimp only
  refine (out2_apply ..).trans ?_
  have ey : (y : S512x2048.Idx) = ix2 (y 0) (y 1) := by
    funext a
    match a with
    | ⟨0, _⟩ => rfl
    | ⟨1, _⟩ => rfl
  refine (congrArg (X0_0 m c t) ey).trans ((rows_apply m c t (y 0) (y 1) (by omega)).trans ?_)
  exact congrArg (argW m c) (congrArg₂ ix2 (Fin.ext (by blk_simp [e1])) (Fin.ext (by blk_simp [e0])))

/-- The second output: the last eight columns as rows, over zeros. -/
theorem output3_eq (c : Dev nD) :
    (dats m 0 c).arrAt 3 cfg0.N = fun i : S128x2048.Idx => gateRows (argW m c) (i 0) (i 1) := by
  refine (dats m 0 c).arrAt_eq_of_covers 3 _ (by decide +kernel) fun t _ y => ?_
  obtain ⟨e0, e1⟩ := index3 t
  blk_simp
  rw [after0_3]
  unfold outsAt0
  dsimp only
  have ey : (y : S128x2048.Idx) = ix2 (y 0) (y 1) := by
    funext a
    match a with
    | ⟨0, _⟩ => rfl
    | ⟨1, _⟩ => rfl
  refine (congrArg (out0_A_3 (F := Ideal) c (grid0.coords t) _ _ _ _ _ _ _ _ _ _) ey).trans ((out3_apply ..).trans ?_)
  refine Eq.trans ?_ (congrArg₂ (gateRows (argW m c)) (Fin.ext (by blk_simp [e0])) (Fin.ext (by blk_simp [e1])) :
    gateRows (argW m c) (y 0) (y 1) = _)
  exact dite_congr rfl (fun h => last_apply m c t ⟨(y 0).val, h⟩ (y 1)) fun _ => rfl

end Cert.CastWIdeal.Hand

namespace Cert.CastWRefIdeal.Hand

open Cert.CastWRefIdeal Cert.CastWRefIdeal.Gen Cert.CastWRefIdeal.Read Idealize.ShloMosaic Idealize.ShloMosaic.TcCoe Idealize.SL.Sem
open Cert.CastWIdeal.Hand (mainRows gateRows)

variable (w : Vec Ideal S2048x4104 .f32)

/-- The reference's first result. -/
theorem array_main : val_main_v4 (F := Ideal) w = fun i : S4096x2048.Idx => mainRows w (i 0) (i 1) := by
  funext i
  idx_vars i
  unfold mainRows
  pointwise [val_main_v4, val_main_v1, val_main_v0]

/-- The reference's second result. -/
theorem array_gate : val_main_v6 (F := Ideal) w = fun i : S128x2048.Idx => gateRows w (i 0) (i 1) := by
  funext i
  idx_vars i
  unfold gateRows
  pointwise [val_main_v6, val_main_v5, val_main_v3, val_main_v2, val_main_call0_v0, val_main_c]
  have h0 : FloatOps.sitofp (F := Ideal) .f32 0#32 = 0 := by
    show (((0#32).toInt : ℝ) : EReal) = 0
    norm_num
  rw [h0]

end Cert.CastWRefIdeal.Hand

end
-- ==== Proof.Prefix.lean ====
/- Running sums over the extended reals: a sum up to a place, a block after the blocks before it, the three parts that a value is
   split into, and the host's window sum along the rows of a matrix. -/
module

public import proofs.«01_k».proof.Proof.AttnSRef
public import Idealize.ShloMosaic.Lib.Routing.Ops
public import Idealize.ShloMosaic.Lib.WordCmp
public import Idealize.ShloMosaic.PureOps.Ideal

@[expose] public section

noncomputable section

namespace Cert.Prefix

open Idealize.ShloMosaic Idealize.ShloMosaic.Routing

/-- Entry `s` of a row, and zero past its end. -/
def entry {N : ℕ} (f : Fin N → EReal) (s : ℕ) : EReal := if h : s < N then f ⟨s, h⟩ else 0

/-- The sum of a row's entries up to and including `c`. -/
def upTo {N : ℕ} (f : Fin N → EReal) (c : ℕ) : EReal := ∑ s ∈ Finset.range (c + 1), entry f s

/-- What a value, what is lost by its cast and what is lost by the cast of that add up to: the value, if it is not plus infinity. -/
theorem parts (x : EReal) (h : x ≠ ⊤) : x + (x - x) + (x - x - (x - x)) = x := by
  induction x with
  | bot => rfl
  | top => exact absurd rfl h
  | coe x => rw [← EReal.coe_sub, ← EReal.coe_sub, ← EReal.coe_add, ← EReal.coe_add]; congr 1; ring

/-- The word of a comparison of two places, as a number. -/
theorem below (j l : Fin 128) :
    (FloatOps.sitofp FTy.f32 (BitVec.setWidth 32 (IntOp.cmpi CmpIPredicate.sle (BitVec.ofNat 32 j.val) (BitVec.ofNat 32 l.val))) : Ideal .f32)
      = if j.val ≤ l.val then (1 : EReal) else 0 := by
  rw [WordCmp.cmpi_sle_ofNat (by omega) (by omega)]
  by_cases h : j.val ≤ l.val
  · rw [if_pos h]
    simp [h, FloatOps.sitofp]
  · rw [if_neg h]
    simp [h, FloatOps.sitofp]

/-- The three products with the triangle of ones: the running sums of a row without plus infinity. -/
theorem triangle (x : Fin 128 → EReal) (h : ∀ j, x j ≠ ⊤) (l : Fin 128) :
    (∑ j, x j * (if j.val ≤ l.val then (1 : EReal) else 0)) + (∑ j, (x j - x j) * (if j.val ≤ l.val then (1 : EReal) else 0))
        + ∑ j, (x j - x j - (x j - x j)) * (if j.val ≤ l.val then (1 : EReal) else 0)
      = upTo x l.val := by
  rw [← Finset.sum_add_distrib, ← Finset.sum_add_distrib]
  have e : ∀ j : Fin 128, x j * (if j.val ≤ l.val then (1 : EReal) else 0) + (x j - x j) * (if j.val ≤ l.val then (1 : EReal) else 0)
      + (x j - x j - (x j - x j)) * (if j.val ≤ l.val then (1 : EReal) else 0)
      = (fun s : ℕ => if s ≤ l.val then entry x s else 0) j.val := by
    intro j
    dsimp only
    by_cases hj : j.val ≤ l.val
    · rw [if_pos hj, if_pos hj, mul_one, mul_one, mul_one, parts _ (h j)]
      exact (dif_pos (c := j.val < 128) (t := fun h => x ⟨j.val, h⟩) j.isLt).symm
    · rw [if_neg hj, if_neg hj, mul_zero, mul_zero, mul_zero, add_zero, add_zero]
  rw [Finset.sum_congr rfl fun j _ => e j, Fin.sum_univ_eq_sum_range (fun s : ℕ => if s ≤ l.val then entry x s else 0) 128,
    ← Finset.sum_filter]
  refine Finset.sum_congr (Finset.ext fun n => ?_) fun _ _ => rfl
  rw [Finset.mem_filter, Finset.mem_range, Finset.mem_range]
  omega

/-- A sum up to a place is the sum before its block and the sum inside the block. -/
theorem upTo_block {N : ℕ} (f : Fin N → EReal) (k : ℕ) (hk : (k + 1) * 128 ≤ N) (x : Fin 128 → EReal)
    (hx : ∀ j : Fin 128, x j = f ⟨k * 128 + j.val, by omega⟩) (l : Fin 128) :
    upTo x l.val + (∑ s ∈ Finset.range (k * 128), entry f s) = upTo f (k * 128 + l.val) := by
  unfold upTo
  rw [show k * 128 + l.val + 1 = k * 128 + (l.val + 1) by omega, Finset.sum_range_add (entry f) (k * 128) (l.val + 1), add_comm]
  refine congrArg ((∑ s ∈ Finset.range (k * 128), entry f s) + ·) (Finset.sum_congr (M := EReal) rfl fun s hs => ?_)
  have hs : s < 128 := by have := Finset.mem_range.1 hs; omega
  unfold entry
  rw [dif_pos hs, dif_pos (by omega), hx]

/-- A left fold that adds a value at each place adds the values' sum. -/
theorem foldl_add {M : ℕ} (g : Fin M → EReal) (step : EReal → Fin M → EReal) (hs : ∀ r n, step r n = r + g n) :
    (List.finRange M).foldl step 0 = ∑ n, g n := by
  have h : ∀ (L : List (Fin M)) (v : EReal), L.foldl step v = v + (L.map g).sum := by
    intro L
    induction L with
    | nil => intro v; simp
    | cons a L ih => intro v; rw [List.foldl_cons, ih, hs, List.map_cons, List.sum_cons, add_assoc]
  rw [h, zero_add, ← List.ofFn_eq_map, List.sum_ofFn]

/-- The host's running sum along the rows of a matrix, which prints as a window sum over the padded rows. -/
theorem window {A N Nm1 : ℕ} (hN : Nm1 + 1 = N) (x : (shape2 A N).Idx → EReal)
    (h : (shape2 A N).ReduceWindows (![1, N] : Fin 2 → ℕ) ![1, 1] ![0, Nm1] ![0, 0] (shape2 A N)) (r : Fin A) (c : Fin N) :
    Ideal.hostReduceWindowAdd (s := shape2 A N) (t := shape2 A N) ![1, N] ![1, 1] ![0, Nm1] ![0, 0] h x 0 (ix2 r c)
      = upTo (fun s => x (ix2 r s)) c.val := by
  subst hN
  have hc := c.isLt
  have hr := r.isLt
  unfold Ideal.hostReduceWindowAdd Host.reduceWindow
  refine (foldl_add (fun n => (fun w : ℕ => if Nm1 ≤ c.val + w then entry (fun s => x (ix2 r s)) (c.val + w - Nm1) else 0) n.val) _
    (fun v n => congrArg (v + ·) ?_)).trans ?_
  · have hw0 : ((shape2 1 (Nm1 + 1)).rowMajor.symm n 0).val = 0 := by rw [symm2]; rfl
    have hw : ((shape2 1 (Nm1 + 1)).rowMajor.symm n 1).val = n.val := by rw [symm2]; rfl
    have hn : n.val < Nm1 + 1 := (n.cast (numel2 _)).isLt
    dsimp only
    split
    · next hin =>
      have h1 := hin 1
      change Nm1 ≤ c.val * 1 + ((shape2 1 (Nm1 + 1)).rowMajor.symm n 1).val
        ∧ c.val * 1 + ((shape2 1 (Nm1 + 1)).rowMajor.symm n 1).val - Nm1 < Nm1 + 1 at h1
      rw [hw] at h1
      rw [if_pos (by omega)]
      unfold entry
      rw [dif_pos (by omega)]
      refine congrArg x (funext fun a => Fin.ext ?_)
      match a with
      | ⟨0, _⟩ =>
        show r.val * 1 + ((shape2 1 (Nm1 + 1)).rowMajor.symm n 0).val - 0 = r.val
        rw [hw0]; omega
      | ⟨1, _⟩ =>
        show c.val * 1 + ((shape2 1 (Nm1 + 1)).rowMajor.symm n 1).val - Nm1 = c.val + n.val - Nm1
        rw [hw, Nat.mul_one]
    · next hin =>
      rw [if_neg fun hle => hin fun a => by
        match a with
        | ⟨0, _⟩ =>
          show 0 ≤ r.val * 1 + ((shape2 1 (Nm1 + 1)).rowMajor.symm n 0).val
            ∧ r.val * 1 + ((shape2 1 (Nm1 + 1)).rowMajor.symm n 0).val - 0 < A
          rw [hw0]
          omega
        | ⟨1, _⟩ =>
          show Nm1 ≤ c.val * 1 + ((shape2 1 (Nm1 + 1)).rowMajor.symm n 1).val
            ∧ c.val * 1 + ((shape2 1 (Nm1 + 1)).rowMajor.symm n 1).val - Nm1 < Nm1 + 1
          rw [hw]
          omega]
  · rw [Fin.sum_univ_eq_sum_range (fun w : ℕ => if Nm1 ≤ c.val + w then entry (fun s => x (ix2 r s)) (c.val + w - Nm1) else 0)]
    refine (congrArg (fun M => ∑ w ∈ Finset.range M, if Nm1 ≤ c.val + w then entry (fun s => x (ix2 r s)) (c.val + w - Nm1) else 0)
      (numel2 (Nm1 + 1))).trans ?_
    unfold upTo
    obtain ⟨d, hd⟩ : ∃ d, Nm1 + 1 = d + (c.val + 1) := ⟨Nm1 - c.val, by omega⟩
    refine (congrArg (fun M => ∑ w ∈ Finset.range M, if Nm1 ≤ c.val + w then entry (fun s => x (ix2 r s)) (c.val + w - Nm1) else 0) hd).trans ?_
    rw [Finset.sum_range_add, Finset.sum_eq_zero fun w hw => if_neg (by have := Finset.mem_range.1 hw; omega), zero_add]
    refine Finset.sum_congr rfl fun w _ => ?_
    rw [if_pos (by omega), show c.val + (d + w) - Nm1 = w by omega]

/-- Dividing by the logarithm of two is multiplying with its inverse. -/
theorem div_log_two (a : EReal) :
    Ideal.div a (Ideal.log (Ideal.ofBits .f32 0x40000000#32)) = a * (((Real.log 2)⁻¹ : ℝ) : EReal) := by
  have h2 : Real.log 2 ≠ 0 := (Real.log_pos (by norm_num)).ne'
  rw [Cert.AttnSRefIdeal.Hand.bits_two, Ideal.log_coe, if_neg (by norm_num), Ideal.div_coe h2, one_div]

end Cert.Prefix

end
-- ==== Proof.CumSValue.lean ====
/- The running sums of the log forget gates at the sample's rows: what the kernel and the reference compute. -/
module

public import proofs.«01_k».proof.Proof.Prefix
public import proofs.«01_k».proof.Proof.Finite
public import proofs.«01_k».proof.Proof.Gen.CumSIdeal.Value
public import proofs.«01_k».proof.Proof.Gen.CumSRefIdeal.Run
public import proofs.«01_k».proof.Proof.Gen.CumSRefIdeal.Read
public import proofs.«01_k».proof.Proof.Gen.Pre_gates_below_infinity
public import Idealize.ShloMosaic.Lib.Pointwise

@[expose] public section

set_option maxRecDepth 16384

noncomputable section

namespace Cert.CumSIdeal.Hand

open Cert.CumSIdeal Cert.CumSIdeal.Gen Idealize.ShloMosaic Idealize.ShloMosaic.TcCoe Idealize.SL.Sem
open Cert.Prefix

/-- The running sums inside a block of 128 columns, from what the blocks before it sum to. -/
def block (carry : FVec Ideal S256x1 .f32) (x : Vec Ideal S256x128 .f32) : FVec Ideal S256x128 .f32 :=
  have hi : FVec Ideal S256x128 .bf16 := truncf .bf16 x bitsLt_bf16_f32
  have rest : FVec Ideal S256x128 .f32 := subf x (extf .f32 hi bitsLt_bf16_f32)
  have mid : FVec Ideal S256x128 .bf16 := truncf .bf16 rest bitsLt_bf16_f32
  have low : FVec Ideal S256x128 .bf16 := truncf .bf16 (subf rest (extf .f32 mid bitsLt_bf16_f32)) bitsLt_bf16_f32
  have zero : FVec Ideal S256x128 .f32 := constant S256x128 .f32 0x00000000#32
  have u : FVec Ideal S128x128 .bf16 := k0_pay1 (F := Ideal)
  addf (addf (addf (matmul dot_S256x128_S128x128_S256x128_1_0_0_1_n_n none hi u zero)
    (matmul dot_S256x128_S128x128_S256x128_1_0_0_1_n_n none mid u zero))
    (matmul dot_S256x128_S128x128_S256x128_1_0_0_1_n_n none low u zero))
    (broadcastTo S256x128 carry broadcasts_S256x1_S256x128)

/-- The last column of a block. -/
def last (s : FVec Ideal S256x128 .f32) : FVec Ideal S256x1 .f32 :=
  extractStridedSlice S256x1 ![0, 127] s slices_S256x128_o0_127_S256x1

theorem col_inb (n : ℕ) (h : n < 17) : ∀ a, (![0, n * 128] : Fin 2 → ℕ) a + S256x128.size a ≤ S256x2176.size a := fun a => by
  match a with
  | ⟨0, _⟩ => show 0 + 256 ≤ 256; omega
  | ⟨1, _⟩ => show n * 128 + 128 ≤ 2176; omega

/-- The place of block `n`. -/
abbrev place (n : ℕ) (h : n < 17) : Rect S256x2176 := Rect.unit (s := S256x2176) ![0, n * 128] S256x128.size (col_inb n h)

/-- The running sums in block `n`. -/
def sums (a : Vec Ideal S256x2176 .f32) : (n : ℕ) → n < 17 → FVec Ideal S256x128 .f32
  | 0, h => block (broadcast S256x1 (Scalar.ofBits .f32 0x00000000#32)) (View.ld a (place 0 h))
  | n + 1, h => block (last (sums a n (Nat.lt_of_succ_lt h))) (View.ld a (place (n + 1) h))

/-- Store `n`: the sums of block `n`, in units of log 2. -/
def stored (a : Vec Ideal S256x2176 .f32) (n : ℕ) (h : n < 17) : View.Piece (Elt Ideal) S256x2176 .f32 :=
  ⟨place n h, (mulf (sums a n h) (broadcast S256x128 (Named.named κ "unit" 0x3FB8AA3B#32)) : FVec Ideal S256x128 .f32)⟩

/-- The first `n` stores, the last one first. -/
def stores (a : Vec Ideal S256x2176 .f32) : (n : ℕ) → n ≤ 17 → List (View.Piece (Elt Ideal) S256x2176 .f32)
  | 0, _ => []
  | n + 1, h => stored a n h :: stores a n (Nat.le_of_succ_le h)

/-- What the kernel writes are these stores. -/
theorem stores_eq (a : Vec Ideal S256x2176 .f32) : Value.G1 a = View.canon (stores a 17 le_rfl) := rfl

theorem mem_stores (a : Vec Ideal S256x2176 .f32) (pc : View.Piece (Elt Ideal) S256x2176 .f32) :
    ∀ (n : ℕ) (h : n ≤ 17), pc ∈ stores a n h → ∃ k hk, pc = stored a k hk
  | 0, _, hpc => nomatch hpc
  | n + 1, h, hpc => by
    rcases List.mem_cons.mp hpc with rfl | hpc
    · exact ⟨n, h, rfl⟩
    · exact mem_stores a pc n _ hpc

theorem stores_mem (a : Vec Ideal S256x2176 .f32) (k : ℕ) (hk : k < 17) :
    ∀ (n : ℕ) (h : n ≤ 17), k < n → stored a k hk ∈ stores a n h
  | n + 1, h, hkn => by
    rcases Nat.lt_succ_iff_lt_or_eq.mp hkn with hlt | rfl
    · exact List.mem_cons_of_mem _ (stores_mem a k hk n _ hlt)
    · exact List.mem_cons_self

/-- The triangle of ones. -/
theorem upper_apply (j l : Fin 128) : k0_pay1 (F := Ideal) (ix2 j l) = if j.val ≤ l.val then (1 : EReal) else 0 := by
  pointwise [k0_pay1]
  exact below j l

/-- A block at an element: the sum inside the row up to it, and what came before. -/
theorem block_apply (carry : FVec Ideal S256x1 .f32) (x : Vec Ideal S256x128 .f32) (r : Fin 256)
    (hx : ∀ j : Fin 128, x (ix2 r j) ≠ (⊤ : EReal)) (l : Fin 128) :
    block carry x (ix2 r l) = upTo (fun j : Fin 128 => (x (ix2 r j) : EReal)) l.val + carry (ix2 r 0) := by
  rw [← triangle (fun j => x (ix2 r j)) hx l]
  have hu := fun j => upper_apply j l
  unfold block
  generalize k0_pay1 (F := Ideal) = u at hu ⊢
  pointwise []
  simp only [hu]

theorem last_apply (s : FVec Ideal S256x128 .f32) (r : Fin 256) : last s (ix2 r 0) = s (ix2 r (127 : Fin 128)) := by
  pointwise [last]

/-- A block's columns of the argument. -/
theorem ld_apply (a : Vec Ideal S256x2176 .f32) (n : ℕ) (h : n < 17) (r : Fin 256) (j : Fin 128) :
    View.ld a (place n h) (ix2 r j) = a (ix2 r (⟨n * 128 + j.val, by omega⟩ : Fin 2176)) := by
  show a _ = a _
  congr 1
  funext b
  apply Fin.ext
  match b with
  | ⟨0, _⟩ => show 0 + 1 * r.val = r.val; omega
  | ⟨1, _⟩ => show n * 128 + 1 * j.val = n * 128 + j.val; omega

variable (a : Vec Ideal S256x2176 .f32)

/-- Row `r` of the argument. -/
abbrev row (r : Fin 256) : Fin 2176 → EReal := fun s => a (ix2 r s)

/-- Each block holds the sums from the row's start. -/
theorem sums_apply (r : Fin 256) (ha : ∀ s, row a r s ≠ ⊤) (n : ℕ) (h : n < 17) (l : Fin 128) :
    sums a n h (ix2 r l) = upTo (row a r) (n * 128 + l.val) := by
  have hx : ∀ j : Fin 128, View.ld a (place n h) (ix2 r j) ≠ (⊤ : EReal) := fun j => by rw [ld_apply]; exact ha _
  have hb := upTo_block (row a r) n (by omega) (fun j : Fin 128 => View.ld a (place n h) (ix2 r j)) (ld_apply a n h r) l
  induction n generalizing l with
  | zero =>
    refine (block_apply _ _ r hx l).trans (Eq.trans (congrArg _ ?_) hb)
    pointwise []
    exact (Finset.sum_range_zero _).symm
  | succ n ih =>
    refine (block_apply _ _ r hx l).trans (Eq.trans (congrArg _ ?_) hb)
    rw [last_apply, ih (Nat.lt_of_succ_lt h) (127 : Fin 128)]
    · unfold upTo
      rw [show n * 128 + (127 : Fin 128).val + 1 = (n + 1) * 128 by show n * 128 + 127 + 1 = _; omega]
    · intro j; rw [ld_apply]; exact ha _
    · exact upTo_block (row a r) n (by omega) _ (ld_apply a n _ r) _

/-- The running sums in units of log 2. -/
def running (i : S256x2176.Idx) : EReal := upTo (row a (i 0)) (i 1).val * (((Real.log 2)⁻¹ : ℝ) : EReal)

/-- Each store writes a block of them. -/
theorem stored_eq (ha : ∀ r s, row a r s ≠ ⊤) (n : ℕ) (h : n < 17) (x : (stored a n h).1.shape.Idx) :
    (stored a n h).2 x = running a ((stored a n h).1.emb x) := by
  have ex : (x : S256x128.Idx) = ix2 (x 0) (x 1) := by
    funext b
    match b with
    | ⟨0, _⟩ => rfl
    | ⟨1, _⟩ => rfl
  have e0 : (stored a n h).1.emb x 0 = x 0 := Fin.ext (show 0 + 1 * (x 0).val = (x 0).val by omega)
  have e1 : ((stored a n h).1.emb x 1).val = n * 128 + (x 1).val := show n * 128 + 1 * (x 1).val = _ by omega
  have hs : sums a n h x = upTo (row a (x 0)) (n * 128 + (x 1).val) :=
    (congrArg (sums a n h) ex).trans (sums_apply a (x 0) (ha _) n h (x 1))
  unfold running
  rw [e0, e1, ← hs]
  exact congrArg (sums a n h x * ·) (IdealRules.named_const.ideal_named_scalar _ _ _ _ rfl)

/-- What the kernel leaves: the running sums. -/
theorem array_eq (ha : ∀ r s, row a r s ≠ ⊤) : Value.G1 a = running a := by
  rw [stores_eq]
  funext y
  have h0 : (y 0).val < 256 := (y 0).isLt
  have h1 : (y 1).val < 2176 := (y 1).isLt
  have hk : (y 1).val / 128 < 17 := by omega
  refine View.canon_apply_of_pieces (Val := Elt Ideal) (running a) _ ?_ _ ⟨_, stores_mem a ((y 1).val / 128) hk 17 le_rfl hk, ?_⟩
  · intro pc hpc
    obtain ⟨k, hk, rfl⟩ := mem_stores a pc 17 le_rfl hpc
    exact stored_eq a ha k hk
  · rw [LoadRect.mem_set]
    intro b
    match b with
    | ⟨0, _⟩ =>
      refine ⟨(y 0).val, h0, ?_⟩
      show (y 0).val = 0 + 1 * (y 0).val
      omega
    | ⟨1, _⟩ =>
      refine ⟨(y 1).val % 128, Nat.mod_lt _ (by omega), ?_⟩
      show (y 1).val = (y 1).val / 128 * 128 + 1 * ((y 1).val % 128)
      omega

/-- The precondition says that no entry is plus infinity. -/
theorem entries_below (h : Cert.Pre_gates_below_infinity.fn (F := Ideal) a = fun _ => 1#1) (r : Fin 256) (s : Fin 2176) : row a r s ≠ ⊤ := by
  have e := congrFun h (ix2 r s)
  have e' : Ideal.cmp .olt (a (ix2 r s)) (Ideal.ofBits .f32 0x7F800000#32) = 1#1 := e
  rw [Cert.Finite.bits_inf] at e'
  intro ht
  rw [show a (ix2 r s) = ⊤ from ht] at e'
  simp [Ideal.cmp] at e'

end Cert.CumSIdeal.Hand

namespace Cert.CumSRefIdeal.Hand

open Cert.CumSRefIdeal Cert.CumSRefIdeal.Gen Cert.CumSRefIdeal.Read Idealize.ShloMosaic Idealize.ShloMosaic.TcCoe Idealize.SL.Sem
open Cert.Prefix

/-- What the reference computes: the running sums. -/
theorem array_eq (a : Vec Ideal S256x2176 .f32) : val_main_v3 (F := Ideal) a = Cert.CumSIdeal.Hand.running a := by
  funext i
  obtain ⟨r, c, rfl⟩ : ∃ (r : Fin 256) (c : Fin 2176), i = ix2 r c := ⟨i 0, i 1, by
    funext b
    match b with
    | ⟨0, _⟩ => rfl
    | ⟨1, _⟩ => rfl⟩
  rw [val_main_v3_apply, val_main_v2_apply, val_main_v1_apply]
  have hz : val_main_call0_call0_v0 (F := Ideal) (Shape.Idx.first h_S_) = (0 : EReal) := by
    rw [val_main_call0_call0_v0_apply, val_main_call0_call0_cst_apply]
    exact Ideal.ofBits_zero _
  have hw : val_main_v0 (F := Ideal) a (ix2 r c) = upTo (fun s => a (ix2 r s)) c.val := by
    unfold val_main_v0 Host.reduceWindowAdd
    rw [hz]
    exact window (Nm1 := 2175) rfl a _ r c
  rw [hw]
  exact div_log_two _

end Cert.CumSRefIdeal.Hand

end
-- ==== Proof.AttnPIdealFrame.lean ====
/- The frame of the prompt's attention at the ideal instance: every read of the table of first blocks gives zero, so the inner loop of query
   block `k` makes `k` trips; the body's run then gives the obligation at a grid point, and the launch the frame. -/
module

public import proofs.«01_k».proof.Defs
public import proofs.«01_k».proof.Proof.Gen.AttnPIdeal.Flash.Cfg
public import proofs.«01_k».proof.Proof.Gen.AttnPIdeal.Flash.Runs
public import proofs.«01_k».proof.Proof.Gen.Pre_attn_prompt_from_start
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.AttnPIdeal.Hand

open Cert.AttnPIdeal Cert.AttnPIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- The resources that the run is stated over. -/
abbrev Res := MT nD τ sig Unit (Elt Ideal) ℕ (UR sig nD τ) ℕ

/-- The pipeline at the table of zeros. -/
abbrev pipe : Pipeline.Cfg sig Λ₀ := cfgA 0

variable (m : (ℓ : Loc nD τ sig) → Buf (Elt Ideal) ℓ) (ρ : Dev nD → PrngReg)

/-! ## What the body reads of the table -/

/-- The first live pair that query block `k` reads at grid point `i`. -/
abbrev first (i : grid0.Coords) (k : Fin k0_t1_loop.trips) : BitVec 32 :=
  View.readAt (Elt Ideal) (tbM0_0).view (Rect.unit (s := S128) (k0_off2 i k) S1.size (k0_off2_inb i k)).toLoadRect (pinT_0 0)
    (Shape.Idx.first (numel1_S1.symm ▸ Nat.one_pos))

/-- An entry of a list of zeros is zero. -/
theorem entry_zero (l : List (BitVec 32)) (h : l.all (fun w => w == 0#32) = true) (n : ℕ) : l.getD n 0#32 = 0#32 := by
  induction l generalizing n with
  | nil => rfl
  | cons w l ih =>
    rw [List.all_cons, Bool.and_eq_true] at h
    cases n with
    | zero => exact eq_of_beq h.1
    | succ n => exact ih h.2 n

theorem table_zero : pinT_0 0 = fun _ => 0#32 := funext fun x => entry_zero _ (by decide +kernel) (x 0).val

theorem first_zero (i : grid0.Coords) (k : Fin k0_t1_loop.trips) : first i k = 0#32 := by
  unfold first
  rw [table_zero]
  rfl

/-- The pair read is inside the keys, -/
theorem first_ok (i : grid0.Coords) (k : Fin k0_t1_loop.trips) : k0_chk1 k (first i k) := by
  rw [first_zero]
  revert k
  decide +kernel

/-- the loop over pairs of key blocks makes as many trips as there are query blocks before this one, -/
theorem pairs (i : grid0.Coords) (k : Fin k0_t1_loop.trips) : (k0_t2_loop k (first i k)).trips = k.val := by
  rw [first_zero]
  revert k
  decide +kernel

/-- and its remainder none. -/
theorem rest (i : grid0.Coords) (k : Fin k0_t1_loop.trips) : (k0_t3_loop k (first i k)).trips = 0 := by
  rw [first_zero]
  revert k
  decide +kernel

/-- The number of query block `k`. -/
abbrev qb (k : ℕ) (h : k < 8 := by decide) : Fin k0_t1_loop.trips := ⟨k, h⟩

/-! ## The body at a grid point -/

/-- The body's run at point `t`, from the inputs' blocks there. -/
def runAt (c : Dev nD) (t : Fin pipe.N) :=
  kernelRun0_A c (crd 0 t) (ms0_0 0 t) (hs0_0 0 t) (ms0_1 0 t) (hs0_1 0 t) (ms0_2 0 t) (hs0_2 0 t) (ms0_3 0 t) (hs0_3 0 t) (ms0_4 0 t) (hs0_4 0 t)
    (ms0_5 0 t) (hs0_5 0 t) (pinT_0 0) (iblk 0 m ρ c (0 : Fin 6) t) (iblk 0 m ρ c (1 : Fin 6) t) (iblk 0 m ρ c (2 : Fin 6) t)
    (iblk 0 m ρ c (3 : Fin 6) t) (iblk 0 m ρ c (4 : Fin 6) t)
    (first_ok _ (qb 0)) (pairs _ (qb 0)) (rest _ (qb 0))
    (first_ok _ (qb 1)) (pairs _ (qb 1)) (rest _ (qb 1))
    (first_ok _ (qb 2)) (pairs _ (qb 2)) (rest _ (qb 2))
    (first_ok _ (qb 3)) (pairs _ (qb 3)) (rest _ (qb 3))
    (first_ok _ (qb 4)) (pairs _ (qb 4)) (rest _ (qb 4))
    (first_ok _ (qb 5)) (pairs _ (qb 5)) (rest _ (qb 5))
    (first_ok _ (qb 6)) (pairs _ (qb 6)) (rest _ (qb 6))
    (first_ok _ (qb 7)) (pairs _ (qb 7)) (rest _ (qb 7))

/-- The run's stores fill the output's block. -/
theorem covered (c : Dev nD) (t : Fin pipe.N) (y : S8192x128.Idx) : ∃ pc ∈ (runAt m ρ c t).1, y ∈ pc.1.set := by
  unfold runAt
  exact cover0_A_5 c _ _ _ _ _ _ _ _ _ _ _ _ _ _ _ _ _ _ _ _ _ _ _ _ _ _ _ _ _ _ _ _ _ _ _ _ _ _ _ _ _ _ _ y

/-- The block of results that the run leaves. -/
def outAt (c : Dev nD) (t : Fin pipe.N) : S8192x128.Idx → Elt Ideal .f32 :=
  VO0_5.read (Elt Ideal) (VO0_5.writes (Elt Ideal) VO0_5.junk (runAt m ρ c t).1)

/-- Read through any view, the run's stores over any contents give that block. -/
theorem read_stores (c : Dev nD) (t : Fin pipe.N) (v : View sig .tc .vmem S8192x128 .f32) (f : v.ty.Contents (Elt Ideal)) :
    v.read (Elt Ideal) (v.writes (Elt Ideal) f (runAt m ρ c t).1) = outAt m ρ c t :=
  View.read_writes_of_cover _ _ _ _ _ (covered m ρ c t)

attribute [irreducible] outAt

/-- Between grid points: the scratch buffers at any contents, and the body's half of the table. -/
def between (c : Dev nD) : sProp Res :=
  iprop((∃ a, (scM0_0.view.loc (c : Thread nD τ) ↦{fullShare} a)) ∗ (∃ a, (scM0_1.view.loc (c : Thread nD τ) ↦{fullShare} a))
    ∗ (∃ a, (scM0_2.view.loc (c : Thread nD τ) ↦{fullShare} a)) ∗ (∃ a, (scM0_3.view.loc (c : Thread nD τ) ↦{fullShare} a))
    ∗ (∃ a, (scM0_4.view.loc (c : Thread nD τ) ↦{fullShare} a)) ∗ (tbM0_0.view.loc (c : Thread nD τ) ↦{fullShare.right} pinT_0 0))

/-- What each window's buffer holds after the body at a point: an input its block, the output the run's block. -/
def dats (_ : Fin 1) (c : Dev nD) : Dat τ (Elt Ideal) Unit ℕ (UR sig nD τ) ℕ pipe c where
  A w := (s₀ m ρ).mem ((pipe.win w).arr.view.loc (c : Thread nD τ))
  after w t := match w with
    | ⟨0, _⟩ => iblk 0 m ρ c (0 : Fin 6) t
    | ⟨1, _⟩ => iblk 0 m ρ c (1 : Fin 6) t
    | ⟨2, _⟩ => iblk 0 m ρ c (2 : Fin 6) t
    | ⟨3, _⟩ => iblk 0 m ρ c (3 : Fin 6) t
    | ⟨4, _⟩ => iblk 0 m ρ c (4 : Fin 6) t
    | ⟨5, _⟩ => outAt m ρ c t
  Φ _ := between c
  q _ := fullShare
  owed _ := 0

theorem after0 (c : Dev nD) (t : Fin pipe.N) : (dats m ρ 0 c).after (0 : Fin 6) t = iblk 0 m ρ c (0 : Fin 6) t := rfl
theorem after1 (c : Dev nD) (t : Fin pipe.N) : (dats m ρ 0 c).after (1 : Fin 6) t = iblk 0 m ρ c (1 : Fin 6) t := rfl
theorem after2 (c : Dev nD) (t : Fin pipe.N) : (dats m ρ 0 c).after (2 : Fin 6) t = iblk 0 m ρ c (2 : Fin 6) t := rfl
theorem after3 (c : Dev nD) (t : Fin pipe.N) : (dats m ρ 0 c).after (3 : Fin 6) t = iblk 0 m ρ c (3 : Fin 6) t := rfl
theorem after4 (c : Dev nD) (t : Fin pipe.N) : (dats m ρ 0 c).after (4 : Fin 6) t = iblk 0 m ρ c (4 : Fin 6) t := rfl
theorem after5 (c : Dev nD) (t : Fin pipe.N) : (dats m ρ 0 c).after (5 : Fin 6) t = outAt m ρ c t := rfl

/-! An input's buffer holds its block when the body runs. -/

theorem before0 (c : Dev nD) (t : Fin pipe.N) (d) : (dats m ρ 0 c).before (0 : Fin 6) t d = iblk 0 m ρ c (0 : Fin 6) t :=
  ((dats m ρ 0 c).before_in_eq_fetched (0 : Fin 6) rfl (fun _ => rfl) (fun _ _ _ => rfl)
    (fun t => by rw [after0]; unfold Dat.blockOf iblk; rfl) t d).trans (by unfold Dat.fetched Dat.blockOf iblk; rfl)

theorem before1 (c : Dev nD) (t : Fin pipe.N) (d) : (dats m ρ 0 c).before (1 : Fin 6) t d = iblk 0 m ρ c (1 : Fin 6) t :=
  ((dats m ρ 0 c).before_in_eq_fetched (1 : Fin 6) rfl (fun _ => rfl) (fun _ _ _ => rfl)
    (fun t => by rw [after1]; unfold Dat.blockOf iblk; rfl) t d).trans (by unfold Dat.fetched Dat.blockOf iblk; rfl)

theorem before2 (c : Dev nD) (t : Fin pipe.N) (d) : (dats m ρ 0 c).before (2 : Fin 6) t d = iblk 0 m ρ c (2 : Fin 6) t :=
  ((dats m ρ 0 c).before_in_eq_fetched (2 : Fin 6) rfl (fun _ => rfl) (fun _ _ _ => rfl)
    (fun t => by rw [after2]; unfold Dat.blockOf iblk; rfl) t d).trans (by unfold Dat.fetched Dat.blockOf iblk; rfl)

theorem before3 (c : Dev nD) (t : Fin pipe.N) (d) : (dats m ρ 0 c).before (3 : Fin 6) t d = iblk 0 m ρ c (3 : Fin 6) t :=
  ((dats m ρ 0 c).before_in_eq_fetched (3 : Fin 6) rfl (fun _ => rfl) (fun _ _ _ => rfl)
    (fun t => by rw [after3]; unfold Dat.blockOf iblk; rfl) t d).trans (by unfold Dat.fetched Dat.blockOf iblk; rfl)

theorem before4 (c : Dev nD) (t : Fin pipe.N) (d) : (dats m ρ 0 c).before (4 : Fin 6) t d = iblk 0 m ρ c (4 : Fin 6) t :=
  ((dats m ρ 0 c).before_in_eq_fetched (4 : Fin 6) rfl (fun _ => rfl) (fun _ _ _ => rfl)
    (fun t => by rw [after4]; unfold Dat.blockOf iblk; rfl) t d).trans (by unfold Dat.fetched Dat.blockOf iblk; rfl)

/-- The body writes the output's block at every point. -/
theorem live5 : ∀ t : Fin pipe.N, pipe.idle (5 : Fin 6) (pipe.grid.coords t) = false := by decide +kernel

/-- The body at point `t` on the buffers that the pipeline hands it. -/
abbrev bodyAt (t : Fin pipe.N) : Prog (TpuEff nD τ sig (Elt Ideal) Λ₀ .tc) PUnit :=
  cc0_attn_prompt (crd 0 t) (Memref.whole main_arg0) (Memref.isWhole_whole _) (ms0_0 0 t) (hs0_0 0 t) (ms0_1 0 t) (hs0_1 0 t)
    (ms0_2 0 t) (hs0_2 0 t) (ms0_3 0 t) (hs0_3 0 t) (ms0_4 0 t) (hs0_4 0 t) (ms0_5 0 t) (hs0_5 0 t) (Memref.whole cc0_scratch0)
    (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)

set_option maxHeartbeats 4000000 in
/-- The body at a point: from the inputs' blocks to the run's block of results. -/
theorem body (c : Dev nD) (t : Fin pipe.N) :
    iprop((dats m ρ 0 c).Φ t.castSucc ∗ (dats m ρ 0 c).owesAt () t.castSucc
        ∗ (∃ d, owns (c : Thread nD τ) (ms0_0 0 t) fullShare ((dats m ρ 0 c).before (0 : Fin 6) t d))
        ∗ (∃ d, owns (c : Thread nD τ) (ms0_1 0 t) fullShare ((dats m ρ 0 c).before (1 : Fin 6) t d))
        ∗ (∃ d, owns (c : Thread nD τ) (ms0_2 0 t) fullShare ((dats m ρ 0 c).before (2 : Fin 6) t d))
        ∗ (∃ d, owns (c : Thread nD τ) (ms0_3 0 t) fullShare ((dats m ρ 0 c).before (3 : Fin 6) t d))
        ∗ (∃ d, owns (c : Thread nD τ) (ms0_4 0 t) fullShare ((dats m ρ 0 c).before (4 : Fin 6) t d))
        ∗ (∃ d, owns (c : Thread nD τ) (ms0_5 0 t) fullShare ((dats m ρ 0 c).before (5 : Fin 6) t d)))
      ⊢ wp frame (wpE (defs₀ (F := Ideal)) Variants.none c none) Set.univ (bodyAt t) fun _ =>
          iprop((dats m ρ 0 c).Φ t.succ ∗ (dats m ρ 0 c).owesAt () t.succ
            ∗ bigSep Finset.univ fun w : Fin pipe.W =>
                match pipe.idle w (pipe.grid.coords t) with
                | true =>
                  match (pipe.win w).flush t with
                  | false => iprop(∃ d, owns (c : Thread nD τ) ((pipe.win w).stage (pipe.slots t w)) fullShare ((dats m ρ 0 c).before w t d))
                  | true => owns (c : Thread nD τ) ((pipe.win w).stage (pipe.slots t w)) fullShare ((dats m ρ 0 c).after w t)
                | false => owns (c : Thread nD τ) ((pipe.win w).stage (pipe.slots t w)) fullShare ((dats m ρ 0 c).after w t)) := by
  rw [bigSep_W0, live5 t]
  simp only [before0, before1, before2, before3, before4, after0, after1, after2, after3, after4, after5]
  rewrite [show (dats m ρ 0 c).Φ t.succ = between c from rfl, show (dats m ρ 0 c).Φ t.castSucc = between c from rfl,
    show (dats m ρ 0 c).owesAt () t.succ = (dats m ρ 0 c).owesAt () t.castSucc from rfl]
  unfold between
  iintro ⟨⟨⟨%a0, HS0⟩, ⟨%a1, HS1⟩, ⟨%a2, HS2⟩, ⟨%a3, HS3⟩, ⟨%a4, HS4⟩, HT0⟩, Ho, ⟨%d0, H0⟩, ⟨%d1, H1⟩, ⟨%d2, H2⟩, ⟨%d3, H3⟩, ⟨%d4, H4⟩, ⟨%d5, H5⟩⟩
  iapply ((runAt m ρ c t).2.2.2.2.2.2 a0 a1 a2 a3 a4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, HT0, ⟨%e5, H5⟩, HS0, HS1, HS2, HS3, HS4⟩
  isplitl [HS0 HS1 HS2 HS3 HS4 HT0]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HT0
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  unfold owns; iexists _; isplitr; swap
  · iexact H5
  · ipureintro; exact read_stores m ρ c t _ _

theorem body_obligation (c : Dev nD) : BodyObligation (dats m ρ 0 c) (defs₀ (F := Ideal)) Variants.none () Set.univ := fun t => by
  rw [bigSep_W0]
  exact body m ρ c t

/-! ## The launch -/

/-- The launch's tokens of the pipeline. -/
def tokens : UR sig nD τ :=
  initOf (Pipeline.cells (pcs 0) ((launch0 (F := Ideal)).cellOf_inj fun _ => adm 0))
    (Pipeline.launchToks (pcs 0) ((launch0 (F := Ideal)).cellOf_inj fun _ => adm 0))

theorem share_eq (c : Dev nD) (w : Fin pipe.W) : (dats m ρ 0 c).share w = fullShare := by unfold Dat.share; split <;> rfl

/-- The table as the launch hands it to the region. -/
theorem table_held (c : Dev nD) (q : Fin 1 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0)) := by
  unfold Pipeline.prefHeld
  rw [show (Finset.univ : Finset (Fin 1)) = {(0 : Fin 1)} from by decide, bigSep_singleton]
  rfl

theorem enter (c : Dev nD) :
    iprop(BI.emp ∗ Pipeline.prefHeld pre0 c (fun _ => fullShare.right) (adm 0).1 ∗ Pipeline.scopedRest spec0 c) ⊢ (dats m ρ 0 c).Φ 0 := by
  rw [table_held, scopedRest0_eq, show (dats m ρ 0 c).Φ 0 = between c from rfl]
  unfold between
  iintro ⟨-, ⟨HT0⟩, HS0, HS1, HS2, HS3, HS4⟩
  isplitl [HS0]; · iexact HS0
  isplitl [HS1]; · iexact HS1
  isplitl [HS2]; · iexact HS2
  isplitl [HS3]; · iexact HS3
  isplitl [HS4]; · iexact HS4
  iexact HT0

theorem leave (c : Dev nD) : (dats m ρ 0 c).Φ (Fin.last pipe.N) ⊢ iprop(BI.emp ∗ Pipeline.scopedRest spec0 c) := by
  rw [scopedRest0_eq, show (dats m ρ 0 c).Φ (Fin.last pipe.N) = between c from rfl]
  unfold between
  iintro ⟨HS0, HS1, HS2, HS3, HS4, -⟩
  isplitr; · iempintro
  isplitl [HS0]; · iexact HS0
  isplitl [HS1]; · iexact HS1
  isplitl [HS2]; · iexact HS2
  isplitl [HS3]; · iexact HS3
  iexact HS4

/-- The launch memory's table is zero on every device. -/
def TableZero : Prop := ∀ c : Dev nD, m ((c : Thread nD τ).loc main_arg0) = pinT_0 0

theorem table_launch (hp : TableZero m) (c : Dev nD) (j : Fin 1) : m ((c : Thread nD τ).loc (pre0.ref j)) = (adm 0).1 j := by
  fin_cases j
  exact hp c

/-- Every array at what the pipeline computes, and the table as it was. -/
def Post : PUnit × MemSt nD τ sig (Elt Ideal) → Prop := fun r =>
  ∀ c : Dev nD, (∀ w : Fin pipe.W, r.2.mem ((pipe.win w).arr.view.loc (c : Thread nD τ)) = (dats m ρ 0 c).arrAt w pipe.N)
    ∧ ∀ j, r.2.mem ((c : Thread nD τ).loc (pre0.ref j)) = (adm 0).1 j

set_option backward.isDefEq.respectTransparency.types false in
set_option maxHeartbeats 4000000 in
/-- From a memory whose table is zero, the program ends with the arrays at what the pipeline computes and every counter at zero. -/
theorem run (hp : TableZero m) : θ_run (defs (F := Ideal)) (onTc (τ := τ) (main (F := Ideal))) (s₀ m ρ)
    (fun r => Post m ρ r ∧ r.2.sem = fun _ => 0) :=
  Pipeline.θ_run_region_noSem_pf_quiescent pcfgs (fun _ => adm 0) (dats m ρ) () ((launch0 (F := Ideal)).cellOf_inj fun _ => adm 0) (0 : Fin 1)
    (launch0 (F := Ideal)).win.to₀ (launch0 (F := Ideal)).pre emb₁ defs₀ Variants.none m ρ main
    (hbody := fun c => (body_obligation m ρ c).loose) (hne := (launch0 (F := Ideal)).block_pos)
    (harr := (launch0 (F := Ideal)).arr_whole) (hstage := (launch0 (F := Ideal)).stage_whole) (howed := fun _ _ => rfl)
    (u₀ := tokens) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs 0) (dats m ρ) 0 (launch0 (F := Ideal)).win.arr_inj c (launch0 (F := Ideal)).arr_whole
      (share_eq m ρ c) _ _ fun _ => rfl)
    (hpf := table_launch m hp)
    (X := fun _ => iprop(emp)) (Y := fun _ => iprop(emp)) (Z := fun _ => iprop(emp))
    (hX := fun c => by rw [unscopedRestP0_eq]; iintro -; isplitr <;> iempintro)
    (hin := enter m ρ)
    (hout := leave m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- A word that compares equal to zero is zero. -/
theorem word_zero_of_eq (w : BitVec 32) (h : IntOp.cmpi .eq w 0#32 = 1#1) : w = 0#32 := by
  by_contra hn
  have hb : (w == 0#32) = false := by simpa using hn
  simp [IntOp.cmpi, hb] at h

/-- The precondition says that the table is zero. -/
theorem table_of_pre (h : Cert.Pre_AttnPIdeal m) : TableZero m := fun c => by
  rw [table_zero]
  funext x
  exact word_zero_of_eq _ (congrFun (h c) x)

/-- The frame: the program ends, its arguments and the counters as they were. -/
theorem framed : Cert.quiescent_AttnPIdeal := fun m ρ h =>
  (θ_run defs _ _).mono (fun _ h' => ⟨fun c => ⟨((h'.1 c).2 0).trans (table_of_pre m h c).symm,
    ((h'.1 c).1 (0 : Fin 6)).trans ((dats m ρ 0 c).arrAt_in (0 : Fin 6) rfl _),
    ((h'.1 c).1 (1 : Fin 6)).trans ((dats m ρ 0 c).arrAt_in (1 : Fin 6) rfl _),
    ((h'.1 c).1 (2 : Fin 6)).trans ((dats m ρ 0 c).arrAt_in (2 : Fin 6) rfl _),
    ((h'.1 c).1 (3 : Fin 6)).trans ((dats m ρ 0 c).arrAt_in (3 : Fin 6) rfl _),
    ((h'.1 c).1 (4 : Fin 6)).trans ((dats m ρ 0 c).arrAt_in (4 : Fin 6) rfl _)⟩, h'.2⟩) (run m ρ (table_of_pre m h))

end Cert.AttnPIdeal.Hand

end
-- ==== Proof.lean ====
/- The proof of the certificate: the frames of every program, and the kernels' ideal programs equal to their references. The calls are
   the sample attention, the feed-forward part, the cast of the input projection's weights, the input projection (at the prompt's rows
   and at the sample's), the mixing of the two branches and the running sums of the log forget gates (at the sample's rows). Of the prompt's attention there are the
   frames and the named constant only, with no reference. The lemmas are in the modules beside this one. -/
module

public import proofs.«01_k».proof.Defs
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.Gen.AttnS.Frame
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.Gen.AttnSIdeal.Frame
public import proofs.«01_k».proof.Proof.Gen.AttnSRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.Gen.Pre_attn_sample_finite
public import proofs.«01_k».proof.Proof.Gen.Pre_gates_below_infinity
public import proofs.«01_k».proof.Proof.Gen.AttnSIdeal.Value
public import proofs.«01_k».proof.Proof.Gen.MlpIdeal.Value
public import proofs.«01_k».proof.Proof.Gen.AttnSRefIdeal.Run
public import proofs.«01_k».proof.Proof.Gen.AttnSRefIdeal.Read
public import proofs.«01_k».proof.Proof.Gen.MlpRefIdeal.Run
public import proofs.«01_k».proof.Proof.Gen.MlpRefIdeal.Read
public import proofs.«01_k».proof.Proof.AttnSValue
public import proofs.«01_k».proof.Proof.MlpValue
public import proofs.«01_k».proof.Proof.InProjValue
public import proofs.«01_k».proof.Proof.InProjSOutputs
public import proofs.«01_k».proof.Proof.InProjSRef
public import proofs.«01_k».proof.Proof.MixRef
public import proofs.«01_k».proof.Proof.CastWValue
public import proofs.«01_k».proof.Proof.CumSValue
public import Idealize.ShloMosaic.PureOps.IdealRules
public import proofs.«01_k».proof.Proof.Gen.CastW
public import proofs.«01_k».proof.Proof.Gen.CastW.Skeleton
public import proofs.«01_k».proof.Proof.Gen.CastW.Launch
public import proofs.«01_k».proof.Proof.Gen.CastW.Points
public import proofs.«01_k».proof.Proof.Gen.CastW.Frame
public import proofs.«01_k».proof.Proof.Gen.CastWIdeal
public import proofs.«01_k».proof.Proof.Gen.CastWIdeal.Skeleton
public import proofs.«01_k».proof.Proof.Gen.CastWIdeal.Launch
public import proofs.«01_k».proof.Proof.Gen.CastWIdeal.Points
public import proofs.«01_k».proof.Proof.Gen.CastWIdeal.Frame
public import proofs.«01_k».proof.Proof.Gen.CastWIdeal.Value
public import proofs.«01_k».proof.Proof.Gen.CastWRefIdeal
public import proofs.«01_k».proof.Proof.Gen.CastWRefIdeal.Run
public import proofs.«01_k».proof.Proof.Gen.CastWRefIdeal.Read
public import proofs.«01_k».proof.Proof.Gen.CumS
public import proofs.«01_k».proof.Proof.Gen.CumS.Frame
public import proofs.«01_k».proof.Proof.Gen.CumSIdeal
public import proofs.«01_k».proof.Proof.Gen.CumSIdeal.Frame
public import proofs.«01_k».proof.Proof.Gen.CumSIdeal.Value
public import proofs.«01_k».proof.Proof.Gen.CumSRefIdeal
public import proofs.«01_k».proof.Proof.Gen.CumSRefIdeal.Run
public import proofs.«01_k».proof.Proof.Gen.CumSRefIdeal.Read
public import proofs.«01_k».proof.Proof.AttnPFrame
public import proofs.«01_k».proof.Proof.AttnPIdealFrame
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InProjSIdeal.Value
public import proofs.«01_k».proof.Proof.Gen.InProjSRefIdeal
public import proofs.«01_k».proof.Proof.Gen.InProjSRefIdeal.Run
public import proofs.«01_k».proof.Proof.Gen.InProjSRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Adequacy
public import Idealize.ShloMosaic.Init

@[expose] public section

noncomputable section

namespace Cert.Proof

open Idealize.ShloMosaic Idealize.SL.Sem Cert.AttnS

/-- The reference of the sample streams' attention runs from any memory, and leaves its arguments as they were. -/
theorem attn_sample_reference : Cert.quiescent_AttnSRefIdeal := fun m ρ _ =>
  (θ_run _ _ _).mono
    (fun r h => ⟨fun c => (h c).2, sem_eq_zero_of_no_sems (by decide) r.2⟩)
    (Cert.AttnSRefIdeal.Value.run m ρ)

/-- The sample streams' attention: the kernel and the reference both run, with equal results. -/
theorem attn_sample : Cert.algebraic_AttnSIdeal_AttnSRefIdeal_pre_attn_sample_finite := fun m g m' g' hp hag =>
  ⟨fun c => Cert.AttnSIdeal.Hand.result m c,
    (θ_run _ _ _).mono (fun _ h c => ⟨(h c).1.trans (Cert.AttnSIdeal.Hand.output_eq m c), (h c).2⟩)
      (Cert.AttnSIdeal.Value.run_blocks m g),
    (θ_run _ _ _).mono (fun _ h c => ⟨(h c).1.trans (by
        rw [Cert.AttnSRefIdeal.Read.val_main_v44_eq, (hag c).1, (hag c).2.1, (hag c).2.2.1, (hag c).2.2.2.1,
          (hag c).2.2.2.2.1, (hag c).2.2.2.2.2]
        exact (Cert.AttnSIdeal.Hand.value_eq m c hp).symm), (h c).2⟩)
      (Cert.AttnSRefIdeal.Value.run m' g')⟩

/-- The feed-forward part: the kernel and the reference both run, with equal results. -/
theorem mlp : Cert.algebraic_MlpIdeal_MlpRefIdeal := fun m g m' g' _ hag =>
  ⟨fun c => Cert.MlpIdeal.Value.G4 m c, Cert.MlpIdeal.Value.run m g,
    (θ_run _ _ _).mono (fun _ h c => ⟨(h c).1.trans (by
        rw [Cert.MlpRefIdeal.Read.val_main_v5_eq, (hag c).1, (hag c).2.1, (hag c).2.2.1, (hag c).2.2.2]
        exact (Cert.MlpIdeal.Hand.reference_eq _ _ _ _).trans (Cert.MlpIdeal.Hand.output_eq m c).symm), (h c).2⟩)
      (Cert.MlpRefIdeal.Value.run m' g')⟩

/-- The reference of the input projection runs from any memory, and leaves its arguments as they were. -/
theorem in_proj_reference : Cert.quiescent_InProjRefIdeal := fun m ρ _ =>
  (θ_run _ _ _).mono
    (fun r h => ⟨fun c => (h c).2.2.2.2.2.2.2, sem_eq_zero_of_no_sems (by decide) r.2⟩)
    (Cert.InProjRefIdeal.Value.run m ρ)

open Cert.InProjIdeal.Hand in
/-- The input projection: the kernel and the reference both run, with the seven results equal. -/
theorem in_proj : Cert.algebraic_InProjIdeal_InProjRefIdeal := fun m g m' g' _ hag =>
  ⟨fun c i => cols (argX m c) (argG m c) (argW m c) 0 (by omega) (i 0) (i 1),
    fun c i => heads (argX m c) (argG m c) (argW m c) 1024 (by omega) (argGq m c) (i 0) (i 1) * scale,
    fun c i => heads (argX m c) (argG m c) (argW m c) 2048 (by omega) (argGk m c) (i 0) (i 1),
    fun c i => heads (argX m c) (argG m c) (argW m c) 2048 (by omega) (argGk m c) (i 0) (i 1),
    fun c i => cols (argX m c) (argG m c) (argW m c) 3072 le_rfl (i 0) (i 1),
    fun c i => cols (argX m c) (argG m c) (argW m c) 3072 le_rfl (i 0) (i 1),
    fun c i => gate (argX m c) (argG m c) (argWf m c) (argB m c) (i 0) (i 1),
    (θ_run _ _ _).mono (fun _ h c => by
      obtain ⟨h0, h1, h2, h3, h4, h5, h6, ha⟩ := h c
      exact ⟨h0.trans (output7_eq m c), h1.trans (output8_eq m c), h2.trans (output9_eq m c), h3.trans (output10_eq m c),
        h4.trans (output11_eq m c), h5.trans (output12_eq m c), h6.trans (output13_eq m c), ha⟩)
      (Cert.InProjIdeal.Value.run_blocks m g),
    (θ_run _ _ _).mono (fun _ h c => by
      obtain ⟨h0, h1, h2, h3, h4, h5, h6, ha⟩ := h c
      obtain ⟨a0, a1, a2, a3, a4, a5, a6⟩ := hag c
      refine ⟨h0.trans ?_, h1.trans ?_, h2.trans ?_, h3.trans ?_, h4.trans ?_, h5.trans ?_, h6.trans ?_, ha⟩
      · rw [Cert.InProjRefIdeal.Read.val_main_v20_eq, a0, a1, a2, a3]
        exact Cert.InProjRefIdeal.Hand.array_u _ _ _ _
      · rw [Cert.InProjRefIdeal.Read.val_main_v67_eq, a0, a1, a2, a3, a5]
        exact Cert.InProjRefIdeal.Hand.array_q _ _ _ _ _
      · rw [Cert.InProjRefIdeal.Read.val_main_v66_eq, a0, a1, a2, a3, a6]
        exact Cert.InProjRefIdeal.Hand.array_k _ _ _ _ _
      · rw [Cert.InProjRefIdeal.Read.val_main_v68_eq, a0, a1, a2, a3, a6]
        exact Cert.InProjRefIdeal.Hand.array_kb _ _ _ _ _
      · rw [Cert.InProjRefIdeal.Read.val_main_v53_eq, a0, a1, a2, a3]
        exact Cert.InProjRefIdeal.Hand.array_v _ _ _ _
      · rw [Cert.InProjRefIdeal.Read.val_main_v69_eq, a0, a1, a2, a3]
        exact Cert.InProjRefIdeal.Hand.array_vb _ _ _ _
      · rw [Cert.InProjRefIdeal.Read.val_main_v70_eq, a0, a1, a2, a3, a4]
        exact Cert.InProjRefIdeal.Hand.array_f _ _ _ _ _)
      (Cert.InProjRefIdeal.Value.run m' g')⟩

/-- The input projection's reference at the sample's rows runs to its end and leaves its arguments and the counters. -/
theorem in_proj_sample_reference : Cert.quiescent_InProjSRefIdeal := fun m ρ _ =>
  (θ_run _ _ _).mono
    (fun r h => ⟨fun c => (h c).2.2.2.2.2.2.2, sem_eq_zero_of_no_sems (by decide) r.2⟩)
    (Cert.InProjSRefIdeal.Value.run m ρ)

open Cert.InProjSIdeal.Hand in
open Cert.InProjIdeal.Hand (cols heads gate scale) in
/-- The input projection at the sample's rows: the kernel and the reference both run, with the seven results equal. -/
theorem in_proj_sample : Cert.algebraic_InProjSIdeal_InProjSRefIdeal := fun m g m' g' _ hag =>
  ⟨fun c i => cols (argX m c) (argG m c) (argW m c) 0 (by omega) (i 0) (i 1),
    fun c i => heads (argX m c) (argG m c) (argW m c) 1024 (by omega) (argGq m c) (i 0) (i 1) * scale,
    fun c i => heads (argX m c) (argG m c) (argW m c) 2048 (by omega) (argGk m c) (i 0) (i 1),
    fun c i => heads (argX m c) (argG m c) (argW m c) 2048 (by omega) (argGk m c) (i 0) (i 1),
    fun c i => cols (argX m c) (argG m c) (argW m c) 3072 le_rfl (i 0) (i 1),
    fun c i => cols (argX m c) (argG m c) (argW m c) 3072 le_rfl (i 0) (i 1),
    fun c i => gate (argX m c) (argG m c) (argWf m c) (argB m c) (i 0) (i 1),
    (θ_run _ _ _).mono (fun _ h c => by
      obtain ⟨h0, h1, h2, h3, h4, h5, h6, ha⟩ := h c
      exact ⟨h0.trans (output7_eq m c), h1.trans (output8_eq m c), h2.trans (output9_eq m c), h3.trans (output10_eq m c),
        h4.trans (output11_eq m c), h5.trans (output12_eq m c), h6.trans (output13_eq m c), ha⟩)
      (Cert.InProjSIdeal.Value.run_blocks m g),
    (θ_run _ _ _).mono (fun _ h c => by
      obtain ⟨h0, h1, h2, h3, h4, h5, h6, ha⟩ := h c
      obtain ⟨a0, a1, a2, a3, a4, a5, a6⟩ := hag c
      refine ⟨h0.trans ?_, h1.trans ?_, h2.trans ?_, h3.trans ?_, h4.trans ?_, h5.trans ?_, h6.trans ?_, ha⟩
      · rw [Cert.InProjSRefIdeal.Read.val_main_v20_eq, a0, a1, a2, a3]
        exact Cert.InProjSRefIdeal.Hand.array_u _ _ _ _
      · rw [Cert.InProjSRefIdeal.Read.val_main_v67_eq, a0, a1, a2, a3, a5]
        exact Cert.InProjSRefIdeal.Hand.array_q _ _ _ _ _
      · rw [Cert.InProjSRefIdeal.Read.val_main_v66_eq, a0, a1, a2, a3, a6]
        exact Cert.InProjSRefIdeal.Hand.array_k _ _ _ _ _
      · rw [Cert.InProjSRefIdeal.Read.val_main_v68_eq, a0, a1, a2, a3, a6]
        exact Cert.InProjSRefIdeal.Hand.array_kb _ _ _ _ _
      · rw [Cert.InProjSRefIdeal.Read.val_main_v53_eq, a0, a1, a2, a3]
        exact Cert.InProjSRefIdeal.Hand.array_v _ _ _ _
      · rw [Cert.InProjSRefIdeal.Read.val_main_v69_eq, a0, a1, a2, a3]
        exact Cert.InProjSRefIdeal.Hand.array_vb _ _ _ _
      · rw [Cert.InProjSRefIdeal.Read.val_main_v70_eq, a0, a1, a2, a3, a4]
        exact Cert.InProjSRefIdeal.Hand.array_f _ _ _ _ _)
      (Cert.InProjSRefIdeal.Value.run m' g')⟩

/-- The mixing call's reference runs to its end and leaves its arguments and the counters. -/
theorem mix_reference : Cert.quiescent_MixRefIdeal := fun m ρ _ =>
  (θ_run _ _ _).mono
    (fun r h => ⟨fun c => (h c).2.2, sem_eq_zero_of_no_sems (by decide) r.2⟩)
    (Cert.MixRefIdeal.Value.run m ρ)

open Cert.MixIdeal.Hand in
/-- The mixing call: the kernel and the reference both run, with the two results equal. -/
theorem mix : Cert.algebraic_MixIdeal_MixRefIdeal := fun m g m' g' _ hag =>
  ⟨fun c i => mixed (argX m c) (argY m c) (argA m c) (argW m c) (argGs m c) (argGa m c) (argO m c) (i 0) (i 1),
    fun c i => Cert.InProjIdeal.Hand.normRow
      (mixed (argX m c) (argY m c) (argA m c) (argW m c) (argGs m c) (argGa m c) (argO m c) (i 0))
      (fun k => argGm m c (ix2 0 k)) (i 1),
    (θ_run _ _ _).mono (fun _ h c => by
      obtain ⟨h0, h1, ha⟩ := h c
      exact ⟨h0.trans (output8_eq m c), h1.trans (output9_eq m c), ha⟩)
      (Cert.MixIdeal.Value.run_blocks m g),
    (θ_run _ _ _).mono (fun _ h c => by
      obtain ⟨h0, h1, ha⟩ := h c
      obtain ⟨a0, a1, a2, a3, a4, a5, a6, a7⟩ := hag c
      refine ⟨h0.trans ?_, h1.trans ?_, ha⟩
      · rw [Cert.MixRefIdeal.Read.val_main_v54_eq, a0, a1, a2, a3, a4, a5, a6]
        exact Cert.MixRefIdeal.Hand.array_x _ _ _ _ _ _ _
      · rw [Cert.MixRefIdeal.Read.val_main_v69_eq, a0, a1, a2, a3, a4, a5, a6, a7]
        exact Cert.MixRefIdeal.Hand.array_h _ _ _ _ _ _ _ _)
      (Cert.MixRefIdeal.Value.run m' g')⟩

/-- The reference of the weights' cast runs to its end and leaves its argument and the counters. -/
theorem cast_w_in_reference : Cert.quiescent_CastWRefIdeal := fun m ρ _ =>
  (θ_run _ _ _).mono
    (fun r h => ⟨fun c => (h c).2.2, sem_eq_zero_of_no_sems (by decide) r.2⟩)
    (Cert.CastWRefIdeal.Value.run m ρ)

open Cert.CastWIdeal.Hand in
/-- The weights' cast: the kernel and the reference both run, with the two results equal. -/
theorem cast_w_in : Cert.algebraic_CastWIdeal_CastWRefIdeal := fun m g m' g' _ hag =>
  ⟨fun c i => mainRows (argW m c) (i 0) (i 1), fun c i => gateRows (argW m c) (i 0) (i 1),
    (θ_run _ _ _).mono (fun _ h c => by
      obtain ⟨h0, h1, ha⟩ := h c
      exact ⟨h0.trans (output2_eq m c), h1.trans (output3_eq m c), ha⟩)
      (Cert.CastWIdeal.Value.run_blocks m g),
    (θ_run _ _ _).mono (fun _ h c => by
      obtain ⟨h0, h1, ha⟩ := h c
      refine ⟨h0.trans ?_, h1.trans ?_, ha⟩
      · rw [Cert.CastWRefIdeal.Read.val_main_v4_eq, hag c]
        exact Cert.CastWRefIdeal.Hand.array_main _
      · rw [Cert.CastWRefIdeal.Read.val_main_v6_eq, hag c]
        exact Cert.CastWRefIdeal.Hand.array_gate _)
      (Cert.CastWRefIdeal.Value.run m' g')⟩

/-- The reference of the running sums runs to its end and leaves its argument and the counters. -/
theorem cumsum_reference : Cert.quiescent_CumSRefIdeal := fun m ρ _ =>
  (θ_run _ _ _).mono
    (fun r h => ⟨fun c => (h c).2, sem_eq_zero_of_no_sems (by decide) r.2⟩)
    (Cert.CumSRefIdeal.Value.run m ρ)

/-- The running sums at the sample's rows: the kernel and the reference both run, with equal results. -/
theorem cumsum : Cert.algebraic_CumSIdeal_CumSRefIdeal_pre_gates_below_infinity := fun m g m' g' hp hag =>
  ⟨fun c => Cert.CumSIdeal.Hand.running (m ((c.tc : Thread Cert.CumSIdeal.nD Cert.CumSIdeal.τ).loc Cert.CumSIdeal.main_arg0)),
    (θ_run _ _ _).mono (fun _ h c => ⟨(h c).1.trans
        (Cert.CumSIdeal.Hand.array_eq _ (Cert.CumSIdeal.Hand.entries_below _ (hp c))), (h c).2⟩)
      (Cert.CumSIdeal.Value.run m g),
    (θ_run _ _ _).mono (fun _ h c => ⟨(h c).1.trans (by
        rw [Cert.CumSRefIdeal.Read.val_main_v3_eq, hag c]
        exact Cert.CumSRefIdeal.Hand.array_eq _), (h c).2⟩)
      (Cert.CumSRefIdeal.Value.run m' g')⟩

theorem claim : Cert.Claim := ⟨Cert.AttnP.Gen.facts, Cert.AttnPIdeal.Gen.facts, Cert.AttnS.Gen.facts, Cert.AttnSIdeal.Gen.facts, Cert.AttnSRefIdeal.Gen.facts, Cert.Mlp.Gen.facts, Cert.MlpIdeal.Gen.facts, Cert.MlpRefIdeal.Gen.facts,
  Cert.InProj.Gen.facts, Cert.InProjIdeal.Gen.facts, Cert.InProjRefIdeal.Gen.facts,
  Cert.InProjS.Gen.facts, Cert.InProjSIdeal.Gen.facts, Cert.InProjSRefIdeal.Gen.facts,
  Cert.Mix.Gen.facts, Cert.MixIdeal.Gen.facts, Cert.MixRefIdeal.Gen.facts,
  Cert.CastW.Gen.facts, Cert.CastWIdeal.Gen.facts, Cert.CastWRefIdeal.Gen.facts,
  Cert.CumS.Gen.facts, Cert.CumSIdeal.Gen.facts, Cert.CumSRefIdeal.Gen.facts,
  Cert.Pre_attn_prompt_from_start.Gen.facts, Cert.Pre_attn_sample_finite.Gen.facts, Cert.Pre_gates_below_infinity.Gen.facts,
  Cert.AttnP.Hand.framed, Cert.AttnPIdeal.Hand.framed,
  fun m ρ _ => Cert.AttnS.Gen.frame m ρ,
  fun m ρ _ => Cert.AttnSIdeal.Gen.frame m ρ,
  fun m ρ _ => Cert.AttnSIdeal.Gen.frame m ρ,
  fun m ρ _ => attn_sample_reference m ρ trivial,
  fun m ρ _ => attn_sample_reference m ρ trivial,
  fun m ρ _ => Cert.Mlp.Gen.frame m ρ,
  fun m ρ _ => Cert.MlpIdeal.Gen.frame m ρ,
  fun m ρ _ => (θ_run _ _ _).mono (fun r h => ⟨fun c => (h c).2, sem_eq_zero_of_no_sems (by decide) r.2⟩)
    (Cert.MlpRefIdeal.Value.run m ρ),
  fun m ρ _ => Cert.InProj.Gen.frame m ρ,
  fun m ρ _ => Cert.InProjIdeal.Gen.frame m ρ,
  fun m ρ _ => in_proj_reference m ρ trivial,
  fun m ρ _ => Cert.InProjS.Gen.frame m ρ,
  fun m ρ _ => Cert.InProjSIdeal.Gen.frame m ρ,
  fun m ρ _ => in_proj_sample_reference m ρ trivial,
  fun m ρ _ => Cert.Mix.Gen.frame m ρ,
  fun m ρ _ => Cert.MixIdeal.Gen.frame m ρ,
  fun m ρ _ => mix_reference m ρ trivial,
  fun m ρ _ => Cert.CastW.Gen.frame m ρ,
  fun m ρ _ => Cert.CastWIdeal.Gen.frame m ρ,
  fun m ρ _ => cast_w_in_reference m ρ trivial,
  fun m ρ _ => Cert.CumS.Gen.frame m ρ,
  fun m ρ _ => Cert.CumSIdeal.Gen.frame m ρ,
  fun m ρ _ => Cert.CumSIdeal.Gen.frame m ρ,
  fun m ρ _ => cumsum_reference m ρ trivial,
  fun m ρ _ => cumsum_reference m ρ trivial,
  IdealRules.named_const.statement Cert.AttnPIdeal.κ "mask" .f32 0xF149F2CA#32 ⊥ rfl,
  IdealRules.named_const.statement Cert.AttnSIdeal.κ "mask" .f32 0xF149F2CA#32 ⊥ rfl,
  attn_sample, trivial, mlp,
  IdealRules.named_const.statement Cert.InProjIdeal.κ "scale" .f32 0x3E0293EE#32 _ rfl, in_proj,
  IdealRules.named_const.statement Cert.InProjSIdeal.κ "scale" .f32 0x3E0293EE#32 _ rfl, in_proj_sample, trivial, mix, trivial, cast_w_in,
  IdealRules.named_const.statement Cert.CumSIdeal.κ "unit" .f32 0x3FB8AA3B#32 _ rfl, cumsum⟩

end Cert.Proof

end
